-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_latent [hPre_finite_latent : Cert.Pre_finite_latent.Facts] (m : (ℓ : Loc Cert.LatentIdeal.nD Cert.LatentIdeal.τ Cert.LatentIdeal.sig) → Buf (Elt Ideal) ℓ) : Prop :=
  ∀ c : Dev Cert.LatentIdeal.nD,
    (Cert.Pre_finite_latent.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3))) = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_finite_latent [hPre_finite_latent : Cert.Pre_finite_latent.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_finite_latent.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2)) (m ((c.tc : Thread Cert.LatentRefIdeal.nD Cert.LatentRefIdeal.τ).loc Cert.LatentRefIdeal.main_arg3))) = (fun _ => 1#1)

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Du (m : (ℓ : Loc Cert.Du.nD Cert.Du.τ Cert.Du.sig) → Buf (Elt Bits) ℓ) : Prop :=
  True

def Pre_DuIdeal (m : (ℓ : Loc Cert.DuIdeal.nD Cert.DuIdeal.τ Cert.DuIdeal.sig) → Buf (Elt Ideal) ℓ) : Prop :=
  True

def Pre_DuRefIdeal (m : (ℓ : Loc Cert.DuRefIdeal.nD Cert.DuRefIdeal.τ Cert.DuRefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dhm (m : (ℓ : Loc Cert.Dhm.nD Cert.Dhm.τ Cert.Dhm.sig) → Buf (Elt Bits) ℓ) : Prop :=
  True

def Pre_DhmIdeal (m : (ℓ : Loc Cert.DhmIdeal.nD Cert.DhmIdeal.τ Cert.DhmIdeal.sig) → Buf (Elt Ideal) ℓ) : Prop :=
  True

def Pre_DhmRefIdeal (m : (ℓ : Loc Cert.DhmRefIdeal.nD Cert.DhmRefIdeal.τ Cert.DhmRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_Dwbr (m : (ℓ : Loc Cert.Dwbr.nD Cert.Dwbr.τ Cert.Dwbr.sig) → Buf (Elt Bits) ℓ) : Prop :=
  True

def Pre_DwbrIdeal (m : (ℓ : Loc Cert.DwbrIdeal.nD Cert.DwbrIdeal.τ Cert.DwbrIdeal.sig) → Buf (Elt Ideal) ℓ) : Prop :=
  True

def Pre_DwbrRefIdeal (m : (ℓ : Loc Cert.DwbrRefIdeal.nD Cert.DwbrRefIdeal.τ Cert.DwbrRefIdeal.sig) → Buf (Elt Ideal) ℓ) : Prop :=
  True

def Pre_Dys (m : (ℓ : Loc Cert.Dys.nD Cert.Dys.τ Cert.Dys.sig) → Buf (Elt Bits) ℓ) : Prop :=
  True

def Pre_DysIdeal (m : (ℓ : Loc Cert.DysIdeal.nD Cert.DysIdeal.τ Cert.DysIdeal.sig) → Buf (Elt Ideal) ℓ) : Prop :=
  True

def Pre_DysRefIdeal (m : (ℓ : Loc Cert.DysRefIdeal.nD Cert.DysRefIdeal.τ Cert.DysRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Br (m : (ℓ : Loc Cert.Br.nD Cert.Br.τ Cert.Br.sig) → Buf (Elt Bits) ℓ) : Prop :=
  True

def Pre_BrIdeal (m : (ℓ : Loc Cert.BrIdeal.nD Cert.BrIdeal.τ Cert.BrIdeal.sig) → Buf (Elt Ideal) ℓ) : Prop :=
  True

def Pre_BrRefIdeal (m : (ℓ : Loc Cert.BrRefIdeal.nD Cert.BrRefIdeal.τ Cert.BrRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Dgate (m : (ℓ : Loc Cert.Dgate.nD Cert.Dgate.τ Cert.Dgate.sig) → Buf (Elt Bits) ℓ) : Prop :=
  True

def Pre_DgateIdeal (m : (ℓ : Loc Cert.DgateIdeal.nD Cert.DgateIdeal.τ Cert.DgateIdeal.sig) → Buf (Elt Ideal) ℓ) : Prop :=
  True

def Pre_DgateRefIdeal (m : (ℓ : Loc Cert.DgateRefIdeal.nD Cert.DgateRefIdeal.τ Cert.DgateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentIdeal_pre_finite_latent [hLatentIdeal : Cert.LatentIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_latent m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_LatentRefIdeal_pre_finite_latent [hLatentRefIdeal : Cert.LatentRefIdeal.Facts] [hPre_finite_latent : Cert.Pre_finite_latent.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_finite_latent m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2)
      ∧ r.2.mem ((c.tc : Thread Cert.LatentRefIdeal.nD Cert.LatentRefIdeal.τ).loc Cert.LatentRefIdeal.main_arg3) = m ((c.tc : Thread Cert.LatentRefIdeal.nD Cert.LatentRefIdeal.τ).loc Cert.LatentRefIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2))
      ∧ r.2.sem = fun _ => 0)

def quiescent_Du [hDu : Cert.Du.Facts] : Prop :=
  ∀ (m : (ℓ : Loc Cert.Du.nD Cert.Du.τ Cert.Du.sig) → Buf (Elt Bits) ℓ) (g : Dev Cert.Du.nD → PrngReg), Pre_Du m →
    θ_run (Cert.Du.defs (F := Bits)) (onTc (τ := Cert.Du.τ) (Cert.Du.main (F := Bits))) ⟨m, fun _ => 0, g⟩ (fun r => (∀ c : Dev Cert.Du.nD,
      r.2.mem ((c.tc : Thread Cert.Du.nD Cert.Du.τ).loc Cert.Du.main_arg0) = m ((c.tc : Thread Cert.Du.nD Cert.Du.τ).loc Cert.Du.main_arg0)
      ∧ r.2.mem ((c.tc : Thread Cert.Du.nD Cert.Du.τ).loc Cert.Du.main_arg1) = m ((c.tc : Thread Cert.Du.nD Cert.Du.τ).loc Cert.Du.main_arg1)
      ∧ r.2.mem ((c.tc : Thread Cert.Du.nD Cert.Du.τ).loc Cert.Du.main_arg2) = m ((c.tc : Thread Cert.Du.nD Cert.Du.τ).loc Cert.Du.main_arg2)
      ∧ r.2.mem ((c.tc : Thread Cert.Du.nD Cert.Du.τ).loc Cert.Du.main_arg3) = m ((c.tc : Thread Cert.Du.nD Cert.Du.τ).loc Cert.Du.main_arg3))
      ∧ r.2.sem = fun _ => 0)

def quiescent_DuIdeal [hDuIdeal : Cert.DuIdeal.Facts] : Prop :=
  ∀ (m : (ℓ : Loc Cert.DuIdeal.nD Cert.DuIdeal.τ Cert.DuIdeal.sig) → Buf (Elt Ideal) ℓ) (g : Dev Cert.DuIdeal.nD → PrngReg), Pre_DuIdeal m →
    θ_run (Cert.DuIdeal.defs (F := Ideal)) (onTc (τ := Cert.DuIdeal.τ) (Cert.DuIdeal.main (F := Ideal))) ⟨m, fun _ => 0, g⟩ (fun r => (∀ c : Dev Cert.DuIdeal.nD,
      r.2.mem ((c.tc : Thread Cert.DuIdeal.nD Cert.DuIdeal.τ).loc Cert.DuIdeal.main_arg0) = m ((c.tc : Thread Cert.DuIdeal.nD Cert.DuIdeal.τ).loc Cert.DuIdeal.main_arg0)
      ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
      ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
      ∧ r.2.mem ((c.tc : Thread Cert.DuIdeal.nD Cert.DuIdeal.τ).loc Cert.DuIdeal.main_arg3) = m ((c.tc : Thread Cert.DuIdeal.nD Cert.DuIdeal.τ).loc Cert.DuIdeal.main_arg3))
      ∧ r.2.sem = fun _ => 0)

def quiescent_DuRefIdeal [hDuRefIdeal : Cert.DuRefIdeal.Facts] : Prop :=
  ∀ (m : (ℓ : Loc Cert.DuRefIdeal.nD Cert.DuRefIdeal.τ Cert.DuRefIdeal.sig) → Buf (Elt Ideal) ℓ) (g : Dev Cert.DuRefIdeal.nD → PrngReg), Pre_DuRefIdeal m →
    θ_run (Cert.DuRefIdeal.defs (F := Ideal)) (onTc (τ := Cert.DuRefIdeal.τ) (Cert.DuRefIdeal.main (F := Ideal))) ⟨m, fun _ => 0, g⟩ (fun r => (∀ c : Dev Cert.DuRefIdeal.nD,
      r.2.mem ((c.tc : Thread Cert.DuRefIdeal.nD Cert.DuRefIdeal.τ).loc Cert.DuRefIdeal.main_arg0) = m ((c.tc : Thread Cert.DuRefIdeal.nD Cert.DuRefIdeal.τ).loc Cert.DuRefIdeal.main_arg0)
      ∧ r.2.mem ((c.tc : Thread Cert.DuRefIdeal.nD Cert.DuRefIdeal.τ).loc Cert.DuRefIdeal.main_arg1) = m ((c.tc : Thread Cert.DuRefIdeal.nD Cert.DuRefIdeal.τ).loc Cert.DuRefIdeal.main_arg1)
      ∧ r.2.mem ((c.tc : Thread Cert.DuRefIdeal.nD Cert.DuRefIdeal.τ).loc Cert.DuRefIdeal.main_arg2) = m ((c.tc : Thread Cert.DuRefIdeal.nD Cert.DuRefIdeal.τ).loc Cert.DuRefIdeal.main_arg2)
      ∧ r.2.mem ((c.tc : Thread Cert.DuRefIdeal.nD Cert.DuRefIdeal.τ).loc Cert.DuRefIdeal.main_arg3) = m ((c.tc : Thread Cert.DuRefIdeal.nD Cert.DuRefIdeal.τ).loc Cert.DuRefIdeal.main_arg3))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dhm [hDhm : Cert.Dhm.Facts] : Prop :=
  ∀ (m : (ℓ : Loc Cert.Dhm.nD Cert.Dhm.τ Cert.Dhm.sig) → Buf (Elt Bits) ℓ) (g : Dev Cert.Dhm.nD → PrngReg), Pre_Dhm m →
    θ_run (Cert.Dhm.defs (F := Bits)) (onTc (τ := Cert.Dhm.τ) (Cert.Dhm.main (F := Bits))) ⟨m, fun _ => 0, g⟩ (fun r => (∀ c : Dev Cert.Dhm.nD,
      r.2.mem ((c.tc : Thread Cert.Dhm.nD Cert.Dhm.τ).loc Cert.Dhm.main_arg0) = m ((c.tc : Thread Cert.Dhm.nD Cert.Dhm.τ).loc Cert.Dhm.main_arg0)
      ∧ r.2.mem ((c.tc : Thread Cert.Dhm.nD Cert.Dhm.τ).loc Cert.Dhm.main_arg1) = m ((c.tc : Thread Cert.Dhm.nD Cert.Dhm.τ).loc Cert.Dhm.main_arg1))
      ∧ r.2.sem = fun _ => 0)

def quiescent_DhmIdeal [hDhmIdeal : Cert.DhmIdeal.Facts] : Prop :=
  ∀ (m : (ℓ : Loc Cert.DhmIdeal.nD Cert.DhmIdeal.τ Cert.DhmIdeal.sig) → Buf (Elt Ideal) ℓ) (g : Dev Cert.DhmIdeal.nD → PrngReg), Pre_DhmIdeal m →
    θ_run (Cert.DhmIdeal.defs (F := Ideal)) (onTc (τ := Cert.DhmIdeal.τ) (Cert.DhmIdeal.main (F := Ideal))) ⟨m, fun _ => 0, g⟩ (fun r => (∀ c : Dev Cert.DhmIdeal.nD,
      r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
      ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1))
      ∧ r.2.sem = fun _ => 0)

def quiescent_DhmRefIdeal [hDhmRefIdeal : Cert.DhmRefIdeal.Facts] : Prop :=
  ∀ (m : (ℓ : Loc Cert.DhmRefIdeal.nD Cert.DhmRefIdeal.τ Cert.DhmRefIdeal.sig) → Buf (Elt Ideal) ℓ) (g : Dev Cert.DhmRefIdeal.nD → PrngReg), Pre_DhmRefIdeal m →
    θ_run (Cert.DhmRefIdeal.defs (F := Ideal)) (onTc (τ := Cert.DhmRefIdeal.τ) (Cert.DhmRefIdeal.main (F := Ideal))) ⟨m, fun _ => 0, g⟩ (fun r => (∀ c : Dev Cert.DhmRefIdeal.nD,
      r.2.mem ((c.tc : Thread Cert.DhmRefIdeal.nD Cert.DhmRefIdeal.τ).loc Cert.DhmRefIdeal.main_arg0) = m ((c.tc : Thread Cert.DhmRefIdeal.nD Cert.DhmRefIdeal.τ).loc Cert.DhmRefIdeal.main_arg0)
      ∧ r.2.mem ((c.tc : Thread Cert.DhmRefIdeal.nD Cert.DhmRefIdeal.τ).loc Cert.DhmRefIdeal.main_arg1) = m ((c.tc : Thread Cert.DhmRefIdeal.nD Cert.DhmRefIdeal.τ).loc Cert.DhmRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1))
      ∧ r.2.sem = fun _ => 0)

def quiescent_Dwbr [hDwbr : Cert.Dwbr.Facts] : Prop :=
  ∀ (m : (ℓ : Loc Cert.Dwbr.nD Cert.Dwbr.τ Cert.Dwbr.sig) → Buf (Elt Bits) ℓ) (g : Dev Cert.Dwbr.nD → PrngReg), Pre_Dwbr m →
    θ_run (Cert.Dwbr.defs (F := Bits)) (onTc (τ := Cert.Dwbr.τ) (Cert.Dwbr.main (F := Bits))) ⟨m, fun _ => 0, g⟩ (fun r => (∀ c : Dev Cert.Dwbr.nD,
      r.2.mem ((c.tc : Thread Cert.Dwbr.nD Cert.Dwbr.τ).loc Cert.Dwbr.main_arg0) = m ((c.tc : Thread Cert.Dwbr.nD Cert.Dwbr.τ).loc Cert.Dwbr.main_arg0)
      ∧ r.2.mem ((c.tc : Thread Cert.Dwbr.nD Cert.Dwbr.τ).loc Cert.Dwbr.main_arg1) = m ((c.tc : Thread Cert.Dwbr.nD Cert.Dwbr.τ).loc Cert.Dwbr.main_arg1))
      ∧ r.2.sem = fun _ => 0)

def quiescent_DwbrIdeal [hDwbrIdeal : Cert.DwbrIdeal.Facts] : Prop :=
  ∀ (m : (ℓ : Loc Cert.DwbrIdeal.nD Cert.DwbrIdeal.τ Cert.DwbrIdeal.sig) → Buf (Elt Ideal) ℓ) (g : Dev Cert.DwbrIdeal.nD → PrngReg), Pre_DwbrIdeal m →
    θ_run (Cert.DwbrIdeal.defs (F := Ideal)) (onTc (τ := Cert.DwbrIdeal.τ) (Cert.DwbrIdeal.main (F := Ideal))) ⟨m, fun _ => 0, g⟩ (fun r => (∀ c : Dev Cert.DwbrIdeal.nD,
      r.2.mem ((c.tc : Thread Cert.DwbrIdeal.nD Cert.DwbrIdeal.τ).loc Cert.DwbrIdeal.main_arg0) = m ((c.tc : Thread Cert.DwbrIdeal.nD Cert.DwbrIdeal.τ).loc Cert.DwbrIdeal.main_arg0)
      ∧ r.2.mem ((c.tc : Thread Cert.DwbrIdeal.nD Cert.DwbrIdeal.τ).loc Cert.DwbrIdeal.main_arg1) = m ((c.tc : Thread Cert.DwbrIdeal.nD Cert.DwbrIdeal.τ).loc Cert.DwbrIdeal.main_arg1))
      ∧ r.2.sem = fun _ => 0)

def quiescent_DwbrRefIdeal [hDwbrRefIdeal : Cert.DwbrRefIdeal.Facts] : Prop :=
  ∀ (m : (ℓ : Loc Cert.DwbrRefIdeal.nD Cert.DwbrRefIdeal.τ Cert.DwbrRefIdeal.sig) → Buf (Elt Ideal) ℓ) (g : Dev Cert.DwbrRefIdeal.nD → PrngReg), Pre_DwbrRefIdeal m →
    θ_run (Cert.DwbrRefIdeal.defs (F := Ideal)) (onTc (τ := Cert.DwbrRefIdeal.τ) (Cert.DwbrRefIdeal.main (F := Ideal))) ⟨m, fun _ => 0, g⟩ (fun r => (∀ c : Dev Cert.DwbrRefIdeal.nD,
      r.2.mem ((c.tc : Thread Cert.DwbrRefIdeal.nD Cert.DwbrRefIdeal.τ).loc Cert.DwbrRefIdeal.main_arg0) = m ((c.tc : Thread Cert.DwbrRefIdeal.nD Cert.DwbrRefIdeal.τ).loc Cert.DwbrRefIdeal.main_arg0)
      ∧ r.2.mem ((c.tc : Thread Cert.DwbrRefIdeal.nD Cert.DwbrRefIdeal.τ).loc Cert.DwbrRefIdeal.main_arg1) = m ((c.tc : Thread Cert.DwbrRefIdeal.nD Cert.DwbrRefIdeal.τ).loc Cert.DwbrRefIdeal.main_arg1))
      ∧ r.2.sem = fun _ => 0)

def quiescent_Dys [hDys : Cert.Dys.Facts] : Prop :=
  ∀ (m : (ℓ : Loc Cert.Dys.nD Cert.Dys.τ Cert.Dys.sig) → Buf (Elt Bits) ℓ) (g : Dev Cert.Dys.nD → PrngReg), Pre_Dys m →
    θ_run (Cert.Dys.defs (F := Bits)) (onTc (τ := Cert.Dys.τ) (Cert.Dys.main (F := Bits))) ⟨m, fun _ => 0, g⟩ (fun r => (∀ c : Dev Cert.Dys.nD,
      r.2.mem ((c.tc : Thread Cert.Dys.nD Cert.Dys.τ).loc Cert.Dys.main_arg0) = m ((c.tc : Thread Cert.Dys.nD Cert.Dys.τ).loc Cert.Dys.main_arg0)
      ∧ r.2.mem ((c.tc : Thread Cert.Dys.nD Cert.Dys.τ).loc Cert.Dys.main_arg1) = m ((c.tc : Thread Cert.Dys.nD Cert.Dys.τ).loc Cert.Dys.main_arg1))
      ∧ r.2.sem = fun _ => 0)

def quiescent_DysIdeal [hDysIdeal : Cert.DysIdeal.Facts] : Prop :=
  ∀ (m : (ℓ : Loc Cert.DysIdeal.nD Cert.DysIdeal.τ Cert.DysIdeal.sig) → Buf (Elt Ideal) ℓ) (g : Dev Cert.DysIdeal.nD → PrngReg), Pre_DysIdeal m →
    θ_run (Cert.DysIdeal.defs (F := Ideal)) (onTc (τ := Cert.DysIdeal.τ) (Cert.DysIdeal.main (F := Ideal))) ⟨m, fun _ => 0, g⟩ (fun r => (∀ c : Dev Cert.DysIdeal.nD,
      r.2.mem ((c.tc : Thread Cert.DysIdeal.nD Cert.DysIdeal.τ).loc Cert.DysIdeal.main_arg0) = m ((c.tc : Thread Cert.DysIdeal.nD Cert.DysIdeal.τ).loc Cert.DysIdeal.main_arg0)
      ∧ r.2.mem ((c.tc : Thread Cert.DysIdeal.nD Cert.DysIdeal.τ).loc Cert.DysIdeal.main_arg1) = m ((c.tc : Thread Cert.DysIdeal.nD Cert.DysIdeal.τ).loc Cert.DysIdeal.main_arg1))
      ∧ r.2.sem = fun _ => 0)

def quiescent_DysRefIdeal [hDysRefIdeal : Cert.DysRefIdeal.Facts] : Prop :=
  ∀ (m : (ℓ : Loc Cert.DysRefIdeal.nD Cert.DysRefIdeal.τ Cert.DysRefIdeal.sig) → Buf (Elt Ideal) ℓ) (g : Dev Cert.DysRefIdeal.nD → PrngReg), Pre_DysRefIdeal m →
    θ_run (Cert.DysRefIdeal.defs (F := Ideal)) (onTc (τ := Cert.DysRefIdeal.τ) (Cert.DysRefIdeal.main (F := Ideal))) ⟨m, fun _ => 0, g⟩ (fun r => (∀ c : Dev Cert.DysRefIdeal.nD,
      r.2.mem ((c.tc : Thread Cert.DysRefIdeal.nD Cert.DysRefIdeal.τ).loc Cert.DysRefIdeal.main_arg0) = m ((c.tc : Thread Cert.DysRefIdeal.nD Cert.DysRefIdeal.τ).loc Cert.DysRefIdeal.main_arg0)
      ∧ r.2.mem ((c.tc : Thread Cert.DysRefIdeal.nD Cert.DysRefIdeal.τ).loc Cert.DysRefIdeal.main_arg1) = m ((c.tc : Thread Cert.DysRefIdeal.nD Cert.DysRefIdeal.τ).loc Cert.DysRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Br [hBr : Cert.Br.Facts] : Prop :=
  ∀ (m : (ℓ : Loc Cert.Br.nD Cert.Br.τ Cert.Br.sig) → Buf (Elt Bits) ℓ) (g : Dev Cert.Br.nD → PrngReg), Pre_Br m →
    θ_run (Cert.Br.defs (F := Bits)) (onTc (τ := Cert.Br.τ) (Cert.Br.main (F := Bits))) ⟨m, fun _ => 0, g⟩ (fun r => (∀ c : Dev Cert.Br.nD,
      r.2.mem ((c.tc : Thread Cert.Br.nD Cert.Br.τ).loc Cert.Br.main_arg0) = m ((c.tc : Thread Cert.Br.nD Cert.Br.τ).loc Cert.Br.main_arg0)
      ∧ r.2.mem ((c.tc : Thread Cert.Br.nD Cert.Br.τ).loc Cert.Br.main_arg1) = m ((c.tc : Thread Cert.Br.nD Cert.Br.τ).loc Cert.Br.main_arg1))
      ∧ r.2.sem = fun _ => 0)

def quiescent_BrIdeal [hBrIdeal : Cert.BrIdeal.Facts] : Prop :=
  ∀ (m : (ℓ : Loc Cert.BrIdeal.nD Cert.BrIdeal.τ Cert.BrIdeal.sig) → Buf (Elt Ideal) ℓ) (g : Dev Cert.BrIdeal.nD → PrngReg), Pre_BrIdeal m →
    θ_run (Cert.BrIdeal.defs (F := Ideal)) (onTc (τ := Cert.BrIdeal.τ) (Cert.BrIdeal.main (F := Ideal))) ⟨m, fun _ => 0, g⟩ (fun r => (∀ c : Dev Cert.BrIdeal.nD,
      r.2.mem ((c.tc : Thread Cert.BrIdeal.nD Cert.BrIdeal.τ).loc Cert.BrIdeal.main_arg0) = m ((c.tc : Thread Cert.BrIdeal.nD Cert.BrIdeal.τ).loc Cert.BrIdeal.main_arg0)
      ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ r.2.sem = fun _ => 0)

def quiescent_BrRefIdeal [hBrRefIdeal : Cert.BrRefIdeal.Facts] : Prop :=
  ∀ (m : (ℓ : Loc Cert.BrRefIdeal.nD Cert.BrRefIdeal.τ Cert.BrRefIdeal.sig) → Buf (Elt Ideal) ℓ) (g : Dev Cert.BrRefIdeal.nD → PrngReg), Pre_BrRefIdeal m →
    θ_run (Cert.BrRefIdeal.defs (F := Ideal)) (onTc (τ := Cert.BrRefIdeal.τ) (Cert.BrRefIdeal.main (F := Ideal))) ⟨m, fun _ => 0, g⟩ (fun r => (∀ c : Dev Cert.BrRefIdeal.nD,
      r.2.mem ((c.tc : Thread Cert.BrRefIdeal.nD Cert.BrRefIdeal.τ).loc Cert.BrRefIdeal.main_arg0) = m ((c.tc : Thread Cert.BrRefIdeal.nD Cert.BrRefIdeal.τ).loc Cert.BrRefIdeal.main_arg0)
      ∧ r.2.mem ((c.tc : Thread Cert.BrRefIdeal.nD Cert.BrRefIdeal.τ).loc Cert.BrRefIdeal.main_arg1) = m ((c.tc : Thread Cert.BrRefIdeal.nD Cert.BrRefIdeal.τ).loc Cert.BrRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Dgate [hDgate : Cert.Dgate.Facts] : Prop :=
  ∀ (m : (ℓ : Loc Cert.Dgate.nD Cert.Dgate.τ Cert.Dgate.sig) → Buf (Elt Bits) ℓ) (g : Dev Cert.Dgate.nD → PrngReg), Pre_Dgate m →
    θ_run (Cert.Dgate.defs (F := Bits)) (onTc (τ := Cert.Dgate.τ) (Cert.Dgate.main (F := Bits))) ⟨m, fun _ => 0, g⟩ (fun r => (∀ c : Dev Cert.Dgate.nD,
      r.2.mem ((c.tc : Thread Cert.Dgate.nD Cert.Dgate.τ).loc Cert.Dgate.main_arg0) = m ((c.tc : Thread Cert.Dgate.nD Cert.Dgate.τ).loc Cert.Dgate.main_arg0)
      ∧ r.2.mem ((c.tc : Thread Cert.Dgate.nD Cert.Dgate.τ).loc Cert.Dgate.main_arg1) = m ((c.tc : Thread Cert.Dgate.nD Cert.Dgate.τ).loc Cert.Dgate.main_arg1)
      ∧ r.2.mem ((c.tc : Thread Cert.Dgate.nD Cert.Dgate.τ).loc Cert.Dgate.main_arg2) = m ((c.tc : Thread Cert.Dgate.nD Cert.Dgate.τ).loc Cert.Dgate.main_arg2)
      ∧ r.2.mem ((c.tc : Thread Cert.Dgate.nD Cert.Dgate.τ).loc Cert.Dgate.main_arg3) = m ((c.tc : Thread Cert.Dgate.nD Cert.Dgate.τ).loc Cert.Dgate.main_arg3)
      ∧ r.2.mem ((c.tc : Thread Cert.Dgate.nD Cert.Dgate.τ).loc Cert.Dgate.main_arg4) = m ((c.tc : Thread Cert.Dgate.nD Cert.Dgate.τ).loc Cert.Dgate.main_arg4))
      ∧ r.2.sem = fun _ => 0)

def quiescent_DgateIdeal [hDgateIdeal : Cert.DgateIdeal.Facts] : Prop :=
  ∀ (m : (ℓ : Loc Cert.DgateIdeal.nD Cert.DgateIdeal.τ Cert.DgateIdeal.sig) → Buf (Elt Ideal) ℓ) (g : Dev Cert.DgateIdeal.nD → PrngReg), Pre_DgateIdeal m →
    θ_run (Cert.DgateIdeal.defs (F := Ideal)) (onTc (τ := Cert.DgateIdeal.τ) (Cert.DgateIdeal.main (F := Ideal))) ⟨m, fun _ => 0, g⟩ (fun r => (∀ c : Dev Cert.DgateIdeal.nD,
      r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
      ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
      ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
      ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3)
      ∧ r.2.mem ((c.tc : Thread Cert.DgateIdeal.nD Cert.DgateIdeal.τ).loc Cert.DgateIdeal.main_arg4) = m ((c.tc : Thread Cert.DgateIdeal.nD Cert.DgateIdeal.τ).loc Cert.DgateIdeal.main_arg4))
      ∧ r.2.sem = fun _ => 0)

def quiescent_DgateRefIdeal [hDgateRefIdeal : Cert.DgateRefIdeal.Facts] : Prop :=
  ∀ (m : (ℓ : Loc Cert.DgateRefIdeal.nD Cert.DgateRefIdeal.τ Cert.DgateRefIdeal.sig) → Buf (Elt Ideal) ℓ) (g : Dev Cert.DgateRefIdeal.nD → PrngReg), Pre_DgateRefIdeal m →
    θ_run (Cert.DgateRefIdeal.defs (F := Ideal)) (onTc (τ := Cert.DgateRefIdeal.τ) (Cert.DgateRefIdeal.main (F := Ideal))) ⟨m, fun _ => 0, g⟩ (fun r => (∀ c : Dev Cert.DgateRefIdeal.nD,
      r.2.mem ((c.tc : Thread Cert.DgateRefIdeal.nD Cert.DgateRefIdeal.τ).loc Cert.DgateRefIdeal.main_arg0) = m ((c.tc : Thread Cert.DgateRefIdeal.nD Cert.DgateRefIdeal.τ).loc Cert.DgateRefIdeal.main_arg0)
      ∧ r.2.mem ((c.tc : Thread Cert.DgateRefIdeal.nD Cert.DgateRefIdeal.τ).loc Cert.DgateRefIdeal.main_arg1) = m ((c.tc : Thread Cert.DgateRefIdeal.nD Cert.DgateRefIdeal.τ).loc Cert.DgateRefIdeal.main_arg1)
      ∧ r.2.mem ((c.tc : Thread Cert.DgateRefIdeal.nD Cert.DgateRefIdeal.τ).loc Cert.DgateRefIdeal.main_arg2) = m ((c.tc : Thread Cert.DgateRefIdeal.nD Cert.DgateRefIdeal.τ).loc Cert.DgateRefIdeal.main_arg2)
      ∧ r.2.mem ((c.tc : Thread Cert.DgateRefIdeal.nD Cert.DgateRefIdeal.τ).loc Cert.DgateRefIdeal.main_arg3) = m ((c.tc : Thread Cert.DgateRefIdeal.nD Cert.DgateRefIdeal.τ).loc Cert.DgateRefIdeal.main_arg3)
      ∧ r.2.mem ((c.tc : Thread Cert.DgateRefIdeal.nD Cert.DgateRefIdeal.τ).loc Cert.DgateRefIdeal.main_arg4) = m ((c.tc : Thread Cert.DgateRefIdeal.nD Cert.DgateRefIdeal.τ).loc Cert.DgateRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)) (v4 : (c : Dev Cert.KernelIdeal.nD) → Buf (Elt Ideal) ((c.tc : Thread Cert.KernelIdeal.nD Cert.KernelIdeal.τ).loc Cert.KernelIdeal.main_v36_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_v36_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v74) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Latent_LatentIdeal : Prop :=
  IdealRules.named_const.Statement Cert.LatentIdeal.κ "mask" .f32 0xF149F2CA#32 ⊥

def algebraic_LatentIdeal_LatentRefIdeal_pre_finite_latent [hLatentIdeal : Cert.LatentIdeal.Facts] [hLatentRefIdeal : Cert.LatentRefIdeal.Facts] [hPre_finite_latent : Cert.Pre_finite_latent.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_finite_latent m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)
      ∧ m' ((c.tc : Thread Cert.LatentRefIdeal.nD Cert.LatentRefIdeal.τ).loc Cert.LatentRefIdeal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v31_0)) (v1 : (c : Dev Cert.LatentIdeal.nD) → Buf (Elt Ideal) ((c.tc : Thread Cert.LatentIdeal.nD Cert.LatentIdeal.τ).loc Cert.LatentIdeal.main_v31_1)) (v2 : (c : Dev Cert.LatentIdeal.nD) → Buf (Elt Ideal) ((c.tc : Thread Cert.LatentIdeal.nD Cert.LatentIdeal.τ).loc Cert.LatentIdeal.main_v31_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v31_0) = v0 c
          ∧ r.2.mem ((c.tc : Thread Cert.LatentIdeal.nD Cert.LatentIdeal.τ).loc Cert.LatentIdeal.main_v31_1) = v1 c
          ∧ r.2.mem ((c.tc : Thread Cert.LatentIdeal.nD Cert.LatentIdeal.τ).loc Cert.LatentIdeal.main_v31_2) = v2 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v70) = v0 c
          ∧ r.2.mem ((c.tc : Thread Cert.LatentRefIdeal.nD Cert.LatentRefIdeal.τ).loc Cert.LatentRefIdeal.main_v69) = v1 c
          ∧ r.2.mem ((c.tc : Thread Cert.LatentRefIdeal.nD Cert.LatentRefIdeal.τ).loc Cert.LatentRefIdeal.main_v53) = v2 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2)
          ∧ r.2.mem ((c.tc : Thread Cert.LatentRefIdeal.nD Cert.LatentRefIdeal.τ).loc Cert.LatentRefIdeal.main_arg3) = m' ((c.tc : Thread Cert.LatentRefIdeal.nD Cert.LatentRefIdeal.τ).loc Cert.LatentRefIdeal.main_arg3))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v6) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v4) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)) →
    ∃ (v0 : (c : Dev Cert.Dw2Ideal.nD) → Buf (Elt Ideal) ((c.tc : Thread Cert.Dw2Ideal.nD Cert.Dw2Ideal.τ).loc Cert.Dw2Ideal.main_v6)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v6) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v9) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2))

def preserves_Du_DuIdeal : Prop :=
  True

def algebraic_DuIdeal_DuRefIdeal [hDuIdeal : Cert.DuIdeal.Facts] [hDuRefIdeal : Cert.DuRefIdeal.Facts] : Prop :=
  ∀ (m : (ℓ : Loc Cert.DuIdeal.nD Cert.DuIdeal.τ Cert.DuIdeal.sig) → Buf (Elt Ideal) ℓ) (g : Dev Cert.DuIdeal.nD → PrngReg)
    (m' : (ℓ : Loc Cert.DuRefIdeal.nD Cert.DuRefIdeal.τ Cert.DuRefIdeal.sig) → Buf (Elt Ideal) ℓ) (g' : Dev Cert.DuRefIdeal.nD → PrngReg), Pre_DuIdeal m →
    (∀ c : Dev Cert.DuIdeal.nD,
      m' ((c.tc : Thread Cert.DuRefIdeal.nD Cert.DuRefIdeal.τ).loc Cert.DuRefIdeal.main_arg0) = m ((c.tc : Thread Cert.DuIdeal.nD Cert.DuIdeal.τ).loc Cert.DuIdeal.main_arg0)
      ∧ m' ((c.tc : Thread Cert.DuRefIdeal.nD Cert.DuRefIdeal.τ).loc Cert.DuRefIdeal.main_arg1) = m ((c.tc : Thread Cert.DuIdeal.nD Cert.DuIdeal.τ).loc Cert.DuIdeal.main_arg1)
      ∧ m' ((c.tc : Thread Cert.DuRefIdeal.nD Cert.DuRefIdeal.τ).loc Cert.DuRefIdeal.main_arg2) = m ((c.tc : Thread Cert.DuIdeal.nD Cert.DuIdeal.τ).loc Cert.DuIdeal.main_arg2)
      ∧ m' ((c.tc : Thread Cert.DuRefIdeal.nD Cert.DuRefIdeal.τ).loc Cert.DuRefIdeal.main_arg3) = m ((c.tc : Thread Cert.DuIdeal.nD Cert.DuIdeal.τ).loc Cert.DuIdeal.main_arg3)) →
    ∃ (v0 : (c : Dev Cert.DuIdeal.nD) → Buf (Elt Ideal) ((c.tc : Thread Cert.DuIdeal.nD Cert.DuIdeal.τ).loc Cert.DuIdeal.main_v3)),
      θ_run (Cert.DuIdeal.defs (F := Ideal)) (onTc (τ := Cert.DuIdeal.τ) (Cert.DuIdeal.main (F := Ideal))) ⟨m, fun _ => 0, g⟩ (fun r => ∀ c : Dev Cert.DuIdeal.nD,
          r.2.mem ((c.tc : Thread Cert.DuIdeal.nD Cert.DuIdeal.τ).loc Cert.DuIdeal.main_v3) = v0 c
          ∧ r.2.mem ((c.tc : Thread Cert.DuIdeal.nD Cert.DuIdeal.τ).loc Cert.DuIdeal.main_arg0) = m ((c.tc : Thread Cert.DuIdeal.nD Cert.DuIdeal.τ).loc Cert.DuIdeal.main_arg0)
          ∧ r.2.mem ((c.tc : Thread Cert.DuIdeal.nD Cert.DuIdeal.τ).loc Cert.DuIdeal.main_arg1) = m ((c.tc : Thread Cert.DuIdeal.nD Cert.DuIdeal.τ).loc Cert.DuIdeal.main_arg1)
          ∧ r.2.mem ((c.tc : Thread Cert.DuIdeal.nD Cert.DuIdeal.τ).loc Cert.DuIdeal.main_arg2) = m ((c.tc : Thread Cert.DuIdeal.nD Cert.DuIdeal.τ).loc Cert.DuIdeal.main_arg2)
          ∧ r.2.mem ((c.tc : Thread Cert.DuIdeal.nD Cert.DuIdeal.τ).loc Cert.DuIdeal.main_arg3) = m ((c.tc : Thread Cert.DuIdeal.nD Cert.DuIdeal.τ).loc Cert.DuIdeal.main_arg3))
      ∧ θ_run (Cert.DuRefIdeal.defs (F := Ideal)) (onTc (τ := Cert.DuRefIdeal.τ) (Cert.DuRefIdeal.main (F := Ideal))) ⟨m', fun _ => 0, g'⟩ (fun r => ∀ c : Dev Cert.DuRefIdeal.nD,
          r.2.mem ((c.tc : Thread Cert.DuRefIdeal.nD Cert.DuRefIdeal.τ).loc Cert.DuRefIdeal.main_v16) = v0 c
          ∧ r.2.mem ((c.tc : Thread Cert.DuRefIdeal.nD Cert.DuRefIdeal.τ).loc Cert.DuRefIdeal.main_arg0) = m' ((c.tc : Thread Cert.DuRefIdeal.nD Cert.DuRefIdeal.τ).loc Cert.DuRefIdeal.main_arg0)
          ∧ r.2.mem ((c.tc : Thread Cert.DuRefIdeal.nD Cert.DuRefIdeal.τ).loc Cert.DuRefIdeal.main_arg1) = m' ((c.tc : Thread Cert.DuRefIdeal.nD Cert.DuRefIdeal.τ).loc Cert.DuRefIdeal.main_arg1)
          ∧ r.2.mem ((c.tc : Thread Cert.DuRefIdeal.nD Cert.DuRefIdeal.τ).loc Cert.DuRefIdeal.main_arg2) = m' ((c.tc : Thread Cert.DuRefIdeal.nD Cert.DuRefIdeal.τ).loc Cert.DuRefIdeal.main_arg2)
          ∧ r.2.mem ((c.tc : Thread Cert.DuRefIdeal.nD Cert.DuRefIdeal.τ).loc Cert.DuRefIdeal.main_arg3) = m' ((c.tc : Thread Cert.DuRefIdeal.nD Cert.DuRefIdeal.τ).loc Cert.DuRefIdeal.main_arg3))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v0)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v0) = v0 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v6) = v0 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dhm_DhmIdeal : Prop :=
  True

def algebraic_DhmIdeal_DhmRefIdeal [hDhmIdeal : Cert.DhmIdeal.Facts] [hDhmRefIdeal : Cert.DhmRefIdeal.Facts] : Prop :=
  ∀ (m : (ℓ : Loc Cert.DhmIdeal.nD Cert.DhmIdeal.τ Cert.DhmIdeal.sig) → Buf (Elt Ideal) ℓ) (g : Dev Cert.DhmIdeal.nD → PrngReg)
    (m' : (ℓ : Loc Cert.DhmRefIdeal.nD Cert.DhmRefIdeal.τ Cert.DhmRefIdeal.sig) → Buf (Elt Ideal) ℓ) (g' : Dev Cert.DhmRefIdeal.nD → PrngReg), Pre_DhmIdeal m →
    (∀ c : Dev Cert.DhmIdeal.nD,
      m' ((c.tc : Thread Cert.DhmRefIdeal.nD Cert.DhmRefIdeal.τ).loc Cert.DhmRefIdeal.main_arg0) = m ((c.tc : Thread Cert.DhmIdeal.nD Cert.DhmIdeal.τ).loc Cert.DhmIdeal.main_arg0)
      ∧ m' ((c.tc : Thread Cert.DhmRefIdeal.nD Cert.DhmRefIdeal.τ).loc Cert.DhmRefIdeal.main_arg1) = m ((c.tc : Thread Cert.DhmIdeal.nD Cert.DhmIdeal.τ).loc Cert.DhmIdeal.main_arg1)) →
    ∃ (v0 : (c : Dev Cert.DhmIdeal.nD) → Buf (Elt Ideal) ((c.tc : Thread Cert.DhmIdeal.nD Cert.DhmIdeal.τ).loc Cert.DhmIdeal.main_v0)),
      θ_run (Cert.DhmIdeal.defs (F := Ideal)) (onTc (τ := Cert.DhmIdeal.τ) (Cert.DhmIdeal.main (F := Ideal))) ⟨m, fun _ => 0, g⟩ (fun r => ∀ c : Dev Cert.DhmIdeal.nD,
          r.2.mem ((c.tc : Thread Cert.DhmIdeal.nD Cert.DhmIdeal.τ).loc Cert.DhmIdeal.main_v0) = v0 c
          ∧ r.2.mem ((c.tc : Thread Cert.DhmIdeal.nD Cert.DhmIdeal.τ).loc Cert.DhmIdeal.main_arg0) = m ((c.tc : Thread Cert.DhmIdeal.nD Cert.DhmIdeal.τ).loc Cert.DhmIdeal.main_arg0)
          ∧ r.2.mem ((c.tc : Thread Cert.DhmIdeal.nD Cert.DhmIdeal.τ).loc Cert.DhmIdeal.main_arg1) = m ((c.tc : Thread Cert.DhmIdeal.nD Cert.DhmIdeal.τ).loc Cert.DhmIdeal.main_arg1))
      ∧ θ_run (Cert.DhmRefIdeal.defs (F := Ideal)) (onTc (τ := Cert.DhmRefIdeal.τ) (Cert.DhmRefIdeal.main (F := Ideal))) ⟨m', fun _ => 0, g'⟩ (fun r => ∀ c : Dev Cert.DhmRefIdeal.nD,
          r.2.mem ((c.tc : Thread Cert.DhmRefIdeal.nD Cert.DhmRefIdeal.τ).loc Cert.DhmRefIdeal.main_v4) = v0 c
          ∧ r.2.mem ((c.tc : Thread Cert.DhmRefIdeal.nD Cert.DhmRefIdeal.τ).loc Cert.DhmRefIdeal.main_arg0) = m' ((c.tc : Thread Cert.DhmRefIdeal.nD Cert.DhmRefIdeal.τ).loc Cert.DhmRefIdeal.main_arg0)
          ∧ r.2.mem ((c.tc : Thread Cert.DhmRefIdeal.nD Cert.DhmRefIdeal.τ).loc Cert.DhmRefIdeal.main_arg1) = m' ((c.tc : Thread Cert.DhmRefIdeal.nD Cert.DhmRefIdeal.τ).loc Cert.DhmRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v5) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v0)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v3) = v0 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1))

def preserves_Dwbr_DwbrIdeal : Prop :=
  True

def algebraic_DwbrIdeal_DwbrRefIdeal [hDwbrIdeal : Cert.DwbrIdeal.Facts] [hDwbrRefIdeal : Cert.DwbrRefIdeal.Facts] : Prop :=
  ∀ (m : (ℓ : Loc Cert.DwbrIdeal.nD Cert.DwbrIdeal.τ Cert.DwbrIdeal.sig) → Buf (Elt Ideal) ℓ) (g : Dev Cert.DwbrIdeal.nD → PrngReg)
    (m' : (ℓ : Loc Cert.DwbrRefIdeal.nD Cert.DwbrRefIdeal.τ Cert.DwbrRefIdeal.sig) → Buf (Elt Ideal) ℓ) (g' : Dev Cert.DwbrRefIdeal.nD → PrngReg), Pre_DwbrIdeal m →
    (∀ c : Dev Cert.DwbrIdeal.nD,
      m' ((c.tc : Thread Cert.DwbrRefIdeal.nD Cert.DwbrRefIdeal.τ).loc Cert.DwbrRefIdeal.main_arg0) = m ((c.tc : Thread Cert.DwbrIdeal.nD Cert.DwbrIdeal.τ).loc Cert.DwbrIdeal.main_arg0)
      ∧ m' ((c.tc : Thread Cert.DwbrRefIdeal.nD Cert.DwbrRefIdeal.τ).loc Cert.DwbrRefIdeal.main_arg1) = m ((c.tc : Thread Cert.DwbrIdeal.nD Cert.DwbrIdeal.τ).loc Cert.DwbrIdeal.main_arg1)) →
    ∃ (v0 : (c : Dev Cert.DwbrIdeal.nD) → Buf (Elt Ideal) ((c.tc : Thread Cert.DwbrIdeal.nD Cert.DwbrIdeal.τ).loc Cert.DwbrIdeal.main_v0)),
      θ_run (Cert.DwbrIdeal.defs (F := Ideal)) (onTc (τ := Cert.DwbrIdeal.τ) (Cert.DwbrIdeal.main (F := Ideal))) ⟨m, fun _ => 0, g⟩ (fun r => ∀ c : Dev Cert.DwbrIdeal.nD,
          r.2.mem ((c.tc : Thread Cert.DwbrIdeal.nD Cert.DwbrIdeal.τ).loc Cert.DwbrIdeal.main_v0) = v0 c
          ∧ r.2.mem ((c.tc : Thread Cert.DwbrIdeal.nD Cert.DwbrIdeal.τ).loc Cert.DwbrIdeal.main_arg0) = m ((c.tc : Thread Cert.DwbrIdeal.nD Cert.DwbrIdeal.τ).loc Cert.DwbrIdeal.main_arg0)
          ∧ r.2.mem ((c.tc : Thread Cert.DwbrIdeal.nD Cert.DwbrIdeal.τ).loc Cert.DwbrIdeal.main_arg1) = m ((c.tc : Thread Cert.DwbrIdeal.nD Cert.DwbrIdeal.τ).loc Cert.DwbrIdeal.main_arg1))
      ∧ θ_run (Cert.DwbrRefIdeal.defs (F := Ideal)) (onTc (τ := Cert.DwbrRefIdeal.τ) (Cert.DwbrRefIdeal.main (F := Ideal))) ⟨m', fun _ => 0, g'⟩ (fun r => ∀ c : Dev Cert.DwbrRefIdeal.nD,
          r.2.mem ((c.tc : Thread Cert.DwbrRefIdeal.nD Cert.DwbrRefIdeal.τ).loc Cert.DwbrRefIdeal.main_v6) = v0 c
          ∧ r.2.mem ((c.tc : Thread Cert.DwbrRefIdeal.nD Cert.DwbrRefIdeal.τ).loc Cert.DwbrRefIdeal.main_arg0) = m' ((c.tc : Thread Cert.DwbrRefIdeal.nD Cert.DwbrRefIdeal.τ).loc Cert.DwbrRefIdeal.main_arg0)
          ∧ r.2.mem ((c.tc : Thread Cert.DwbrRefIdeal.nD Cert.DwbrRefIdeal.τ).loc Cert.DwbrRefIdeal.main_arg1) = m' ((c.tc : Thread Cert.DwbrRefIdeal.nD Cert.DwbrRefIdeal.τ).loc Cert.DwbrRefIdeal.main_arg1))

def preserves_Dys_DysIdeal : Prop :=
  True

def algebraic_DysIdeal_DysRefIdeal [hDysIdeal : Cert.DysIdeal.Facts] [hDysRefIdeal : Cert.DysRefIdeal.Facts] : Prop :=
  ∀ (m : (ℓ : Loc Cert.DysIdeal.nD Cert.DysIdeal.τ Cert.DysIdeal.sig) → Buf (Elt Ideal) ℓ) (g : Dev Cert.DysIdeal.nD → PrngReg)
    (m' : (ℓ : Loc Cert.DysRefIdeal.nD Cert.DysRefIdeal.τ Cert.DysRefIdeal.sig) → Buf (Elt Ideal) ℓ) (g' : Dev Cert.DysRefIdeal.nD → PrngReg), Pre_DysIdeal m →
    (∀ c : Dev Cert.DysIdeal.nD,
      m' ((c.tc : Thread Cert.DysRefIdeal.nD Cert.DysRefIdeal.τ).loc Cert.DysRefIdeal.main_arg0) = m ((c.tc : Thread Cert.DysIdeal.nD Cert.DysIdeal.τ).loc Cert.DysIdeal.main_arg0)
      ∧ m' ((c.tc : Thread Cert.DysRefIdeal.nD Cert.DysRefIdeal.τ).loc Cert.DysRefIdeal.main_arg1) = m ((c.tc : Thread Cert.DysIdeal.nD Cert.DysIdeal.τ).loc Cert.DysIdeal.main_arg1)) →
    ∃ (v0 : (c : Dev Cert.DysIdeal.nD) → Buf (Elt Ideal) ((c.tc : Thread Cert.DysIdeal.nD Cert.DysIdeal.τ).loc Cert.DysIdeal.main_v0)),
      θ_run (Cert.DysIdeal.defs (F := Ideal)) (onTc (τ := Cert.DysIdeal.τ) (Cert.DysIdeal.main (F := Ideal))) ⟨m, fun _ => 0, g⟩ (fun r => ∀ c : Dev Cert.DysIdeal.nD,
          r.2.mem ((c.tc : Thread Cert.DysIdeal.nD Cert.DysIdeal.τ).loc Cert.DysIdeal.main_v0) = v0 c
          ∧ r.2.mem ((c.tc : Thread Cert.DysIdeal.nD Cert.DysIdeal.τ).loc Cert.DysIdeal.main_arg0) = m ((c.tc : Thread Cert.DysIdeal.nD Cert.DysIdeal.τ).loc Cert.DysIdeal.main_arg0)
          ∧ r.2.mem ((c.tc : Thread Cert.DysIdeal.nD Cert.DysIdeal.τ).loc Cert.DysIdeal.main_arg1) = m ((c.tc : Thread Cert.DysIdeal.nD Cert.DysIdeal.τ).loc Cert.DysIdeal.main_arg1))
      ∧ θ_run (Cert.DysRefIdeal.defs (F := Ideal)) (onTc (τ := Cert.DysRefIdeal.τ) (Cert.DysRefIdeal.main (F := Ideal))) ⟨m', fun _ => 0, g'⟩ (fun r => ∀ c : Dev Cert.DysRefIdeal.nD,
          r.2.mem ((c.tc : Thread Cert.DysRefIdeal.nD Cert.DysRefIdeal.τ).loc Cert.DysRefIdeal.main_v5) = v0 c
          ∧ r.2.mem ((c.tc : Thread Cert.DysRefIdeal.nD Cert.DysRefIdeal.τ).loc Cert.DysRefIdeal.main_arg0) = m' ((c.tc : Thread Cert.DysRefIdeal.nD Cert.DysRefIdeal.τ).loc Cert.DysRefIdeal.main_arg0)
          ∧ r.2.mem ((c.tc : Thread Cert.DysRefIdeal.nD Cert.DysRefIdeal.τ).loc Cert.DysRefIdeal.main_arg1) = m' ((c.tc : Thread Cert.DysRefIdeal.nD Cert.DysRefIdeal.τ).loc Cert.DysRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Br_BrIdeal : Prop :=
  True

def algebraic_BrIdeal_BrRefIdeal [hBrIdeal : Cert.BrIdeal.Facts] [hBrRefIdeal : Cert.BrRefIdeal.Facts] : Prop :=
  ∀ (m : (ℓ : Loc Cert.BrIdeal.nD Cert.BrIdeal.τ Cert.BrIdeal.sig) → Buf (Elt Ideal) ℓ) (g : Dev Cert.BrIdeal.nD → PrngReg)
    (m' : (ℓ : Loc Cert.BrRefIdeal.nD Cert.BrRefIdeal.τ Cert.BrRefIdeal.sig) → Buf (Elt Ideal) ℓ) (g' : Dev Cert.BrRefIdeal.nD → PrngReg), Pre_BrIdeal m →
    (∀ c : Dev Cert.BrIdeal.nD,
      m' ((c.tc : Thread Cert.BrRefIdeal.nD Cert.BrRefIdeal.τ).loc Cert.BrRefIdeal.main_arg0) = m ((c.tc : Thread Cert.BrIdeal.nD Cert.BrIdeal.τ).loc Cert.BrIdeal.main_arg0)
      ∧ m' ((c.tc : Thread Cert.BrRefIdeal.nD Cert.BrRefIdeal.τ).loc Cert.BrRefIdeal.main_arg1) = m ((c.tc : Thread Cert.BrIdeal.nD Cert.BrIdeal.τ).loc Cert.BrIdeal.main_arg1)) →
    ∃ (v0 : (c : Dev Cert.BrIdeal.nD) → Buf (Elt Ideal) ((c.tc : Thread Cert.BrIdeal.nD Cert.BrIdeal.τ).loc Cert.BrIdeal.main_v0)),
      θ_run (Cert.BrIdeal.defs (F := Ideal)) (onTc (τ := Cert.BrIdeal.τ) (Cert.BrIdeal.main (F := Ideal))) ⟨m, fun _ => 0, g⟩ (fun r => ∀ c : Dev Cert.BrIdeal.nD,
          r.2.mem ((c.tc : Thread Cert.BrIdeal.nD Cert.BrIdeal.τ).loc Cert.BrIdeal.main_v0) = v0 c
          ∧ r.2.mem ((c.tc : Thread Cert.BrIdeal.nD Cert.BrIdeal.τ).loc Cert.BrIdeal.main_arg0) = m ((c.tc : Thread Cert.BrIdeal.nD Cert.BrIdeal.τ).loc Cert.BrIdeal.main_arg0)
          ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ θ_run (Cert.BrRefIdeal.defs (F := Ideal)) (onTc (τ := Cert.BrRefIdeal.τ) (Cert.BrRefIdeal.main (F := Ideal))) ⟨m', fun _ => 0, g'⟩ (fun r => ∀ c : Dev Cert.BrRefIdeal.nD,
          r.2.mem ((c.tc : Thread Cert.BrRefIdeal.nD Cert.BrRefIdeal.τ).loc Cert.BrRefIdeal.main_v2) = v0 c
          ∧ r.2.mem ((c.tc : Thread Cert.BrRefIdeal.nD Cert.BrRefIdeal.τ).loc Cert.BrRefIdeal.main_arg0) = m' ((c.tc : Thread Cert.BrRefIdeal.nD Cert.BrRefIdeal.τ).loc Cert.BrRefIdeal.main_arg0)
          ∧ r.2.mem ((c.tc : Thread Cert.BrRefIdeal.nD Cert.BrRefIdeal.τ).loc Cert.BrRefIdeal.main_arg1) = m' ((c.tc : Thread Cert.BrRefIdeal.nD Cert.BrRefIdeal.τ).loc Cert.BrRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v14) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Dgate_DgateIdeal : Prop :=
  True

def algebraic_DgateIdeal_DgateRefIdeal [hDgateIdeal : Cert.DgateIdeal.Facts] [hDgateRefIdeal : Cert.DgateRefIdeal.Facts] : Prop :=
  ∀ (m : (ℓ : Loc Cert.DgateIdeal.nD Cert.DgateIdeal.τ Cert.DgateIdeal.sig) → Buf (Elt Ideal) ℓ) (g : Dev Cert.DgateIdeal.nD → PrngReg)
    (m' : (ℓ : Loc Cert.DgateRefIdeal.nD Cert.DgateRefIdeal.τ Cert.DgateRefIdeal.sig) → Buf (Elt Ideal) ℓ) (g' : Dev Cert.DgateRefIdeal.nD → PrngReg), Pre_DgateIdeal m →
    (∀ c : Dev Cert.DgateIdeal.nD,
      m' ((c.tc : Thread Cert.DgateRefIdeal.nD Cert.DgateRefIdeal.τ).loc Cert.DgateRefIdeal.main_arg0) = m ((c.tc : Thread Cert.DgateIdeal.nD Cert.DgateIdeal.τ).loc Cert.DgateIdeal.main_arg0)
      ∧ m' ((c.tc : Thread Cert.DgateRefIdeal.nD Cert.DgateRefIdeal.τ).loc Cert.DgateRefIdeal.main_arg1) = m ((c.tc : Thread Cert.DgateIdeal.nD Cert.DgateIdeal.τ).loc Cert.DgateIdeal.main_arg1)
      ∧ m' ((c.tc : Thread Cert.DgateRefIdeal.nD Cert.DgateRefIdeal.τ).loc Cert.DgateRefIdeal.main_arg2) = m ((c.tc : Thread Cert.DgateIdeal.nD Cert.DgateIdeal.τ).loc Cert.DgateIdeal.main_arg2)
      ∧ m' ((c.tc : Thread Cert.DgateRefIdeal.nD Cert.DgateRefIdeal.τ).loc Cert.DgateRefIdeal.main_arg3) = m ((c.tc : Thread Cert.DgateIdeal.nD Cert.DgateIdeal.τ).loc Cert.DgateIdeal.main_arg3)
      ∧ m' ((c.tc : Thread Cert.DgateRefIdeal.nD Cert.DgateRefIdeal.τ).loc Cert.DgateRefIdeal.main_arg4) = m ((c.tc : Thread Cert.DgateIdeal.nD Cert.DgateIdeal.τ).loc Cert.DgateIdeal.main_arg4)) →
    ∃ (v0 : (c : Dev Cert.DgateIdeal.nD) → Buf (Elt Ideal) ((c.tc : Thread Cert.DgateIdeal.nD Cert.DgateIdeal.τ).loc Cert.DgateIdeal.main_v0_0)) (v1 : (c : Dev Cert.DgateIdeal.nD) → Buf (Elt Ideal) ((c.tc : Thread Cert.DgateIdeal.nD Cert.DgateIdeal.τ).loc Cert.DgateIdeal.main_v0_1)) (v2 : (c : Dev Cert.DgateIdeal.nD) → Buf (Elt Ideal) ((c.tc : Thread Cert.DgateIdeal.nD Cert.DgateIdeal.τ).loc Cert.DgateIdeal.main_v0_2)) (v3 : (c : Dev Cert.DgateIdeal.nD) → Buf (Elt Ideal) ((c.tc : Thread Cert.DgateIdeal.nD Cert.DgateIdeal.τ).loc Cert.DgateIdeal.main_v0_3)) (v4 : (c : Dev Cert.DgateIdeal.nD) → Buf (Elt Ideal) ((c.tc : Thread Cert.DgateIdeal.nD Cert.DgateIdeal.τ).loc Cert.DgateIdeal.main_v0_4)) (v5 : (c : Dev Cert.DgateIdeal.nD) → Buf (Elt Ideal) ((c.tc : Thread Cert.DgateIdeal.nD Cert.DgateIdeal.τ).loc Cert.DgateIdeal.main_v0_5)),
      θ_run (Cert.DgateIdeal.defs (F := Ideal)) (onTc (τ := Cert.DgateIdeal.τ) (Cert.DgateIdeal.main (F := Ideal))) ⟨m, fun _ => 0, g⟩ (fun r => ∀ c : Dev Cert.DgateIdeal.nD,
          r.2.mem ((c.tc : Thread Cert.DgateIdeal.nD Cert.DgateIdeal.τ).loc Cert.DgateIdeal.main_v0_0) = v0 c
          ∧ r.2.mem ((c.tc : Thread Cert.DgateIdeal.nD Cert.DgateIdeal.τ).loc Cert.DgateIdeal.main_v0_1) = v1 c
          ∧ r.2.mem ((c.tc : Thread Cert.DgateIdeal.nD Cert.DgateIdeal.τ).loc Cert.DgateIdeal.main_v0_2) = v2 c
          ∧ r.2.mem ((c.tc : Thread Cert.DgateIdeal.nD Cert.DgateIdeal.τ).loc Cert.DgateIdeal.main_v0_3) = v3 c
          ∧ r.2.mem ((c.tc : Thread Cert.DgateIdeal.nD Cert.DgateIdeal.τ).loc Cert.DgateIdeal.main_v0_4) = v4 c
          ∧ r.2.mem ((c.tc : Thread Cert.DgateIdeal.nD Cert.DgateIdeal.τ).loc Cert.DgateIdeal.main_v0_5) = v5 c
          ∧ r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
          ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
          ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
          ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3)
          ∧ r.2.mem ((c.tc : Thread Cert.DgateIdeal.nD Cert.DgateIdeal.τ).loc Cert.DgateIdeal.main_arg4) = m ((c.tc : Thread Cert.DgateIdeal.nD Cert.DgateIdeal.τ).loc Cert.DgateIdeal.main_arg4))
      ∧ θ_run (Cert.DgateRefIdeal.defs (F := Ideal)) (onTc (τ := Cert.DgateRefIdeal.τ) (Cert.DgateRefIdeal.main (F := Ideal))) ⟨m', fun _ => 0, g'⟩ (fun r => ∀ c : Dev Cert.DgateRefIdeal.nD,
          r.2.mem ((c.tc : Thread Cert.DgateRefIdeal.nD Cert.DgateRefIdeal.τ).loc Cert.DgateRefIdeal.main_v31) = v0 c
          ∧ r.2.mem ((c.tc : Thread Cert.DgateRefIdeal.nD Cert.DgateRefIdeal.τ).loc Cert.DgateRefIdeal.main_v32) = v1 c
          ∧ r.2.mem ((c.tc : Thread Cert.DgateRefIdeal.nD Cert.DgateRefIdeal.τ).loc Cert.DgateRefIdeal.main_v33) = v2 c
          ∧ r.2.mem ((c.tc : Thread Cert.DgateRefIdeal.nD Cert.DgateRefIdeal.τ).loc Cert.DgateRefIdeal.main_v34) = v3 c
          ∧ r.2.mem ((c.tc : Thread Cert.DgateRefIdeal.nD Cert.DgateRefIdeal.τ).loc Cert.DgateRefIdeal.main_v35) = v4 c
          ∧ r.2.mem ((c.tc : Thread Cert.DgateRefIdeal.nD Cert.DgateRefIdeal.τ).loc Cert.DgateRefIdeal.main_v36) = v5 c
          ∧ r.2.mem ((c.tc : Thread Cert.DgateRefIdeal.nD Cert.DgateRefIdeal.τ).loc Cert.DgateRefIdeal.main_arg0) = m' ((c.tc : Thread Cert.DgateRefIdeal.nD Cert.DgateRefIdeal.τ).loc Cert.DgateRefIdeal.main_arg0)
          ∧ r.2.mem ((c.tc : Thread Cert.DgateRefIdeal.nD Cert.DgateRefIdeal.τ).loc Cert.DgateRefIdeal.main_arg1) = m' ((c.tc : Thread Cert.DgateRefIdeal.nD Cert.DgateRefIdeal.τ).loc Cert.DgateRefIdeal.main_arg1)
          ∧ r.2.mem ((c.tc : Thread Cert.DgateRefIdeal.nD Cert.DgateRefIdeal.τ).loc Cert.DgateRefIdeal.main_arg2) = m' ((c.tc : Thread Cert.DgateRefIdeal.nD Cert.DgateRefIdeal.τ).loc Cert.DgateRefIdeal.main_arg2)
          ∧ r.2.mem ((c.tc : Thread Cert.DgateRefIdeal.nD Cert.DgateRefIdeal.τ).loc Cert.DgateRefIdeal.main_arg3) = m' ((c.tc : Thread Cert.DgateRefIdeal.nD Cert.DgateRefIdeal.τ).loc Cert.DgateRefIdeal.main_arg3)
          ∧ r.2.mem ((c.tc : Thread Cert.DgateRefIdeal.nD Cert.DgateRefIdeal.τ).loc Cert.DgateRefIdeal.main_arg4) = m' ((c.tc : Thread Cert.DgateRefIdeal.nD Cert.DgateRefIdeal.τ).loc Cert.DgateRefIdeal.main_arg4))

def Claim : Prop :=
  ∃ (hKernel : Cert.Kernel.Facts) (hKernelIdeal : Cert.KernelIdeal.Facts) (hReferenceIdeal : Cert.ReferenceIdeal.Facts) (hLatent : Cert.Latent.Facts) (hLatentIdeal : Cert.LatentIdeal.Facts) (hLatentRefIdeal : Cert.LatentRefIdeal.Facts) (hDwin : Cert.Dwin.Facts) (hDwinIdeal : Cert.DwinIdeal.Facts) (hDwinRefIdeal : Cert.DwinRefIdeal.Facts) (hDh : Cert.Dh.Facts) (hDhIdeal : Cert.DhIdeal.Facts) (hDhRefIdeal : Cert.DhRefIdeal.Facts) (hDw2 : Cert.Dw2.Facts) (hDw2Ideal : Cert.Dw2Ideal.Facts) (hDw2RefIdeal : Cert.Dw2RefIdeal.Facts) (hDu : Cert.Du.Facts) (hDuIdeal : Cert.DuIdeal.Facts) (hDuRefIdeal : Cert.DuRefIdeal.Facts) (hDw1 : Cert.Dw1.Facts) (hDw1Ideal : Cert.Dw1Ideal.Facts) (hDw1RefIdeal : Cert.Dw1RefIdeal.Facts) (hDhm : Cert.Dhm.Facts) (hDhmIdeal : Cert.DhmIdeal.Facts) (hDhmRefIdeal : Cert.DhmRefIdeal.Facts) (hDwout : Cert.Dwout.Facts) (hDwoutIdeal : Cert.DwoutIdeal.Facts) (hDwoutRefIdeal : Cert.DwoutRefIdeal.Facts) (hDmerged : Cert.Dmerged.Facts) (hDmergedIdeal : Cert.DmergedIdeal.Facts) (hDmergedRefIdeal : Cert.DmergedRefIdeal.Facts) (hDwbr : Cert.Dwbr.Facts) (hDwbrIdeal : Cert.DwbrIdeal.Facts) (hDwbrRefIdeal : Cert.DwbrRefIdeal.Facts) (hDys : Cert.Dys.Facts) (hDysIdeal : Cert.DysIdeal.Facts) (hDysRefIdeal : Cert.DysRefIdeal.Facts) (hIn : Cert.In.Facts) (hInIdeal : Cert.InIdeal.Facts) (hInRefIdeal : Cert.InRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hBr : Cert.Br.Facts) (hBrIdeal : Cert.BrIdeal.Facts) (hBrRefIdeal : Cert.BrRefIdeal.Facts) (hGate : Cert.Gate.Facts) (hGateIdeal : Cert.GateIdeal.Facts) (hGateRefIdeal : Cert.GateRefIdeal.Facts) (hDgate : Cert.Dgate.Facts) (hDgateIdeal : Cert.DgateIdeal.Facts) (hDgateRefIdeal : Cert.DgateRefIdeal.Facts) (hPre_finite : Cert.Pre_finite.Facts) (hPre_finite_latent : Cert.Pre_finite_latent.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Latent (hLatent := hLatent)
    ∧ quiescent_LatentIdeal (hLatentIdeal := hLatentIdeal)
    ∧ quiescent_LatentIdeal_pre_finite_latent (hLatentIdeal := hLatentIdeal) (hPre_finite_latent := hPre_finite_latent)
    ∧ quiescent_LatentRefIdeal (hLatentRefIdeal := hLatentRefIdeal)
    ∧ quiescent_LatentRefIdeal_pre_finite_latent (hLatentRefIdeal := hLatentRefIdeal) (hPre_finite_latent := hPre_finite_latent)
    ∧ quiescent_Dwin (hDwin := hDwin)
    ∧ quiescent_DwinIdeal (hDwinIdeal := hDwinIdeal)
    ∧ quiescent_DwinRefIdeal (hDwinRefIdeal := hDwinRefIdeal)
    ∧ quiescent_Dh (hDh := hDh)
    ∧ quiescent_DhIdeal (hDhIdeal := hDhIdeal)
    ∧ quiescent_DhRefIdeal (hDhRefIdeal := hDhRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Du (hDu := hDu)
    ∧ quiescent_DuIdeal (hDuIdeal := hDuIdeal)
    ∧ quiescent_DuRefIdeal (hDuRefIdeal := hDuRefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dhm (hDhm := hDhm)
    ∧ quiescent_DhmIdeal (hDhmIdeal := hDhmIdeal)
    ∧ quiescent_DhmRefIdeal (hDhmRefIdeal := hDhmRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_Dwbr (hDwbr := hDwbr)
    ∧ quiescent_DwbrIdeal (hDwbrIdeal := hDwbrIdeal)
    ∧ quiescent_DwbrRefIdeal (hDwbrRefIdeal := hDwbrRefIdeal)
    ∧ quiescent_Dys (hDys := hDys)
    ∧ quiescent_DysIdeal (hDysIdeal := hDysIdeal)
    ∧ quiescent_DysRefIdeal (hDysRefIdeal := hDysRefIdeal)
    ∧ quiescent_In (hIn := hIn)
    ∧ quiescent_InIdeal (hInIdeal := hInIdeal)
    ∧ quiescent_InRefIdeal (hInRefIdeal := hInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_Br (hBr := hBr)
    ∧ quiescent_BrIdeal (hBrIdeal := hBrIdeal)
    ∧ quiescent_BrRefIdeal (hBrRefIdeal := hBrRefIdeal)
    ∧ quiescent_Gate (hGate := hGate)
    ∧ quiescent_GateIdeal (hGateIdeal := hGateIdeal)
    ∧ quiescent_GateRefIdeal (hGateRefIdeal := hGateRefIdeal)
    ∧ quiescent_Dgate (hDgate := hDgate)
    ∧ quiescent_DgateIdeal (hDgateIdeal := hDgateIdeal)
    ∧ quiescent_DgateRefIdeal (hDgateRefIdeal := hDgateRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Latent_LatentIdeal
    ∧ algebraic_LatentIdeal_LatentRefIdeal_pre_finite_latent (hLatentIdeal := hLatentIdeal) (hLatentRefIdeal := hLatentRefIdeal) (hPre_finite_latent := hPre_finite_latent)
    ∧ preserves_Dwin_DwinIdeal
    ∧ algebraic_DwinIdeal_DwinRefIdeal (hDwinIdeal := hDwinIdeal) (hDwinRefIdeal := hDwinRefIdeal)
    ∧ preserves_Dh_DhIdeal
    ∧ algebraic_DhIdeal_DhRefIdeal (hDhIdeal := hDhIdeal) (hDhRefIdeal := hDhRefIdeal)
    ∧ preserves_Dw2_Dw2Ideal
    ∧ algebraic_Dw2Ideal_Dw2RefIdeal (hDw2Ideal := hDw2Ideal) (hDw2RefIdeal := hDw2RefIdeal)
    ∧ preserves_Du_DuIdeal
    ∧ algebraic_DuIdeal_DuRefIdeal (hDuIdeal := hDuIdeal) (hDuRefIdeal := hDuRefIdeal)
    ∧ preserves_Dw1_Dw1Ideal
    ∧ algebraic_Dw1Ideal_Dw1RefIdeal (hDw1Ideal := hDw1Ideal) (hDw1RefIdeal := hDw1RefIdeal)
    ∧ preserves_Dhm_DhmIdeal
    ∧ algebraic_DhmIdeal_DhmRefIdeal (hDhmIdeal := hDhmIdeal) (hDhmRefIdeal := hDhmRefIdeal)
    ∧ preserves_Dwout_DwoutIdeal
    ∧ algebraic_DwoutIdeal_DwoutRefIdeal (hDwoutIdeal := hDwoutIdeal) (hDwoutRefIdeal := hDwoutRefIdeal)
    ∧ preserves_Dmerged_DmergedIdeal
    ∧ algebraic_DmergedIdeal_DmergedRefIdeal (hDmergedIdeal := hDmergedIdeal) (hDmergedRefIdeal := hDmergedRefIdeal)
    ∧ preserves_Dwbr_DwbrIdeal
    ∧ algebraic_DwbrIdeal_DwbrRefIdeal (hDwbrIdeal := hDwbrIdeal) (hDwbrRefIdeal := hDwbrRefIdeal)
    ∧ preserves_Dys_DysIdeal
    ∧ algebraic_DysIdeal_DysRefIdeal (hDysIdeal := hDysIdeal) (hDysRefIdeal := hDysRefIdeal)
    ∧ preserves_In_InIdeal
    ∧ algebraic_InIdeal_InRefIdeal (hInIdeal := hInIdeal) (hInRefIdeal := hInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_Br_BrIdeal
    ∧ algebraic_BrIdeal_BrRefIdeal (hBrIdeal := hBrIdeal) (hBrRefIdeal := hBrRefIdeal)
    ∧ preserves_Gate_GateIdeal
    ∧ algebraic_GateIdeal_GateRefIdeal (hGateIdeal := hGateIdeal) (hGateRefIdeal := hGateRefIdeal)
    ∧ preserves_Dgate_DgateIdeal
    ∧ algebraic_DgateIdeal_DgateRefIdeal (hDgateIdeal := hDgateIdeal) (hDgateRefIdeal := hDgateRefIdeal)
-- ==== Pre_finite.lean ====
abbrev S8x2048x128 : Shape := ⟨3, ![8, 2048, 128]⟩
abbrev S2048x13312 : Shape := ⟨2, ![2048, 13312]⟩
abbrev S8x2048 : Shape := ⟨2, ![8, 2048]⟩
abbrev S2048x1024 : Shape := ⟨2, ![2048, 1024]⟩
abbrev S_ : Shape := ⟨0, ![]⟩

class Facts : Prop where
  slices_S2048x13312_S2048x1024_0_3072 : S2048x13312.Slices ![0, 3072] S2048x1024
  bitsLt_bf16_f32 : FTy.bits .bf16 < FTy.bits .f32
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S2048x1024 .bf16) (main_v16 : IVec S_ 1) (main_v17 : FVec F S8x2048 .f32) : IVec S_ 1 :=
  let main_cst_4 : FVec F S_ .f32 := constant S_ .f32 0x7F800000#32
  let main_v18 : FVec F S8x2048 .f32 := broadcastInDim S8x2048 ![] bcast_S_S8x2048 main_cst_4
  let main_v19 : IVec S8x2048 1 := cmpf .olt main_v17 main_v18
  let main_c_5 : IVec S_ 1 := constantI S_ 1 1#1
  let main_v20 : IVec S_ 1 := (fun x v => Host.reduce IntOp.andi x v reducesTo_S8x2048_S_d0_1 h_S_) main_v19 main_c_5
  let main_v21 : IVec S_ 1 := andi main_v16 main_v20
  let main_v22 : FVec F S2048x1024 .f32 := (extf .f32 · bitsLt_bf16_f32) main_arg4
  let main_v23 : FVec F S2048x1024 .f32 := Host.absf main_v22
  let main_cst_6 : FVec F S_ .f32 := constant S_ .f32 0x7F800000#32
  let main_v24 : FVec F S2048x1024 .f32 := broadcastInDim S2048x1024 ![] bcast_S_S2048x1024 main_cst_6
  let main_v25 : IVec S2048x1024 1 := cmpf .olt main_v23 main_v24
  let main_c_7 : IVec S_ 1 := constantI S_ 1 1#1
  let main_v26 : IVec S_ 1 := (fun x v => Host.reduce IntOp.andi x v reducesTo_S2048x1024_S_d0_1 h_S_) main_v25 main_c_7
  let main_v27 : IVec S_ 1 := andi main_v21 main_v26
  main_v27

def fn {F : FTy → Type} [FloatOps F] (main_arg0 : FVec F S8x2048x128 .bf16) (main_arg1 : FVec F S8x2048x128 .bf16) (main_arg2 : FVec F S2048x13312 .f32) (main_arg3 : FVec F S8x2048 .f32) (main_arg4 : FVec F S2048x1024 .bf16) : IVec S_ 1 :=
  let main_v0 : FVec F S2048x1024 .f32 := (extractStridedSlice S2048x1024 ![0, 3072] · slices_S2048x13312_S2048x1024_0_3072) main_arg2
  let main_v1 : FVec F S8x2048x128 .f32 := (extf .f32 · bitsLt_bf16_f32) main_arg0
  let main_v2 : FVec F S8x2048x128 .f32 := Host.absf main_v1
  let main_cst : FVec F S_ .f32 := constant S_ .f32 0x7F800000#32
  let main_v3 : FVec F S8x2048x128 .f32 := broadcastInDim S8x2048x128 ![] bcast_S_S8x2048x128 main_cst
  let main_v4 : IVec S8x2048x128 1 := cmpf .olt main_v2 main_v3
  let main_c : IVec S_ 1 := constantI S_ 1 1#1
  let main_v5 : IVec S_ 1 := (fun x v => Host.reduce IntOp.andi x v reducesTo_S8x2048x128_S_d0_1_2 h_S_) main_v4 main_c
  let main_v6 : FVec F S8x2048x128 .f32 := (extf .f32 · bitsLt_bf16_f32) main_arg1
  let main_v7 : FVec F S8x2048x128 .f32 := Host.absf main_v6
  let main_cst_0 : FVec F S_ .f32 := constant S_ .f32 0x7F800000#32
  let main_v8 : FVec F S8x2048x128 .f32 := broadcastInDim S8x2048x128 ![] bcast_S_S8x2048x128 main_cst_0
  let main_v9 : IVec S8x2048x128 1 := cmpf .olt main_v7 main_v8
  let main_c_1 : IVec S_ 1 := constantI S_ 1 1#1
  let main_v10 : IVec S_ 1 := (fun x v => Host.reduce IntOp.andi x v reducesTo_S8x2048x128_S_d0_1_2 h_S_) main_v9 main_c_1
  let main_v11 : IVec S_ 1 := andi main_v5 main_v10
  let main_v12 : FVec F S2048x1024 .f32 := Host.absf main_v0
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v11 main_v15
  let main_v17 : FVec F S8x2048 .f32 := Host.absf main_arg3
  fn_part1 (F := F) main_arg4 main_v16 main_v17
-- ==== Pre_finite_latent.lean ====
abbrev S8x2048x256 : Shape := ⟨3, ![8, 2048, 256]⟩
abbrev S2048x2048 : Shape := ⟨2, ![2048, 2048]⟩
abbrev S2048x1024 : Shape := ⟨2, ![2048, 1024]⟩
abbrev S_ : Shape := ⟨0, ![]⟩

class Facts : Prop where
  bitsLt_bf16_f32 : FTy.bits .bf16 < FTy.bits .f32
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  slices_S2048x2048_S2048x1024_0_1024 : S2048x2048.Slices ![0, 1024] S2048x1024
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v16 : IVec S_ 1) (main_v17 : FVec F S2048x1024 .f32) : IVec S_ 1 :=
  let main_v18 : FVec F S2048x1024 .f32 := Host.absf main_v17
  let main_cst_4 : FVec F S_ .f32 := constant S_ .f32 0x7F800000#32
  let main_v19 : FVec F S2048x1024 .f32 := broadcastInDim S2048x1024 ![] bcast_S_S2048x1024 main_cst_4
  let main_v20 : IVec S2048x1024 1 := cmpf .olt main_v18 main_v19
  let main_c_5 : IVec S_ 1 := constantI S_ 1 1#1
  let main_v21 : IVec S_ 1 := (fun x v => Host.reduce IntOp.andi x v reducesTo_S2048x1024_S_d0_1 h_S_) main_v20 main_c_5
  let main_v22 : IVec S_ 1 := andi main_v16 main_v21
  main_v22

def fn {F : FTy → Type} [FloatOps F] (main_arg0 : FVec F S8x2048x256 .bf16) (main_arg1 : FVec F S8x2048x256 .bf16) (main_arg2 : FVec F S2048x2048 .f32) (main_arg3 : FVec F S2048x1024 .bf16) : IVec S_ 1 :=
  let main_v0 : FVec F S8x2048x256 .f32 := (extf .f32 · bitsLt_bf16_f32) main_arg0
  let main_v1 : FVec F S8x2048x256 .f32 := Host.absf main_v0
  let main_cst : FVec F S_ .f32 := constant S_ .f32 0x7F800000#32
  let main_v2 : FVec F S8x2048x256 .f32 := broadcastInDim S8x2048x256 ![] bcast_S_S8x2048x256 main_cst
  let main_v3 : IVec S8x2048x256 1 := cmpf .olt main_v1 main_v2
  let main_c : IVec S_ 1 := constantI S_ 1 1#1
  let main_v4 : IVec S_ 1 := (fun x v => Host.reduce IntOp.andi x v reducesTo_S8x2048x256_S_d0_1_2 h_S_) main_v3 main_c
  let main_v5 : FVec F S8x2048x256 .f32 := (extf .f32 · bitsLt_bf16_f32) main_arg1
  let main_v6 : FVec F S8x2048x256 .f32 := Host.absf main_v5
  let main_cst_0 : FVec F S_ .f32 := constant S_ .f32 0x7F800000#32
  let main_v7 : FVec F S8x2048x256 .f32 := broadcastInDim S8x2048x256 ![] bcast_S_S8x2048x256 main_cst_0
  let main_v8 : IVec S8x2048x256 1 := cmpf .olt main_v6 main_v7
  let main_c_1 : IVec S_ 1 := constantI S_ 1 1#1
  let main_v9 : IVec S_ 1 := (fun x v => Host.reduce IntOp.andi x v reducesTo_S8x2048x256_S_d0_1_2 h_S_) main_v8 main_c_1
  let main_v10 : IVec S_ 1 := andi main_v4 main_v9
  let main_v11 : FVec F S2048x1024 .f32 := (extractStridedSlice S2048x1024 ![0, 1024] · slices_S2048x2048_S2048x1024_0_1024) main_arg2
  let main_v12 : FVec F S2048x1024 .f32 := Host.absf main_v11
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_c_3 : IVec S_ 1 := constantI S_ 1 1#1
  let main_v15 : IVec S_ 1 := (fun x v => Host.reduce IntOp.andi x v reducesTo_S2048x1024_S_d0_1 h_S_) main_v14 main_c_3
  let main_v16 : IVec S_ 1 := andi main_v10 main_v15
  let main_v17 : FVec F S2048x1024 .f32 := (extf .f32 · bitsLt_bf16_f32) main_arg3
  fn_part1 (F := F) main_v16 main_v17
-- ==== Kernel.lean ====
abbrev S8x2048x128 : Shape := ⟨3, ![8, 2048, 128]⟩
abbrev S2048x13312 : Shape := ⟨2, ![2048, 13312]⟩
abbrev S8x2048 : Shape := ⟨2, ![8, 2048]⟩
abbrev S2048x1024 : Shape := ⟨2, ![2048, 1024]⟩
abbrev S8x2048x1 : Shape := ⟨3, ![8, 2048, 1]⟩
abbrev S8x1x2048 : Shape := ⟨3, ![8, 1, 2048]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x128x2048 : Shape := ⟨3, ![8, 128, 2048]⟩
abbrev S1x256x128 : Shape := ⟨3, ![1, 256, 128]⟩
abbrev S1x2048x128 : Shape := ⟨3, ![1, 2048, 128]⟩
abbrev S2048x128 : Shape := ⟨2, ![2048, 128]⟩
abbrev S256x128 : Shape := ⟨2, ![256, 128]⟩
abbrev S1x256x1 : Shape := ⟨3, ![1, 256, 1]⟩
abbrev S1x1x2048 : Shape := ⟨3, ![1, 1, 2048]⟩
abbrev S256x1 : Shape := ⟨2, ![256, 1]⟩
abbrev S256 : Shape := ⟨1, ![256]⟩
abbrev S1x512x128 : Shape := ⟨3, ![1, 512, 128]⟩
abbrev S512x128 : Shape := ⟨2, ![512, 128]⟩
abbrev S1x1x512 : Shape := ⟨3, ![1, 1, 512]⟩
abbrev S1x512 : Shape := ⟨2, ![1, 512]⟩
abbrev S256x512 : Shape := ⟨2, ![256, 512]⟩
abbrev S512 : Shape := ⟨1, ![512]⟩

abbrev nBuf : Space → Nat
  | .hbm => 53
  | .vmem => 26
  | .smem => 0
  | _ => 0

abbrev bufTy : (tb : Table) → Fin (tcTables nBuf tb) → BufTy
  | .hbm, ⟨0, _⟩ => ⟨S8x2048x128, .bf16⟩
  | .hbm, ⟨1, _⟩ => ⟨S8x2048x128, .bf16⟩
  | .hbm, ⟨2, _⟩ => ⟨S2048x13312, .f32⟩
  | .hbm, ⟨3, _⟩ => ⟨S8x2048, .f32⟩
  | .hbm, ⟨4, _⟩ => ⟨S2048x1024, .bf16⟩
  | .hbm, ⟨5, _⟩ => ⟨S8x2048x1, .f32⟩
  | .hbm, ⟨6, _⟩ => ⟨S8x1x2048, .f32⟩
  | .hbm, ⟨7, _⟩ => ⟨S2048x1024, .f32⟩
  | .hbm, ⟨8, _⟩ => ⟨S2048x8x128, .f32⟩
  | .hbm, ⟨9, _⟩ => ⟨S8x2048x128, .f32⟩
  | .hbm, ⟨10, _⟩ => ⟨S8x2048x128, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S1x2048x2048, .i1⟩
  | .hbm, ⟨26, _⟩ => ⟨S_, .f32⟩
  | .hbm, ⟨27, _⟩ => ⟨S_, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x128x2048, .f32⟩
  | .hbm, ⟨45, _⟩ => ⟨S2048x8x128, .f32⟩
  | .hbm, ⟨46, _⟩ => ⟨S2048x1024, .f32⟩
  | .hbm, ⟨47, _⟩ => ⟨S2048x1024, .bf16⟩
  | .hbm, ⟨48, _⟩ => ⟨S8x2048x128, .f32⟩
  | .hbm, ⟨49, _⟩ => ⟨S8x2048x128, .f32⟩
  | .hbm, ⟨50, _⟩ => ⟨S2048x1024, .f32⟩
  | .hbm, ⟨51, _⟩ => ⟨S8x2048x1, .f32⟩
  | .hbm, ⟨52, _⟩ => ⟨S8x1x2048, .f32⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S2048x128, .f32⟩
  | .local _ .vmem, ⟨5, _⟩ => ⟨S2048x128, .f32⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x256x1, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | .local _ .vmem, ⟨14, _⟩ => ⟨S1x1x2048, .f32⟩
  | .local _ .vmem, ⟨15, _⟩ => ⟨S1x1x2048, .f32⟩
  | .local _ .vmem, ⟨16, _⟩ => ⟨S1x256x128, .f32⟩
  | .local _ .vmem, ⟨17, _⟩ => ⟨S1x256x128, .f32⟩
  | .local _ .vmem, ⟨18, _⟩ => ⟨S1x2048x128, .f32⟩
  | .local _ .vmem, ⟨19, _⟩ => ⟨S1x2048x128, .f32⟩
  | .local _ .vmem, ⟨20, _⟩ => ⟨S2048x128, .f32⟩
  | .local _ .vmem, ⟨21, _⟩ => ⟨S2048x128, .f32⟩
  | .local _ .vmem, ⟨22, _⟩ => ⟨S1x256x1, .f32⟩
  | .local _ .vmem, ⟨23, _⟩ => ⟨S1x256x1, .f32⟩
  | .local _ .vmem, ⟨24, _⟩ => ⟨S1x1x2048, .f32⟩
  | .local _ .vmem, ⟨25, _⟩ => ⟨S1x1x2048, .f32⟩
  | _, _ => ⟨S8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev main_v36_3 : Ref sig .tc := ⟨.hbm, 51, rfl⟩
abbrev main_v36_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v20 : BitVec 32 := Scalar.addi arg1 c1_i32
  let c256_i32 : BitVec 32 := 256#32
  let v21 : BitVec 32 := Scalar.muli v20 c256_i32
  let c0_i32_20 : BitVec 32 := 0#32
  let v22 : BitVec 1 := Scalar.cmpi .sgt v21 c0_i32_20
  let v23 : BitVec 32 := Scalar.extui v22
  let c0_i32_21 : BitVec 32 := 0#32
  let v24 : BitVec 1 := Scalar.cmpi .ne v23 c0_i32_21
  v24

def k0_cond3 (i : grid0.Coords) : BitVec 1 :=
  let arg1 : BitVec 32 := BitVec.ofNat 32 (i 1).val
  let c1_i32_22 : BitVec 32 := 1#32
  let v25 : BitVec 32 := Scalar.addi arg1 c1_i32_22
  let c256_i32_23 : BitVec 32 := 256#32
  let v26 : BitVec 32 := Scalar.muli v25 c256_i32_23
  let c512_i32 : BitVec 32 := 512#32
  let v27 : BitVec 1 := Scalar.cmpi .sgt v26 c512_i32
  let v28 : BitVec 32 := Scalar.extui v27
  let c0_i32_24 : BitVec 32 := 0#32
  let v29 : BitVec 1 := Scalar.cmpi .ne v28 c0_i32_24
  v29

def k0_cond4 (i : grid0.Coords) : BitVec 1 :=
  let arg1 : BitVec 32 := BitVec.ofNat 32 (i 1).val
  let c1_i32_25 : BitVec 32 := 1#32
  let v30 : BitVec 32 := Scalar.addi arg1 c1_i32_25
  let c256_i32_26 : BitVec 32 := 256#32
  let v31 : BitVec 32 := Scalar.muli v30 c256_i32_26
  let c1024_i32 : BitVec 32 := 1024#32
  let v32 : BitVec 1 := Scalar.cmpi .sgt v31 c1024_i32
  let v33 : BitVec 32 := Scalar.extui v32
  let c0_i32_27 : BitVec 32 := 0#32
  let v34 : BitVec 1 := Scalar.cmpi .ne v33 c0_i32_27
  v34

def k0_cond5 (i : grid0.Coords) : BitVec 1 :=
  let arg1 : BitVec 32 := BitVec.ofNat 32 (i 1).val
  let c1_i32_28 : BitVec 32 := 1#32
  let v35 : BitVec 32 := Scalar.addi arg1 c1_i32_28
  let c256_i32_29 : BitVec 32 := 256#32
  let v36 : BitVec 32 := Scalar.muli v35 c256_i32_29
  let c1536_i32 : BitVec 32 := 1536#32
  let v37 : BitVec 1 := Scalar.cmpi .sgt v36 c1536_i32
  let v38 : BitVec 32 := Scalar.extui v37
  let c0_i32_30 : BitVec 32 := 0#32
  let v39 : BitVec 1 := Scalar.cmpi .ne v38 c0_i32_30
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x2048x128 : Shape := ⟨3, ![8, 2048, 128]⟩
abbrev S2048x13312 : Shape := ⟨2, ![2048, 13312]⟩
abbrev S8x2048 : Shape := ⟨2, ![8, 2048]⟩
abbrev S2048x1024 : Shape := ⟨2, ![2048, 1024]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S2048x8x128 : Shape := ⟨3, ![2048, 8, 128]⟩
abbrev S8x128x2048 : Shape := ⟨3, ![8, 128, 2048]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x128, .bf16⟩
  | .hbm, ⟨1, _⟩ => ⟨S8x2048x128, .bf16⟩
  | .hbm, ⟨2, _⟩ => ⟨S2048x13312, .f32⟩
  | .hbm, ⟨3, _⟩ => ⟨S8x2048, .f32⟩
  | .hbm, ⟨4, _⟩ => ⟨S2048x1024, .bf16⟩
  | .hbm, ⟨5, _⟩ => ⟨S2048x1024, .f32⟩
  | .hbm, ⟨6, _⟩ => ⟨S8x2048x128, .f32⟩
  | .hbm, ⟨7, _⟩ => ⟨S8x2048x128, .f32⟩
  | .hbm, ⟨8, _⟩ => ⟨S8x2048x1, .f32⟩
  | .hbm, ⟨9, _⟩ => ⟨S8x1x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x2048x2048, .i1⟩
  | .hbm, ⟨25, _⟩ => ⟨S_, .f32⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .i1⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S_, .f32⟩
  | .hbm, ⟨44, _⟩ => ⟨S8x2048, .f32⟩
  | .hbm, ⟨45, _⟩ => ⟨S8x2048, .i1⟩
  | .hbm, ⟨46, _⟩ => ⟨S_, .f32⟩
  | .hbm, ⟨47, _⟩ => ⟨S8x2048, .f32⟩
  | .hbm, ⟨48, _⟩ => ⟨S8x2048, .i1⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S8x2048, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S2048x8x128, .f32⟩
  | .hbm, ⟨71, _⟩ => ⟨S8x128x2048, .f32⟩
  | .hbm, ⟨72, _⟩ => ⟨S2048x8x128, .f32⟩
  | .hbm, ⟨73, _⟩ => ⟨S2048x1024, .f32⟩
  | .hbm, ⟨74, _⟩ => ⟨S2048x1024, .f32⟩
  | .hbm, ⟨75, _⟩ => ⟨S2048x8x128, .f32⟩
  | .hbm, ⟨76, _⟩ => ⟨S8x128x2048, .f32⟩
  | .hbm, ⟨77, _⟩ => ⟨S8x2048x2048, .f32⟩
  | .hbm, ⟨78, _⟩ => ⟨S8x128x2048, .f32⟩
  | .hbm, ⟨79, _⟩ => ⟨S2048x8x128, .f32⟩
  | .hbm, ⟨80, _⟩ => ⟨S2048x1024, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S8x2048x1, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x1x2048, .f32⟩
  | .hbm, ⟨102, _⟩ => ⟨S_, .f32⟩
  | .hbm, ⟨103, _⟩ => ⟨S8x2048, .f32⟩
  | .hbm, ⟨104, _⟩ => ⟨S8x2048x1, .f32⟩
  | .hbm, ⟨105, _⟩ => ⟨S_, .f32⟩
  | .hbm, ⟨106, _⟩ => ⟨S8x2048x2048, .f32⟩
  | .hbm, ⟨107, _⟩ => ⟨S8x2048x2048, .f32⟩
  | .hbm, ⟨108, _⟩ => ⟨S8x2048x128, .f32⟩
  | .hbm, ⟨109, _⟩ => ⟨S8x2048x128, .f32⟩
  | _, _ => ⟨S8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]

def κ : String → Option EReal := fun
  | "mask" => some ⊥
  | _ => none
-- ==== Latent.lean ====
abbrev S8x2048x256 : Shape := ⟨3, ![8, 2048, 256]⟩
abbrev S2048x2048 : Shape := ⟨2, ![2048, 2048]⟩
abbrev S2048x1024 : Shape := ⟨2, ![2048, 1024]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S8x2048 : Shape := ⟨2, ![8, 2048]⟩
abbrev S8x2048x1 : Shape := ⟨3, ![8, 2048, 1]⟩
abbrev S2048x8x128 : Shape := ⟨3, ![2048, 8, 128]⟩
abbrev S8x128x2048 : Shape := ⟨3, ![8, 128, 2048]⟩
abbrev S1x256x256 : Shape := ⟨3, ![1, 256, 256]⟩
abbrev S1x2048x256 : Shape := ⟨3, ![1, 2048, 256]⟩
abbrev S2048x128 : Shape := ⟨2, ![2048, 128]⟩
abbrev S256x128 : Shape := ⟨2, ![256, 128]⟩
abbrev S1x256x1 : Shape := ⟨3, ![1, 256, 1]⟩
abbrev S256x256 : Shape := ⟨2, ![256, 256]⟩
abbrev S256x1 : Shape := ⟨2, ![256, 1]⟩
abbrev S256 : Shape := ⟨1, ![256]⟩
abbrev S1x512x256 : Shape := ⟨3, ![1, 512, 256]⟩
abbrev S512x256 : Shape := ⟨2, ![512, 256]⟩
abbrev S256x512 : Shape := ⟨2, ![256, 512]⟩
abbrev S512x128 : Shape := ⟨2, ![512, 128]⟩

abbrev nBuf : Space → Nat
  | .hbm => 62
  | .vmem => 18
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S2048x2048, .f32⟩
  | .hbm, ⟨3, _⟩ => ⟨S2048x1024, .bf16⟩
  | .hbm, ⟨4, _⟩ => ⟨S8x2048x256, .f32⟩
  | .hbm, ⟨5, _⟩ => ⟨S8x2048x256, .f32⟩
  | .hbm, ⟨6, _⟩ => ⟨S8x2048x2048, .f32⟩
  | .hbm, ⟨7, _⟩ => ⟨S_, .f32⟩
  | .hbm, ⟨8, _⟩ => ⟨S8x2048x2048, .f32⟩
  | .hbm, ⟨9, _⟩ => ⟨S8x2048x2048, .f32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S1x2048x2048, .i1⟩
  | .hbm, ⟨35, _⟩ => ⟨S_, .f32⟩
  | .hbm, ⟨36, _⟩ => ⟨S_, .f32⟩
  | .hbm, ⟨37, _⟩ => ⟨S8x2048x2048, .i1⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x2048, .f32⟩
  | .hbm, ⟨52, _⟩ => ⟨S8x2048x2048, .f32⟩
  | .hbm, ⟨53, _⟩ => ⟨S2048x1024, .f32⟩
  | .hbm, ⟨54, _⟩ => ⟨S2048x8x128, .f32⟩
  | .hbm, ⟨55, _⟩ => ⟨S8x128x2048, .f32⟩
  | .hbm, ⟨56, _⟩ => ⟨S2048x8x128, .f32⟩
  | .hbm, ⟨57, _⟩ => ⟨S2048x1024, .f32⟩
  | .hbm, ⟨58, _⟩ => ⟨S2048x1024, .bf16⟩
  | .hbm, ⟨59, _⟩ => ⟨S8x2048x256, .f32⟩
  | .hbm, ⟨60, _⟩ => ⟨S8x2048x256, .f32⟩
  | .hbm, ⟨61, _⟩ => ⟨S2048x1024, .f32⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S2048x128, .f32⟩
  | .local _ .vmem, ⟨5, _⟩ => ⟨S2048x128, .f32⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x256x1, .f32⟩
  | .local _ .vmem, ⟨11, _⟩ => ⟨S1x256x1, .f32⟩
  | .local _ .vmem, ⟨12, _⟩ => ⟨S1x256x256, .f32⟩
  | .local _ .vmem, ⟨13, _⟩ => ⟨S1x256x256, .f32⟩
  | .local _ .vmem, ⟨14, _⟩ => ⟨S1x2048x256, .f32⟩
  | .local _ .vmem, ⟨15, _⟩ => ⟨S1x2048x256, .f32⟩
  | .local _ .vmem, ⟨16, _⟩ => ⟨S2048x128, .f32⟩
  | .local _ .vmem, ⟨17, _⟩ => ⟨S2048x128, .f32⟩
  | _, _ => ⟨S8x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31_0 : Ref sig .tc := ⟨.hbm, 59, rfl⟩
abbrev main_v31_1 : Ref sig .tc := ⟨.hbm, 60, rfl⟩
abbrev main_v31_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v18 : BitVec 32 := Scalar.addi arg1 c1_i32
  let c256_i32 : BitVec 32 := 256#32
  let v19 : BitVec 32 := Scalar.muli v18 c256_i32
  let c0_i32_16 : BitVec 32 := 0#32
  let v20 : BitVec 1 := Scalar.cmpi .sgt v19 c0_i32_16
  let v21 : BitVec 32 := Scalar.extui v20
  let c0_i32_17 : BitVec 32 := 0#32
  let v22 : BitVec 1 := Scalar.cmpi .ne v21 c0_i32_17
  v22

def k0_cond3 (i : grid0.Coords) : BitVec 1 :=
  let arg1 : BitVec 32 := BitVec.ofNat 32 (i 1).val
  let c1_i32_18 : BitVec 32 := 1#32
  let v23 : BitVec 32 := Scalar.addi arg1 c1_i32_18
  let c256_i32_19 : BitVec 32 := 256#32
  let v24 : BitVec 32 := Scalar.muli v23 c256_i32_19
  let c512_i32 : BitVec 32 := 512#32
  let v25 : BitVec 1 := Scalar.cmpi .sgt v24 c512_i32
  let v26 : BitVec 32 := Scalar.extui v25
  let c0_i32_20 : BitVec 32 := 0#32
  let v27 : BitVec 1 := Scalar.cmpi .ne v26 c0_i32_20
  v27

def k0_cond4 (i : grid0.Coords) : BitVec 1 :=
  let arg1 : BitVec 32 := BitVec.ofNat 32 (i 1).val
  let c1_i32_21 : BitVec 32 := 1#32
  let v28 : BitVec 32 := Scalar.addi arg1 c1_i32_21
  let c256_i32_22 : BitVec 32 := 256#32
  let v29 : BitVec 32 := Scalar.muli v28 c256_i32_22
  let c1024_i32 : BitVec 32 := 1024#32
  let v30 : BitVec 1 := Scalar.cmpi .sgt v29 c1024_i32
  let v31 : BitVec 32 := Scalar.extui v30
  let c0_i32_23 : BitVec 32 := 0#32
  let v32 : BitVec 1 := Scalar.cmpi .ne v31 c0_i32_23
  v32

def k0_cond5 (i : grid0.Coords) : BitVec 1 :=
  let arg1 : BitVec 32 := BitVec.ofNat 32 (i 1).val
  let c1_i32_24 : BitVec 32 := 1#32
  let v33 : BitVec 32 := Scalar.addi arg1 c1_i32_24
  let c256_i32_25 : BitVec 32 := 256#32
  let v34 : BitVec 32 := Scalar.muli v33 c256_i32_25
  let c1536_i32 : BitVec 32 := 1536#32
  let v35 : BitVec 1 := Scalar.cmpi .sgt v34 c1536_i32
  let v36 : BitVec 32 := Scalar.extui v35
  let c0_i32_26 : BitVec 32 := 0#32
  let v37 : BitVec 1 := Scalar.cmpi .ne v36 c0_i32_26
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== LatentIdeal.lean ====
variable {F : FTy → Type} [FloatOps F] [Named F]
def κ : String → Option EReal := fun
  | "mask" => some ⊥
  | _ => none
-- ==== LatentRefIdeal.lean ====
abbrev S8x2048x256 : Shape := ⟨3, ![8, 2048, 256]⟩
abbrev S2048x2048 : Shape := ⟨2, ![2048, 2048]⟩
abbrev S2048x1024 : Shape := ⟨2, ![2048, 1024]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S1x2048x2048 : Shape := ⟨3, ![1, 2048, 2048]⟩
abbrev S8x2048 : Shape := ⟨2, ![8, 2048]⟩
abbrev S8x2048x1 : Shape := ⟨3, ![8, 2048, 1]⟩
abbrev S2048x8x128 : Shape := ⟨3, ![2048, 8, 128]⟩
abbrev S8x128x2048 : Shape := ⟨3, ![8, 128, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8x2048x256, .bf16⟩
  | .hbm, ⟨1, _⟩ => ⟨S8x2048x256, .bf16⟩
  | .hbm, ⟨2, _⟩ => ⟨S2048x2048, .f32⟩
  | .hbm, ⟨3, _⟩ => ⟨S2048x1024, .bf16⟩
  | .hbm, ⟨4, _⟩ => ⟨S8x2048x256, .f32⟩
  | .hbm, ⟨5, _⟩ => ⟨S8x2048x256, .f32⟩
  | .hbm, ⟨6, _⟩ => ⟨S2048x1024, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S2048, .i32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S1x2048x2048, .i1⟩
  | .hbm, ⟨36, _⟩ => ⟨S_, .f32⟩
  | .hbm, ⟨37, _⟩ => ⟨S_, .f32⟩
  | .hbm, ⟨38, _⟩ => ⟨S8x2048x2048, .i1⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .i1⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S8x2048, .i1⟩
  | .hbm, ⟨57, _⟩ => ⟨S_, .f32⟩
  | .hbm, ⟨58, _⟩ => ⟨S8x2048, .f32⟩
  | .hbm, ⟨59, _⟩ => ⟨S8x2048, .i1⟩
  | .hbm, ⟨60, _⟩ => ⟨S_, .f32⟩
  | .hbm, ⟨61, _⟩ => ⟨S8x2048, .f32⟩
  | .hbm, ⟨62, _⟩ => ⟨S_, .f32⟩
  | .hbm, ⟨63, _⟩ => ⟨S8x2048, .f32⟩
  | .hbm, ⟨64, _⟩ => ⟨S_, .f32⟩
  | .hbm, ⟨65, _⟩ => ⟨S8x2048, .f32⟩
  | .hbm, ⟨66, _⟩ => ⟨S8x2048, .f32⟩
  | .hbm, ⟨67, _⟩ => ⟨S8x2048, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S8x2048x2048, .f32⟩
  | .hbm, ⟨76, _⟩ => ⟨S8x2048x2048, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S2048x8x128, .f32⟩
  | .hbm, ⟨82, _⟩ => ⟨S8x128x2048, .f32⟩
  | .hbm, ⟨83, _⟩ => ⟨S2048x8x128, .f32⟩
  | .hbm, ⟨84, _⟩ => ⟨S2048x1024, .f32⟩
  | .hbm, ⟨85, _⟩ => ⟨S2048x1024, .f32⟩
  | .hbm, ⟨86, _⟩ => ⟨S2048x8x128, .f32⟩
  | .hbm, ⟨87, _⟩ => ⟨S8x128x2048, .f32⟩
  | .hbm, ⟨88, _⟩ => ⟨S8x2048x2048, .f32⟩
  | .hbm, ⟨89, _⟩ => ⟨S8x128x2048, .f32⟩
  | .hbm, ⟨90, _⟩ => ⟨S2048x8x128, .f32⟩
  | .hbm, ⟨91, _⟩ => ⟨S2048x1024, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048, .f32⟩
  | .hbm, ⟨97, _⟩ => ⟨S8x2048x1, .f32⟩
  | .hbm, ⟨98, _⟩ => ⟨S8x2048x1, .f32⟩
  | .hbm, ⟨99, _⟩ => ⟨S8x2048x2048, .f32⟩
  | .hbm, ⟨100, _⟩ => ⟨S8x2048x2048, .f32⟩
  | .hbm, ⟨101, _⟩ => ⟨S_, .f32⟩
  | .hbm, ⟨102, _⟩ => ⟨S8x2048, .f32⟩
  | .hbm, ⟨103, _⟩ => ⟨S8x2048x2048, .f32⟩
  | .hbm, ⟨104, _⟩ => ⟨S8x2048x2048, .f32⟩
  | .hbm, ⟨105, _⟩ => ⟨S8x2048x2048, .f32⟩
  | .hbm, ⟨106, _⟩ => ⟨S_, .f32⟩
  | .hbm, ⟨107, _⟩ => ⟨S8x2048x2048, .f32⟩
  | .hbm, ⟨108, _⟩ => ⟨S8x2048x2048, .f32⟩
  | .hbm, ⟨109, _⟩ => ⟨S_, .f32⟩
  | .hbm, ⟨110, _⟩ => ⟨S8x2048x2048, .f32⟩
  | .hbm, ⟨111, _⟩ => ⟨S8x2048x2048, .f32⟩
  | .hbm, ⟨112, _⟩ => ⟨S8x2048x256, .f32⟩
  | .hbm, ⟨113, _⟩ => ⟨S8x2048x256, .f32⟩
  | _, _ => ⟨S8x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_0 : Ref sig .tc := ⟨.hbm, 36, rfl⟩
abbrev main_call1_v0 : Ref sig .tc := ⟨.hbm, 37, rfl⟩
abbrev main_v14_1 : Ref sig .tc := ⟨.hbm, 38, rfl⟩
abbrev main_call1_v2 : Ref sig .tc := ⟨.hbm, 39, rfl⟩
abbrev main_v14_0 : Ref sig .tc := ⟨.hbm, 40, rfl⟩
abbrev main_call1_cst : Ref sig .tc := ⟨.hbm, 41, rfl⟩
abbrev main_v14_2 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_cst_7 : Ref sig .tc := ⟨.hbm, 62, rfl⟩
abbrev main_v28 : Ref sig .tc := ⟨.hbm, 63, rfl⟩
abbrev main_cst_8 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_9 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_10 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_11 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_12 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_call2_cst : Ref sig .tc := ⟨.hbm, 106, rfl⟩
abbrev main_call2_v0 : Ref sig .tc := ⟨.hbm, 107, rfl⟩
abbrev main_v66 : Ref sig .tc := ⟨.hbm, 108, rfl⟩
abbrev main_cst_13 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩

abbrev nD : Nat := 1
abbrev τ : Topo := Topo.v7x

variable {F : FTy → Type} [FloatOps F]

def κ : String → Option EReal := fun
  | "mask" => some ⊥
  | _ => none
-- ==== Dwin.lean ====
abbrev S2048x2048 : Shape := ⟨2, ![2048, 2048]⟩
abbrev S2048x13312 : Shape := ⟨2, ![2048, 13312]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x13312, .bf16⟩
  | .hbm, ⟨2, _⟩ => ⟨S2048x13312, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S2048x2048 : Shape := ⟨2, ![2048, 2048]⟩
abbrev S2048x13312 : Shape := ⟨2, ![2048, 13312]⟩
abbrev S_ : Shape := ⟨0, ![]⟩
abbrev S13312x2048 : Shape := ⟨2, ![13312, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x13312, .bf16⟩
  | .hbm, ⟨2, _⟩ => ⟨S_, .f32⟩
  | .hbm, ⟨3, _⟩ => ⟨S2048x13312, .f32⟩
  | .hbm, ⟨4, _⟩ => ⟨S2048x2048, .f32⟩
  | .hbm, ⟨5, _⟩ => ⟨S2048x13312, .f32⟩
  | .hbm, ⟨6, _⟩ => ⟨S2048x13312, .f32⟩
  | .hbm, ⟨7, _⟩ => ⟨S13312x2048, .f32⟩
  | .hbm, ⟨8, _⟩ => ⟨S2048x13312, .f32⟩
  | .hbm, ⟨9, _⟩ => ⟨S2048x13312, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh.lean ====
abbrev S2048x13312 : Shape := ⟨2, ![2048, 13312]⟩
abbrev S2048x2048 : Shape := ⟨2, ![2048, 2048]⟩
abbrev S1024x1664 : Shape := ⟨2, ![1024, 1664]⟩
abbrev S512x1664 : Shape := ⟨2, ![512, 1664]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x13312, .bf16⟩
  | .hbm, ⟨1, _⟩ => ⟨S2048x13312, .bf16⟩
  | .hbm, ⟨2, _⟩ => ⟨S2048x2048, .f32⟩
  | .local _ .vmem, ⟨0, _⟩ => ⟨S1024x1664, .bf16⟩
  | .local _ .vmem, ⟨1, _⟩ => ⟨S1024x1664, .bf16⟩
  | .local _ .vmem, ⟨2, _⟩ => ⟨S512x1664, .bf16⟩
  | .local _ .vmem, ⟨3, _⟩ => ⟨S512x1664, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S2048x13312 : Shape := ⟨2, ![2048, 13312]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x13312, .bf16⟩
  | .hbm, ⟨1, _⟩ => ⟨S2048x13312, .bf16⟩
  | .hbm, ⟨2, _⟩ => ⟨S_, .f32⟩
  | .hbm, ⟨3, _⟩ => ⟨S2048x2048, .f32⟩
  | .hbm, ⟨4, _⟩ => ⟨S2048x13312, .f32⟩
  | .hbm, ⟨5, _⟩ => ⟨S2048x13312, .f32⟩
  | .hbm, ⟨6, _⟩ => ⟨S2048x13312, .f32⟩
  | .hbm, ⟨7, _⟩ => ⟨S2048x2048, .f32⟩
  | _, _ => ⟨S2048x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dw2.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x8192, .bf16⟩
  | .hbm, ⟨11, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S_, .f32⟩
  | .hbm, ⟨11, _⟩ => ⟨S8192x2048, .f32⟩
  | .hbm, ⟨12, _⟩ => ⟨S2048x2048, .f32⟩
  | .hbm, ⟨13, _⟩ => ⟨S2048x8192, .f32⟩
  | .hbm, ⟨14, _⟩ => ⟨S8192x2048, .f32⟩
  | .hbm, ⟨15, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Du.lean ====
abbrev S2048x2048 : Shape := ⟨2, ![2048, 2048]⟩
abbrev S2048x8192 : Shape := ⟨2, ![2048, 8192]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8192x2048, .bf16⟩
  | .hbm, ⟨3, _⟩ => ⟨S2048x2048, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S2048x8192, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuRefIdeal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8192x2048, .bf16⟩
  | .hbm, ⟨3, _⟩ => ⟨S2048x2048, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S_, .f32⟩
  | .hbm, ⟨11, _⟩ => ⟨S2048x8192, .f32⟩
  | .hbm, ⟨12, _⟩ => ⟨S2048x8192, .i1⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S_, .f32⟩
  | .hbm, ⟨17, _⟩ => ⟨S2048x8192, .f32⟩
  | .hbm, ⟨18, _⟩ => ⟨S2048x8192, .f32⟩
  | .hbm, ⟨19, _⟩ => ⟨S8192x2048, .f32⟩
  | .hbm, ⟨20, _⟩ => ⟨S2048x2048, .f32⟩
  | .hbm, ⟨21, _⟩ => ⟨S2048x8192, .f32⟩
  | .hbm, ⟨22, _⟩ => ⟨S2048x8192, .f32⟩
  | .hbm, ⟨23, _⟩ => ⟨S_, .f32⟩
  | .hbm, ⟨24, _⟩ => ⟨S2048x8192, .f32⟩
  | .hbm, ⟨25, _⟩ => ⟨S2048x8192, .f32⟩
  | .hbm, ⟨26, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Dw1.lean ====
abbrev S2048x2048 : Shape := ⟨2, ![2048, 2048]⟩
abbrev S2048x8192 : Shape := ⟨2, ![2048, 8192]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw1RefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dhm.lean ====
abbrev S2048x8192 : Shape := ⟨2, ![2048, 8192]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhmRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwout.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dmerged.lean ====
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwbr.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwbrRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dys.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DysRefIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S_, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== In.lean ====
abbrev S2048x2048 : Shape := ⟨2, ![2048, 2048]⟩
abbrev S2048x13312 : Shape := ⟨2, ![2048, 13312]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x13312, .bf16⟩
  | .hbm, ⟨2, _⟩ => ⟨S2048x13312, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 26, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S2048x2048 : Shape := ⟨2, ![2048, 2048]⟩
abbrev S2048x13312 : Shape := ⟨2, ![2048, 13312]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x13312, .bf16⟩
  | .hbm, ⟨2, _⟩ => ⟨S2048x2048, .f32⟩
  | .hbm, ⟨3, _⟩ => ⟨S2048x13312, .f32⟩
  | .hbm, ⟨4, _⟩ => ⟨S2048x13312, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Up.lean ====
abbrev S2048x2048 : Shape := ⟨2, ![2048, 2048]⟩
abbrev S2048x8192 : Shape := ⟨2, ![2048, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .f32⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Br.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S2048x13312 : Shape := ⟨2, ![2048, 13312]⟩
abbrev S2048x2048 : Shape := ⟨2, ![2048, 2048]⟩
abbrev S256x512 : Shape := ⟨2, ![256, 512]⟩

abbrev nBuf : Space → Nat
  | .hbm => 5
  | .vmem => 14
  | .smem => 0
  | _ => 0

abbrev bufTy : (tb : Table) → Fin (tcTables nBuf tb) → BufTy
  | .hbm, ⟨0, _⟩ => ⟨S2048x13312, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | _, _ => ⟨S2048x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateRefIdeal.lean ====
abbrev S2048x13312 : Shape := ⟨2, ![2048, 13312]⟩
abbrev S2048x2048 : Shape := ⟨2, ![2048, 2048]⟩
abbrev S2048x6144 : Shape := ⟨2, ![2048, 6144]⟩
abbrev S2048x1x2048 : Shape := ⟨3, ![2048, 1, 2048]⟩
abbrev S2048x3x2048 : Shape := ⟨3, ![2048, 3, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x13312, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x6144, .f32⟩
  | .hbm, ⟨5, _⟩ => ⟨S2048x1x2048, .f32⟩
  | .hbm, ⟨6, _⟩ => ⟨S2048x1x2048, .f32⟩
  | .hbm, ⟨7, _⟩ => ⟨S2048x1x2048, .f32⟩
  | .hbm, ⟨8, _⟩ => ⟨S2048x3x2048, .f32⟩
  | .hbm, ⟨9, _⟩ => ⟨S2048x6144, .f32⟩
  | .hbm, ⟨10, _⟩ => ⟨S2048x6144, .f32⟩
  | .hbm, ⟨11, _⟩ => ⟨S_, .f32⟩
  | .hbm, ⟨12, _⟩ => ⟨S2048x6144, .f32⟩
  | .hbm, ⟨13, _⟩ => ⟨S2048x6144, .f32⟩
  | .hbm, ⟨14, _⟩ => ⟨S_, .f32⟩
  | .hbm, ⟨15, _⟩ => ⟨S2048x6144, .f32⟩
  | .hbm, ⟨16, _⟩ => ⟨S2048x6144, .f32⟩
  | .hbm, ⟨17, _⟩ => ⟨S2048x3x2048, .f32⟩
  | .hbm, ⟨18, _⟩ => ⟨S2048x3x2048, .f32⟩
  | .hbm, ⟨19, _⟩ => ⟨S_, .f32⟩
  | .hbm, ⟨20, _⟩ => ⟨S2048x2048, .f32⟩
  | .hbm, ⟨21, _⟩ => ⟨S2048x2048, .bf16⟩
  | _, _ => ⟨S2048x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Dgate.lean ====
abbrev S2048x13312 : Shape := ⟨2, ![2048, 13312]⟩
abbrev S2048x2048 : Shape := ⟨2, ![2048, 2048]⟩
abbrev S256x512 : Shape := ⟨2, ![256, 512]⟩

abbrev nBuf : Space → Nat
  | .hbm => 11
  | .vmem => 26
  | .smem => 0
  | _ => 0

abbrev bufTy : (tb : Table) → Fin (tcTables nBuf tb) → BufTy
  | .hbm, ⟨0, _⟩ => ⟨S2048x13312, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | _, _ => ⟨S2048x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== DgateRefIdeal.lean ====
abbrev S2048x13312 : Shape := ⟨2, ![2048, 13312]⟩
abbrev S2048x2048 : Shape := ⟨2, ![2048, 2048]⟩
abbrev S2048x6144 : Shape := ⟨2, ![2048, 6144]⟩
abbrev S2048x1x2048 : Shape := ⟨3, ![2048, 1, 2048]⟩
abbrev S2048x3x2048 : Shape := ⟨3, ![2048, 3, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x13312, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x6144, .f32⟩
  | .hbm, ⟨6, _⟩ => ⟨S2048x1x2048, .f32⟩
  | .hbm, ⟨7, _⟩ => ⟨S2048x1x2048, .f32⟩
  | .hbm, ⟨8, _⟩ => ⟨S2048x1x2048, .f32⟩
  | .hbm, ⟨9, _⟩ => ⟨S2048x3x2048, .f32⟩
  | .hbm, ⟨10, _⟩ => ⟨S2048x6144, .f32⟩
  | .hbm, ⟨11, _⟩ => ⟨S2048x6144, .f32⟩
  | .hbm, ⟨12, _⟩ => ⟨S_, .f32⟩
  | .hbm, ⟨13, _⟩ => ⟨S2048x6144, .f32⟩
  | .hbm, ⟨14, _⟩ => ⟨S2048x6144, .f32⟩
  | .hbm, ⟨15, _⟩ => ⟨S_, .f32⟩
  | .hbm, ⟨16, _⟩ => ⟨S2048x6144, .f32⟩
  | .hbm, ⟨17, _⟩ => ⟨S2048x6144, .f32⟩
  | .hbm, ⟨18, _⟩ => ⟨S_, .f32⟩
  | .hbm, ⟨19, _⟩ => ⟨S2048x6144, .f32⟩
  | .hbm, ⟨20, _⟩ => ⟨S2048x6144, .f32⟩
  | .hbm, ⟨21, _⟩ => ⟨S2048x6144, .f32⟩
  | .hbm, ⟨22, _⟩ => ⟨S2048x3x2048, .f32⟩
  | .hbm, ⟨23, _⟩ => ⟨S2048x3x2048, .f32⟩
  | .hbm, ⟨24, _⟩ => ⟨S_, .f32⟩
  | .hbm, ⟨25, _⟩ => ⟨S2048x2048, .f32⟩
  | .hbm, ⟨26, _⟩ => ⟨S2048x3x2048, .f32⟩
  | .hbm, ⟨27, _⟩ => ⟨S2048x3x2048, .f32⟩
  | .hbm, ⟨28, _⟩ => ⟨S2048x3x2048, .f32⟩
  | .hbm, ⟨29, _⟩ => ⟨S2048x6144, .f32⟩
  | .hbm, ⟨30, _⟩ => ⟨S2048x6144, .f32⟩
  | .hbm, ⟨31, _⟩ => ⟨S2048x1x2048, .f32⟩
  | .hbm, ⟨32, _⟩ => ⟨S2048x2048, .f32⟩
  | .hbm, ⟨33, _⟩ => ⟨S2048x1x2048, .f32⟩
  | .hbm, ⟨34, _⟩ => ⟨S2048x2048, .f32⟩
  | .hbm, ⟨35, _⟩ => ⟨S2048x1x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .bf16⟩
  | .hbm, ⟨41, _⟩ => ⟨S2048x2048, .bf16⟩
  | .hbm, ⟨42, _⟩ => ⟨S2048x2048, .bf16⟩
  | .hbm, ⟨43, _⟩ => ⟨S2048x2048, .bf16⟩
  | .hbm, ⟨44, _⟩ => ⟨S2048x2048, .bf16⟩
  | .hbm, ⟨45, _⟩ => ⟨S2048x2048, .bf16⟩
  | _, _ => ⟨S2048x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Attention.lean ====
/- The mathematics of causal attention with a bias, over the reals: scores, row weights, and the five gradients, with
   every index a natural number. The width of a query and the last key that a query sees are parameters: the forgetting
   attention sees up to its own position, the latent attention up to the end of its own chunk. Nothing here mentions a
   program. -/
module

public import Idealize.ShloMosaic.PureOps.Ideal
public import Idealize.ShloMosaic.PureOps.Ideal.Laws

@[expose] public section

noncomputable section

namespace Cert.Fox

open Idealize.ShloMosaic Finset

/-- The real inputs: queries and keys by head, position and lane; values and the output's gradient by position and
    flat lane (head times 128 plus lane); the bias by head and position; the score's scale. A query has `W` lanes, and
    query `q` sees the keys up to `last q`, its own position among them. -/
structure Attn (W : ℕ) (last : ℕ → ℕ) where
  Q : ℕ → ℕ → ℕ → ℝ
  K : ℕ → ℕ → ℕ → ℝ
  V : ℕ → ℕ → ℝ
  C : ℕ → ℕ → ℝ
  D : ℕ → ℕ → ℝ
  σ : ℝ
  own : ∀ q, q ≤ last q
  mono : Monotone last

variable {W : ℕ} {last : ℕ → ℕ} (x : Attn W last)

namespace Attn

/-- The biased score of query `q` against key `k`. -/
def s (h q k : ℕ) : ℝ := (∑ d ∈ range W, x.Q h q d * x.K h k d) * x.σ + x.C h q - x.C h k
/-- The sum of a row's exponentials over the keys it sees. -/
def z (h q : ℕ) : ℝ := ∑ k ∈ range 2048, if k ≤ last q then Real.exp (x.s h q k) else 0
/-- The row's weight on key `k`. -/
def p (h q k : ℕ) : ℝ := if k ≤ last q then Real.exp (x.s h q k) / x.z h q else 0
/-- The gradient of a weight. -/
def dp (h q k : ℕ) : ℝ := ∑ d ∈ range 128, x.D q (h * 128 + d) * x.V k (h * 128 + d)
/-- The row's output at lane `d`. -/
def o (h q d : ℕ) : ℝ := ∑ k ∈ range 2048, x.p h q k * x.V k (h * 128 + d)
/-- The row's mean gradient. -/
def del (h q : ℕ) : ℝ := ∑ k ∈ range 2048, x.p h q k * x.dp h q k
/-- The gradient of a score. -/
def ds (h q k : ℕ) : ℝ := x.p h q k * (x.dp h q k - x.del h q)

/-- The gradient of the query. -/
def dq (h q d : ℕ) : ℝ := ∑ k ∈ range 2048, x.ds h q k * x.σ * x.K h k d
/-- The gradient of the key, of the first `n` queries. -/
def dk (n h k d : ℕ) : ℝ := ∑ q ∈ range n, x.ds h q k * x.σ * x.Q h q d
/-- The gradient of the value, of the first `n` queries. -/
def dv (n h k d : ℕ) : ℝ := ∑ q ∈ range n, x.p h q k * x.D q (h * 128 + d)
/-- The gradient of the query's bias. -/
def dcq (h q : ℕ) : ℝ := ∑ k ∈ range 2048, x.ds h q k
/-- The gradient of the key's bias, of the first `n` queries. -/
def dck (n h k : ℕ) : ℝ := ∑ q ∈ range n, -x.ds h q k

/-- A row sees at least its own position, so its sum of exponentials is positive. -/
theorem z_pos {h q : ℕ} (hq : q < 2048) : 0 < x.z h q := by
  refine Finset.sum_pos' (fun k _ => ?_) ⟨q, mem_range.2 hq, ?_⟩
  · split
    · exact (Real.exp_pos _).le
    · exact le_rfl
  · rw [if_pos (x.own q)]; exact Real.exp_pos _

/-- A key that the query does not see has no weight. -/
theorem p_zero {h q k : ℕ} (hk : last q < k) : x.p h q k = 0 := if_neg (by omega)

/-- A key that the query does not see has no gradient. -/
theorem ds_zero {h q k : ℕ} (hk : last q < k) : x.ds h q k = 0 := by rw [ds, p_zero x hk, zero_mul]

/-- The mean gradient is the output's gradient against the output. -/
theorem del_eq (h q : ℕ) : ∑ d ∈ range 128, x.D q (h * 128 + d) * x.o h q d = x.del h q := by
  simp only [o, del, dp, Finset.mul_sum]
  rw [Finset.sum_comm]
  refine Finset.sum_congr rfl fun k _ => Finset.sum_congr rfl fun d _ => ?_
  ring

/-- The sum of exponentials about an offset, in terms of the plain one. -/
theorem sum_off (h q : ℕ) (M : ℝ) :
    (∑ k ∈ range 2048, if k ≤ last q then Real.exp (x.s h q k - M) else 0) = Real.exp (-M) * x.z h q := by
  rw [z, Finset.mul_sum]
  refine Finset.sum_congr rfl fun k _ => ?_
  split
  · rw [← Real.exp_add]; congr 1; ring
  · simp

/-- Subtracting the row's log-sum, taken about any offset, gives the weight. -/
theorem exp_lse {h q k : ℕ} (hq : q < 2048) (hk : k ≤ last q) (M : ℝ) :
    Real.exp (x.s h q k - (M + Real.log (∑ k ∈ range 2048, if k ≤ last q then Real.exp (x.s h q k - M) else 0))) = x.p h q k := by
  have hz := x.z_pos (h := h) hq
  rw [sum_off, Real.log_mul (Real.exp_pos _).ne' hz.ne', Real.log_exp, p, if_pos hk,
    show x.s h q k - (M + (-M + Real.log (x.z h q))) = x.s h q k - Real.log (x.z h q) by ring, Real.exp_sub, Real.exp_log hz]

/-- The weight as a quotient of exponentials about an offset. -/
theorem p_off {h q : ℕ} (hq : q < 2048) (k : ℕ) (M : ℝ) :
    (if k ≤ last q then Real.exp (x.s h q k - M) else 0) / (Real.exp (-M) * x.z h q) = x.p h q k := by
  have hz := (x.z_pos (h := h) hq).ne'
  have he := (Real.exp_pos (-M)).ne'
  unfold p
  split
  · rw [sub_eq_add_neg, Real.exp_add]; field_simp
  · simp

/-- The score's gradient as the derivative of a quotient gives it. -/
theorem ds_off {h q : ℕ} (hq : q < 2048) (k : ℕ) (M : ℝ) (L : ℝ) (hL : L = Real.exp (-M) * x.z h q)
    (e : ℕ → ℝ) (he : ∀ k, e k = if k ≤ last q then Real.exp (x.s h q k - M) else 0) :
    (x.dp h q k / L + -(∑ k ∈ range 2048, x.dp h q k * (1 / (L * L)) * e k)) * e k = x.ds h q k := by
  have hz := (x.z_pos (h := h) hq).ne'
  have hm := (Real.exp_pos (-M)).ne'
  have hL0 : L ≠ 0 := by rw [hL]; exact mul_ne_zero hm hz
  have hp : ∀ k, e k = L * x.p h q k := fun k => by
    rw [he, ← x.p_off hq k M, ← hL]; field_simp
  simp only [hp, ds, del]
  have : (∑ k ∈ range 2048, x.dp h q k * (1 / (L * L)) * (L * x.p h q k)) = (1 / L) * ∑ k ∈ range 2048, x.p h q k * x.dp h q k := by
    rw [Finset.mul_sum]; refine Finset.sum_congr rfl fun k _ => ?_; field_simp
  rw [this]; field_simp; ring

end Attn

/-! ## Extended reals that are real -/

/-- A finite sum of reals, read as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over `Fin n` of a real function of the value. -/
theorem coe_sum_fin (n : ℕ) (f : ℕ → ℝ) : ((∑ i ∈ range n, f i : ℝ) : EReal) = ∑ i : Fin n, (f i.val : EReal) := by
  rw [← Fin.sum_univ_eq_sum_range, coe_sum]

/-- The quotient of two reals, the divisor not zero. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The exponential of a real. -/
theorem exp_coe (a : ℝ) : Ideal.exp (a : EReal) = ((Real.exp a : ℝ) : EReal) := rfl

/-- The logarithm of a positive real. -/
theorem log_coe (a : ℝ) (ha : 0 < a) : Ideal.log (a : EReal) = ((Real.log a : ℝ) : EReal) := by
  show (if a ≤ 0 then (⊥ : EReal) else _) = _
  rw [if_neg (not_le.2 ha)]

/-- The exponential of a masked difference: nothing at a masked place. -/
theorem exp_mask (P : Prop) [Decidable P] (a b : ℝ) :
    Ideal.exp ((if P then (a : EReal) else ⊥) - (b : EReal)) = ((if P then Real.exp (a - b) else 0 : ℝ) : EReal) := by
  split
  · rw [← EReal.coe_sub]; rfl
  · rw [EReal.bot_sub]; rfl

/-- The greatest of a row of masked reals, one of them not masked, is a real. -/
theorem fold_max_real {ι : Type*} [DecidableEq ι] (S : Finset ι) (f : ι → EReal) (hf : ∀ i ∈ S, f i ≠ ⊤) (i₀ : ι) (h₀ : i₀ ∈ S)
    (h : f i₀ ≠ ⊥) : ∃ M : ℝ, S.fold max ⊥ f = (M : EReal) := by
  have e : S.fold max ⊥ f = S.sup f := rfl
  have hb : S.sup f ≠ ⊥ := fun hb => h (le_bot_iff.1 (hb ▸ Finset.le_sup h₀))
  have ht : S.sup f ≠ ⊤ := by
    rcases Finset.exists_mem_eq_sup S ⟨i₀, h₀⟩ f with ⟨i, hi, hs⟩
    rw [hs]; exact hf i hi
  exact ⟨(S.sup f).toReal, by rw [e, EReal.coe_toReal ht hb]⟩

/-- One row of masked scores: its greatest is a real `M`, and its exponentials about `M` are reals with the sum the
    weights are taken against. -/
theorem row_stats (h q : ℕ) (hq : q < 2048) (f : Fin 2048 → EReal)
    (hf : ∀ k : Fin 2048, f k = if k.val ≤ last q then (x.s h q k.val : EReal) else ⊥) :
    ∃ M : ℝ, fold max ⊥ f univ = (M : EReal) ∧
      (∀ k : Fin 2048, Ideal.exp (f k - (M : EReal)) = ((if k.val ≤ last q then Real.exp (x.s h q k.val - M) else 0 : ℝ) : EReal)) ∧
      ∑ k, Ideal.exp (f k - (M : EReal)) = ((Real.exp (-M) * x.z h q : ℝ) : EReal) := by
  obtain ⟨M, hM⟩ := fold_max_real univ f (fun k _ => by rw [hf]; split <;> simp) ⟨q, hq⟩ (mem_univ _)
    (by rw [hf, if_pos (x.own q)]; simp)
  have e : ∀ k : Fin 2048, Ideal.exp (f k - (M : EReal)) = ((if k.val ≤ last q then Real.exp (x.s h q k.val - M) else 0 : ℝ) : EReal) :=
    fun k => by rw [hf]; exact exp_mask _ _ _
  refine ⟨M, hM, e, ?_⟩
  rw [← x.sum_off h q M, coe_sum_fin]
  exact sum_congr rfl fun k _ => e k

/-- The data of the forgetting attention: 128 lanes, and a query sees the keys up to its own position. -/
abbrev Data := Attn 128 fun q => q

end Cert.Fox

end
-- ==== Proof.Inputs.lean ====
/- The five argument arrays as real data: what the stated precondition says of them, and each element as the real
   number that the data holds there. -/
module

public import proofs.«01_k».proof.Proof.Attention
public import proofs.«01_k».proof.Pre_finite
public import Idealize.ShloMosaic.Lib.Pointwise
public import Idealize.ShloMosaic.Lib.ReduceAll

@[expose] public section

set_option maxRecDepth 16384

noncomputable section

namespace Cert.Fox

open Idealize.ShloMosaic Finset Cert.Pre_finite

/-- An entry of a matrix as a real, zero outside the matrix. -/
def rd2 {a b : ℕ} (x : (⟨2, ![a, b]⟩ : Shape).Idx → EReal) (i j : ℕ) : ℝ :=
  if h : i < a ∧ j < b then (x (ix2 ⟨i, h.1⟩ ⟨j, h.2⟩)).toReal else 0

/-- An entry of a box as a real, zero outside the box. -/
def rd3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

/-- A finite entry of a matrix is its real. -/
theorem rd2_eq {a b : ℕ} (x : (⟨2, ![a, b]⟩ : Shape).Idx → EReal) (i : Fin a) (j : Fin b) (h : x (ix2 i j) ≠ ⊤ ∧ x (ix2 i j) ≠ ⊥) :
    x (ix2 i j) = (rd2 x i.val j.val : EReal) := by
  rw [rd2, dif_pos ⟨i.isLt, j.isLt⟩]; exact (EReal.coe_toReal h.1 h.2).symm

/-- A finite entry of a box is its real. -/
theorem rd3_eq {a b c : ℕ} (x : (⟨3, ![a, b, c]⟩ : Shape).Idx → EReal) (i : Fin a) (j : Fin b) (k : Fin c)
    (h : x (ix3 i j k) ≠ ⊤ ∧ x (ix3 i j k) ≠ ⊥) : x (ix3 i j k) = (rd3 x i.val j.val k.val : EReal) := by
  rw [rd3, dif_pos ⟨i.isLt, j.isLt, k.isLt⟩]; exact (EReal.coe_toReal h.1 h.2).symm

/-- The score's scale, as the program's constant denotes it. -/
def scale : ℝ := (Ideal.ofBits .f32 0x3DB504F3#32).toReal

/-- The scale's constant is that real. -/
theorem scale_eq : Ideal.ofBits .f32 0x3DB504F3#32 = (scale : EReal) := by
  have h : ∃ r : ℝ, Ideal.ofBits .f32 0x3DB504F3#32 = (r : EReal) := by
    simp only [Ideal.ofBits, Ideal.ieee]
    rw [if_neg (by decide), if_neg (by decide)]
    exact ⟨_, rfl⟩
  obtain ⟨r, hr⟩ := h
  rw [scale, hr, EReal.toReal_coe]

/-- The constant of an infinity's bits. -/
theorem posInf_eq : Ideal.ofBits .f32 0x7F800000#32 = ⊤ := by simp [Ideal.ofBits, Ideal.ieee]
/-- The constant of the negative infinity's bits. -/
theorem negInf_eq : Ideal.ofBits .f32 0xFF800000#32 = ⊥ := by simp [Ideal.ofBits, Ideal.ieee]

/-- A key's position against a query's, as a mask compares them. -/
theorem pos_iff (k q : ℕ) (hk : k < 2048) (hq : q < 2048) :
    IntOp.cmpi .sle (BitVec.ofNat 32 k) (BitVec.ofNat 32 q) = 1#1 ↔ k ≤ q := by
  have e : (BitVec.ofNat 32 k).sle (BitVec.ofNat 32 q) = true ↔ k ≤ q := by
    rw [BitVec.sle_iff_toInt_le, BitVec.toInt_eq_toNat_of_lt, BitVec.toInt_eq_toNat_of_lt, BitVec.toNat_ofNat, BitVec.toNat_ofNat,
      Nat.mod_eq_of_lt, Nat.mod_eq_of_lt, Int.ofNat_le]
    all_goals first
      | omega
      | (rw [BitVec.toNat_ofNat]; omega)
  show (BitVec.ofBool _ = 1#1) ↔ _
  rw [← e]
  cases (BitVec.ofNat 32 k).sle (BitVec.ofNat 32 q) <;> simp

/-- A selection by a bit that says whether a proposition holds. -/
theorem select_iff {P : Prop} [Decidable P] (w : BitVec 1) (h : w = 1#1 ↔ P) (a b : EReal) : Scalar.select w a b = if P then a else b := by
  rcases (by decide : ∀ w : BitVec 1, w = 0#1 ∨ w = 1#1) w with rfl | rfl
  · rw [if_neg fun p => absurd (h.2 p) (by decide)]; rfl
  · rw [if_pos (h.1 rfl)]; rfl

/-- A selection by the causal comparison. -/
theorem select_pos (k q : Fin 2048) (a b : EReal) :
    Scalar.select (IntOp.cmpi .sle (BitVec.ofNat 32 k.val) (BitVec.ofNat 32 q.val)) a b = if k.val ≤ q.val then a else b :=
  select_iff _ (pos_iff k.val q.val k.isLt q.isLt) a b

/-- A key's position in a chunk that begins at `o`. -/
theorem col_pos (o j : ℕ) : IntOp.addi (BitVec.ofNat 32 o) (BitVec.ofNat 32 j) = BitVec.ofNat 32 (o + j) := by
  simp [IntOp.addi, BitVec.ofNat_add]

/-- A query's position in tile `i`. -/
theorem row_pos (i r : ℕ) : IntOp.addi (Scalar.muli (BitVec.ofNat 32 i) 256#32) (BitVec.ofNat 32 r) = BitVec.ofNat 32 (256 * i + r) := by
  simp [IntOp.addi, Scalar.muli, IntOp.muli, BitVec.ofNat_add, BitVec.ofNat_mul, BitVec.mul_comm]

/-- The real data of the argument arrays. -/
def data (q k : FVec Ideal S8x2048x128 .bf16) (z : FVec Ideal S2048x13312 .f32) (cum : FVec Ideal S8x2048 .f32)
    (g : FVec Ideal S2048x1024 .bf16) : Data where
  Q := rd3 q
  K := rd3 k
  V i e := rd2 z i (3072 + e)
  C := rd2 cum
  D := rd2 g
  σ := scale
  own _ := le_rfl
  mono _ _ h := h

/-- Every entry that the attention reads is finite. -/
structure Finite (q k : FVec Ideal S8x2048x128 .bf16) (z : FVec Ideal S2048x13312 .f32) (cum : FVec Ideal S8x2048 .f32)
    (g : FVec Ideal S2048x1024 .bf16) : Prop where
  q : ∀ i, q i ≠ ⊤ ∧ q i ≠ ⊥
  k : ∀ i, k i ≠ ⊤ ∧ k i ≠ ⊥
  z : ∀ (i : Fin 2048) (e : Fin 1024), z (ix2 i ⟨3072 + e.val, by omega⟩) ≠ ⊤ ∧ z (ix2 i ⟨3072 + e.val, by omega⟩) ≠ ⊥
  cum : ∀ i, cum i ≠ ⊤ ∧ cum i ≠ ⊥
  g : ∀ i, g i ≠ ⊤ ∧ g i ≠ ⊥

/-- The shape facts that the precondition's operations take. -/
instance preFacts : Cert.Pre_finite.Facts where
  slices_S2048x13312_S2048x1024_0_3072 := by decide
  bitsLt_bf16_f32 := by decide
  bcast_S_S8x2048x128 := by decide
  reducesTo_S8x2048x128_S_d0_1_2 := by decide
  h_S_ := by decide
  bcast_S_S2048x1024 := by decide
  reducesTo_S2048x1024_S_d0_1 := by decide
  bcast_S_S8x2048 := by decide
  reducesTo_S8x2048_S_d0_1 := by decide

/-- An absolute value below the infinity is that of a finite number. -/
theorem finite_of_lt (a : EReal) (h : Ideal.cmp .olt (max a (-a)) (Ideal.ofBits .f32 0x7F800000#32) = 1#1) : a ≠ ⊤ ∧ a ≠ ⊥ := by
  rw [posInf_eq] at h
  constructor
  · rintro rfl; simp [Ideal.cmp] at h
  · rintro rfl; simp [Ideal.cmp] at h

/-- The precondition says that every entry that the attention reads is finite. -/
theorem finite_of_pre (q k : FVec Ideal S8x2048x128 .bf16) (z : FVec Ideal S2048x13312 .f32) (cum : FVec Ideal S8x2048 .f32)
    (g : FVec Ideal S2048x1024 .bf16) (h : Cert.Pre_finite.fn q k z cum g = fun _ => 1#1) : Finite q k z cum g := by
  have h0 := congrFun h ix0
  unfold Cert.Pre_finite.fn Cert.Pre_finite.fn_part1 at h0
  dsimp only [andi_apply] at h0
  have sp : ∀ a b : BitVec 1, IntOp.andi a b = 1#1 → a = 1#1 ∧ b = 1#1 := by decide
  obtain ⟨h0, hg⟩ := sp _ _ h0
  obtain ⟨h0, hc⟩ := sp _ _ h0
  obtain ⟨h0, hz⟩ := sp _ _ h0
  obtain ⟨hq, hk⟩ := sp _ _ h0
  haveI : Subsingleton S_.Idx := ⟨fun a b => funext fun i => i.elim0⟩
  refine ⟨fun i => ?_, fun i => ?_, fun i e => ?_, fun i => ?_, fun i => ?_⟩
  · exact finite_of_lt _ (Host.reduce_andi_all _ _ _ _ _ hq i)
  · exact finite_of_lt _ (Host.reduce_andi_all _ _ _ _ _ hk i)
  · have := Host.reduce_andi_all _ _ _ _ _ hz (ix2 i e)
    refine finite_of_lt _ ?_
    pointwise at this
    exact this
  · exact finite_of_lt _ (Host.reduce_andi_all _ _ _ _ _ hc i)
  · exact finite_of_lt _ (Host.reduce_andi_all _ _ _ _ _ hg i)

end Cert.Fox

end
-- ==== Proof.Chunk.lean ====
/- One grid point of the backward kernel: its input blocks as real data, and what each of the four key chunks
   computes from them, the row weights and the centred weight gradients. -/
module

public import proofs.«01_k».proof.Proof.Inputs
public import proofs.«01_k».proof.Proof.Gen.KernelIdeal.Value
public import Idealize.ShloMosaic.Lib.Pipeline.ValueKit

@[expose] public section

set_option maxRecDepth 16384

noncomputable section

namespace Cert.Fox

open Idealize.ShloMosaic Finset Cert.KernelIdeal Cert.KernelIdeal.Gen

/-- The eight input blocks of the point of head `h` and query tile `i`, as real data. -/
structure Blk (x : Data) (h i : ℕ) (x0 : Vec Ideal S1x256x128 .bf16) (x1 : Vec Ideal S1x2048x128 .bf16) (x2 : Vec Ideal S2048x128 .f32)
    (x3 : Vec Ideal S256x128 .bf16) (x4 : Vec Ideal S256x128 .bf16) (x5 : Vec Ideal S1x256x1 .f32) (x6 : Vec Ideal S1x256x1 .f32)
    (x7 : Vec Ideal S1x1x2048 .f32) : Prop where
  q : ∀ (r : Fin 256) (d : Fin 128), x0 (ix3 0 r d) = (x.Q h (256 * i + r.val) d.val : EReal)
  k : ∀ (j : Fin 2048) (d : Fin 128), x1 (ix3 0 j d) = (x.K h j.val d.val : EReal)
  v : ∀ (j : Fin 2048) (d : Fin 128), x2 (ix2 j d) = (x.V j.val (h * 128 + d.val) : EReal)
  o : ∀ (r : Fin 256) (d : Fin 128), x3 (ix2 r d) = (x.o h (256 * i + r.val) d.val : EReal)
  g : ∀ (r : Fin 256) (d : Fin 128), x4 (ix2 r d) = (x.D (256 * i + r.val) (h * 128 + d.val) : EReal)
  l : ∀ r : Fin 256, ∃ L : ℝ, x5 (ix3 0 r 0) = (L : EReal) ∧
    ∀ k, k ≤ 256 * i + r.val → Real.exp (x.s h (256 * i + r.val) k - L) = x.p h (256 * i + r.val) k
  cq : ∀ r : Fin 256, x6 (ix3 0 r 0) = (x.C h (256 * i + r.val) : EReal)
  ck : ∀ j : Fin 2048, x7 (ix3 0 0 j) = (x.C h j.val : EReal)

/-- The row weights of query tile `i` on key chunk `n`. -/
def pF (x : Data) (h i n : ℕ) : FVec Ideal S256x512 .f32 := fun y => (x.p h (256 * i + (y 0).val) (512 * n + (y 1).val) : EReal)
/-- The centred weight gradients of query tile `i` on key chunk `n`. -/
def gF (x : Data) (h i n : ℕ) : FVec Ideal S256x512 .f32 :=
  fun y => ((x.dp h (256 * i + (y 0).val) (512 * n + (y 1).val) - x.del h (256 * i + (y 0).val) : ℝ) : EReal)

variable {x : Data} {h i : ℕ} {x0 : Vec Ideal S1x256x128 .bf16} {x1 : Vec Ideal S1x2048x128 .bf16} {x2 : Vec Ideal S2048x128 .f32}
    {x3 : Vec Ideal S256x128 .bf16} {x4 : Vec Ideal S256x128 .bf16} {x5 : Vec Ideal S1x256x1 .f32} {x6 : Vec Ideal S1x256x1 .f32}
    {x7 : Vec Ideal S1x1x2048 .f32}

/-- The causal mask of a chunk, at row `r` and column `j`. -/
theorem mask_iff (o r j : ℕ) (hi : i < 8) (ho : o ≤ 1536) (hr : r < 256) (hj : j < 512) :
    (IntOp.cmpi .sle (IntOp.addi (BitVec.ofNat 32 o) (BitVec.ofNat 32 j))
      (IntOp.addi (Scalar.muli (BitVec.ofNat 32 i) 256#32) (BitVec.ofNat 32 r)) = 1#1) ↔ o + j ≤ 256 * i + r := by
  rw [col_pos, row_pos]
  exact pos_iff _ _ (by omega) (by omega)

/-- The exponential of a masked score less the row's log-sum is the row weight. -/
theorem p_val (b : Blk x h i x0 x1 x2 x3 x4 x5 x6 x7) (hσ : x.σ = scale) (r : Fin 256) (j : Fin 2048) (c : BitVec 1)
    (hc : c = 1#1 ↔ j.val ≤ 256 * i + r.val) :
    Ideal.exp (Scalar.select c ((∑ d, x0 (ix3 0 r d) * x1 (ix3 0 j d)) * Ideal.ofBits FTy.f32 0x3DB504F3#32 + x6 (ix3 0 r 0) - x7 (ix3 0 0 j))
      (Named.named (F := Ideal) (φ := .f32) κ "mask" 0xF149F2CA#32) - x5 (ix3 0 r 0)) = (x.p h (256 * i + r.val) j.val : EReal) := by
  obtain ⟨L, hL, hp⟩ := b.l r
  have hm : (Named.named (F := Ideal) (φ := .f32) κ "mask" 0xF149F2CA#32 : EReal) = ⊥ := rfl
  have hs : (∑ d, x0 (ix3 0 r d) * x1 (ix3 0 j d)) * Ideal.ofBits FTy.f32 0x3DB504F3#32 + x6 (ix3 0 r 0) - x7 (ix3 0 0 j)
      = (x.s h (256 * i + r.val) j.val : EReal) := by
    simp only [b.q, b.k, b.cq, b.ck, scale_eq, ← hσ, ← EReal.coe_mul, ← coe_sum, ← EReal.coe_add, ← EReal.coe_sub, Attn.s, Finset.sum_range]
  rw [select_iff c hc, hs, hm, hL]
  by_cases hk : j.val ≤ 256 * i + r.val
  · rw [if_pos hk, ← hp _ hk]; rfl
  · rw [if_neg hk, Attn.p_zero x (by omega), EReal.bot_sub]; rfl

/-- The weight's gradient less the row's mean gradient, from the output's gradient, the values and the output. -/
theorem g_val (b : Blk x h i x0 x1 x2 x3 x4 x5 x6 x7) (r : Fin 256) (j : Fin 2048) :
    (∑ d, x4 (ix2 r d) * x2 (ix2 j d) - ∑ d, x4 (ix2 r d) * x3 (ix2 r d) : EReal)
      = ((x.dp h (256 * i + r.val) j.val - x.del h (256 * i + r.val) : ℝ) : EReal) := by
  simp only [b.g, b.v, b.o, ← EReal.coe_mul, ← coe_sum, ← EReal.coe_sub, ← Attn.del_eq, Attn.dp, Finset.sum_range]

/-- The first chunk's weights are the row weights. -/
theorem pF0 (b : Blk x h i x0 x1 x2 x3 x4 x5 x6 x7) (hσ : x.σ = scale) (hi : i < 8) :
    k0_pay5 (BitVec.ofNat 32 i) (k0_pay51 x0) (k0_pay52 x5)
      (View.ld x1 (Rect.unit ![0, 0, 0] ![1, 512, 128] inb_S1x2048x128_S1x512x128_0_0_0)) x6
      (View.ld x7 (Rect.unit ![0, 0, 0] ![1, 1, 512] inb_S1x1x2048_S1x1x512_0_0_0)) = pF x h i 0 := by
  funext y
  idx_vars y
  pointwise [k0_pay5, k0_pay51, k0_pay52, k0_pay4]
  refine (p_val b hσ y0 ⟨y1.val, by omega⟩ _ ((mask_iff 0 y0.val y1.val hi (by omega) y0.isLt y1.isLt).trans (by rw [Nat.zero_add]))).trans ?_
  simp [pF]

/-- The first chunk's centred weight gradients. -/
theorem gF0 (b : Blk x h i x0 x1 x2 x3 x4 x5 x6 x7) :
    k0_pay7 x4 (k0_pay53 x4 x3) (View.ld x2 (Rect.unit ![0, 0] ![512, 128] inb_S2048x128_S512x128_0_0)) = gF x h i 0 := by
  funext y
  idx_vars y
  pointwise [k0_pay7, k0_pay53]
  refine (g_val b y0 ⟨y1.val, by omega⟩).trans ?_
  simp [gF]

/-- The second chunk's weights are the row weights. -/
theorem pF1 (b : Blk x h i x0 x1 x2 x3 x4 x5 x6 x7) (hσ : x.σ = scale) (hi : i < 8) :
    k0_pay16 (BitVec.ofNat 32 i) (k0_pay51 x0) (k0_pay52 x5)
      (View.ld x1 (Rect.unit ![0, 512, 0] ![1, 512, 128] inb_S1x2048x128_S1x512x128_0_512_0)) x6
      (View.ld x7 (Rect.unit ![0, 0, 512] ![1, 1, 512] inb_S1x1x2048_S1x1x512_0_0_512)) = pF x h i 1 := by
  funext y
  idx_vars y
  pointwise [k0_pay16, k0_pay51, k0_pay52, k0_pay15]
  refine (p_val b hσ y0 ⟨512 + y1.val, by omega⟩ _ (mask_iff 512 y0.val y1.val hi (by omega) y0.isLt y1.isLt)).trans ?_
  rfl

/-- The second chunk's centred weight gradients. -/
theorem gF1 (b : Blk x h i x0 x1 x2 x3 x4 x5 x6 x7) :
    k0_pay18 x4 (k0_pay53 x4 x3) (View.ld x2 (Rect.unit ![512, 0] ![512, 128] inb_S2048x128_S512x128_512_0)) = gF x h i 1 := by
  funext y
  idx_vars y
  pointwise [k0_pay18, k0_pay53]
  exact g_val b y0 ⟨512 + y1.val, by omega⟩

/-- The third chunk's weights are the row weights. -/
theorem pF2 (b : Blk x h i x0 x1 x2 x3 x4 x5 x6 x7) (hσ : x.σ = scale) (hi : i < 8) :
    k0_pay27 (BitVec.ofNat 32 i) (k0_pay51 x0) (k0_pay52 x5)
      (View.ld x1 (Rect.unit ![0, 1024, 0] ![1, 512, 128] inb_S1x2048x128_S1x512x128_0_1024_0)) x6
      (View.ld x7 (Rect.unit ![0, 0, 1024] ![1, 1, 512] inb_S1x1x2048_S1x1x512_0_0_1024)) = pF x h i 2 := by
  funext y
  idx_vars y
  pointwise [k0_pay27, k0_pay51, k0_pay52, k0_pay26]
  refine (p_val b hσ y0 ⟨1024 + y1.val, by omega⟩ _ (mask_iff 1024 y0.val y1.val hi (by omega) y0.isLt y1.isLt)).trans ?_
  rfl

/-- The third chunk's centred weight gradients. -/
theorem gF2 (b : Blk x h i x0 x1 x2 x3 x4 x5 x6 x7) :
    k0_pay29 x4 (k0_pay53 x4 x3) (View.ld x2 (Rect.unit ![1024, 0] ![512, 128] inb_S2048x128_S512x128_1024_0)) = gF x h i 2 := by
  funext y
  idx_vars y
  pointwise [k0_pay29, k0_pay53]
  exact g_val b y0 ⟨1024 + y1.val, by omega⟩

/-- The fourth chunk's weights are the row weights. -/
theorem pF3 (b : Blk x h i x0 x1 x2 x3 x4 x5 x6 x7) (hσ : x.σ = scale) (hi : i < 8) :
    k0_pay38 (BitVec.ofNat 32 i) (k0_pay51 x0) (k0_pay52 x5)
      (View.ld x1 (Rect.unit ![0, 1536, 0] ![1, 512, 128] inb_S1x2048x128_S1x512x128_0_1536_0)) x6
      (View.ld x7 (Rect.unit ![0, 0, 1536] ![1, 1, 512] inb_S1x1x2048_S1x1x512_0_0_1536)) = pF x h i 3 := by
  funext y
  idx_vars y
  pointwise [k0_pay38, k0_pay51, k0_pay52, k0_pay37]
  refine (p_val b hσ y0 ⟨1536 + y1.val, by omega⟩ _ (mask_iff 1536 y0.val y1.val hi (by omega) y0.isLt y1.isLt)).trans ?_
  rfl

/-- The fourth chunk's centred weight gradients. -/
theorem gF3 (b : Blk x h i x0 x1 x2 x3 x4 x5 x6 x7) :
    k0_pay40 x4 (k0_pay53 x4 x3) (View.ld x2 (Rect.unit ![1536, 0] ![512, 128] inb_S2048x128_S512x128_1536_0)) = gF x h i 3 := by
  funext y
  idx_vars y
  pointwise [k0_pay40, k0_pay53]
  exact g_val b y0 ⟨1536 + y1.val, by omega⟩

end Cert.Fox

end
-- ==== Proof.Sums.lean ====
/- The gradients of an attention, by chunks of 512 keys and by tiles of 256 queries. -/
module

public import proofs.«01_k».proof.Proof.Attention

@[expose] public section

noncomputable section

namespace Cert.Fox

open Finset

namespace Attn

variable {W : ℕ} {last : ℕ → ℕ} (x : Attn W last)

/-- What key chunk `n` adds to the gradient of a query. -/
def dqC (n h q d : ℕ) : ℝ := ∑ j ∈ range 512, x.ds h q (512 * n + j) * x.σ * x.K h (512 * n + j) d
/-- What key chunk `n` adds to the gradient of a query's bias. -/
def dcqC (n h q : ℕ) : ℝ := ∑ j ∈ range 512, x.ds h q (512 * n + j)
/-- What query tile `i` adds to the gradient of a key. -/
def dkT (i h k d : ℕ) : ℝ := ∑ r ∈ range 256, x.ds h (256 * i + r) k * x.σ * x.Q h (256 * i + r) d
/-- What query tile `i` adds to the gradient of a value. -/
def dvT (i h k d : ℕ) : ℝ := ∑ r ∈ range 256, x.p h (256 * i + r) k * x.D (256 * i + r) (h * 128 + d)
/-- What query tile `i` takes from the gradient of a key's bias. -/
def dckT (i h k : ℕ) : ℝ := ∑ r ∈ range 256, x.ds h (256 * i + r) k

/-- A sum over all keys is the sum over the four chunks. -/
theorem sum_chunks (f : ℕ → ℝ) : ∑ k ∈ range 2048, f k
    = ((∑ j ∈ range 512, f (512 * 0 + j) + ∑ j ∈ range 512, f (512 * 1 + j)) + ∑ j ∈ range 512, f (512 * 2 + j)) + ∑ j ∈ range 512, f (512 * 3 + j) := by
  rw [show 2048 = ((512 + 512) + 512) + 512 from rfl, Finset.sum_range_add, Finset.sum_range_add, Finset.sum_range_add]
  simp

/-- The gradient of a query, chunk by chunk. -/
theorem dq_chunks (h q d : ℕ) : x.dq h q d = ((x.dqC 0 h q d + x.dqC 1 h q d) + x.dqC 2 h q d) + x.dqC 3 h q d := sum_chunks _
/-- The gradient of a query's bias, chunk by chunk. -/
theorem dcq_chunks (h q : ℕ) : x.dcq h q = ((x.dcqC 0 h q + x.dcqC 1 h q) + x.dcqC 2 h q) + x.dcqC 3 h q := sum_chunks _

/-- A chunk of keys that the query does not see adds nothing to its gradient. -/
theorem dqC_zero {n h q d : ℕ} (hn : last q < 512 * n) : x.dqC n h q d = 0 :=
  Finset.sum_eq_zero fun j _ => by rw [ds_zero x (by omega), zero_mul, zero_mul]
/-- A chunk of keys that the query does not see adds nothing to its bias's gradient. -/
theorem dcqC_zero {n h q : ℕ} (hn : last q < 512 * n) : x.dcqC n h q = 0 :=
  Finset.sum_eq_zero fun j _ => ds_zero x (by omega)
/-- Queries that do not see the key add nothing to its gradient. -/
theorem dkT_zero {i h k d : ℕ} (hk : last (256 * i + 255) < k) : x.dkT i h k d = 0 :=
  Finset.sum_eq_zero fun r hr => by
    have := x.mono (show 256 * i + r ≤ 256 * i + 255 by have := mem_range.1 hr; omega)
    rw [ds_zero x (by omega), zero_mul, zero_mul]
/-- Queries that do not see the key add nothing to its value's gradient. -/
theorem dvT_zero {i h k d : ℕ} (hk : last (256 * i + 255) < k) : x.dvT i h k d = 0 :=
  Finset.sum_eq_zero fun r hr => by
    have := x.mono (show 256 * i + r ≤ 256 * i + 255 by have := mem_range.1 hr; omega)
    rw [p_zero x (by omega), zero_mul]
/-- Queries that do not see the key take nothing from its bias's gradient. -/
theorem dckT_zero {i h k : ℕ} (hk : last (256 * i + 255) < k) : x.dckT i h k = 0 :=
  Finset.sum_eq_zero fun r hr => by
    have := x.mono (show 256 * i + r ≤ 256 * i + 255 by have := mem_range.1 hr; omega)
    rw [ds_zero x (by omega)]

/-- The gradient of a key after one more tile of queries. -/
theorem dk_succ (i h k d : ℕ) : x.dk (256 * (i + 1)) h k d = x.dk (256 * i) h k d + x.dkT i h k d := by
  rw [dk, dk, dkT, Nat.mul_succ, Finset.sum_range_add]
/-- The gradient of a value after one more tile of queries. -/
theorem dv_succ (i h k d : ℕ) : x.dv (256 * (i + 1)) h k d = x.dv (256 * i) h k d + x.dvT i h k d := by
  rw [dv, dv, dvT, Nat.mul_succ, Finset.sum_range_add]
/-- The gradient of a key's bias after one more tile of queries. -/
theorem dck_succ (i h k : ℕ) : x.dck (256 * (i + 1)) h k = x.dck (256 * i) h k + (0 - x.dckT i h k) := by
  rw [dck, dck, dckT, Nat.mul_succ, Finset.sum_range_add, Finset.sum_neg_distrib, Finset.sum_neg_distrib, zero_sub]

/-- No queries, no gradient of a key. -/
theorem dk_none (h k d : ℕ) : x.dk 0 h k d = 0 := rfl
/-- No queries, no gradient of a value. -/
theorem dv_none (h k d : ℕ) : x.dv 0 h k d = 0 := rfl
/-- No queries, no gradient of a key's bias. -/
theorem dck_none (h k : ℕ) : x.dck 0 h k = 0 := rfl

end Attn

end Cert.Fox

end
-- ==== Proof.Step.lean ====
/- What one grid point of the backward kernel adds to each of the five results, chunk by chunk. -/
module

public import proofs.«01_k».proof.Proof.Chunk
public import proofs.«01_k».proof.Proof.Sums
public import Idealize.ShloMosaic.Lib.Pipeline.ReadBack
public import Idealize.ShloMosaic.Lib.WritesUnit

@[expose] public section

set_option maxRecDepth 16384

noncomputable section

namespace Cert.Fox

open Idealize.ShloMosaic Finset Cert.KernelIdeal Cert.KernelIdeal.Gen

/-- The query tile. -/
def qF (x : Data) (h i : ℕ) : FVec Ideal S256x128 .bf16 := fun y => (x.Q h (256 * i + (y 0).val) (y 1).val : EReal)
/-- The key chunk. -/
def kF (x : Data) (h n : ℕ) : FVec Ideal S512x128 .bf16 := fun y => (x.K h (512 * n + (y 0).val) (y 1).val : EReal)

variable {x : Data} {h i : ℕ} {x0 : Vec Ideal S1x256x128 .bf16} {x1 : Vec Ideal S1x2048x128 .bf16} {x2 : Vec Ideal S2048x128 .f32}
    {x3 : Vec Ideal S256x128 .bf16} {x4 : Vec Ideal S256x128 .bf16} {x5 : Vec Ideal S1x256x1 .f32} {x6 : Vec Ideal S1x256x1 .f32}
    {x7 : Vec Ideal S1x1x2048 .f32}

/-- The query block is the query tile. -/
theorem qF_eq (b : Blk x h i x0 x1 x2 x3 x4 x5 x6 x7) : k0_pay51 x0 = qF x h i := by
  funext y
  idx_vars y
  pointwise [k0_pay51]
  exact b.q y0 y1

/-- The first part of the key block. -/
theorem kF0 (b : Blk x h i x0 x1 x2 x3 x4 x5 x6 x7) :
    k0_pay4 (View.ld x1 (Rect.unit ![0, 0, 0] ![1, 512, 128] inb_S1x2048x128_S1x512x128_0_0_0)) = kF x h 0 := by
  funext y
  idx_vars y
  pointwise [k0_pay4]
  refine (b.k ⟨y0.val, by omega⟩ y1).trans ?_
  simp [kF]

/-- The second part of the key block. -/
theorem kF1 (b : Blk x h i x0 x1 x2 x3 x4 x5 x6 x7) :
    k0_pay15 (View.ld x1 (Rect.unit ![0, 512, 0] ![1, 512, 128] inb_S1x2048x128_S1x512x128_0_512_0)) = kF x h 1 := by
  funext y
  idx_vars y
  pointwise [k0_pay15]
  exact b.k ⟨512 + y0.val, by omega⟩ y1

/-- The third part of the key block. -/
theorem kF2 (b : Blk x h i x0 x1 x2 x3 x4 x5 x6 x7) :
    k0_pay26 (View.ld x1 (Rect.unit ![0, 1024, 0] ![1, 512, 128] inb_S1x2048x128_S1x512x128_0_1024_0)) = kF x h 2 := by
  funext y
  idx_vars y
  pointwise [k0_pay26]
  exact b.k ⟨1024 + y0.val, by omega⟩ y1

/-- The fourth part of the key block. -/
theorem kF3 (b : Blk x h i x0 x1 x2 x3 x4 x5 x6 x7) :
    k0_pay37 (View.ld x1 (Rect.unit ![0, 1536, 0] ![1, 512, 128] inb_S1x2048x128_S1x512x128_0_1536_0)) = kF x h 3 := by
  funext y
  idx_vars y
  pointwise [k0_pay37]
  exact b.k ⟨1536 + y0.val, by omega⟩ y1

/-- A chunk's contribution to a query's gradient. -/
theorem dq_sum (hσ : x.σ = scale) (n : ℕ) (r : Fin 256) (d : Fin 128) :
    (∑ j : Fin 512, pF x h i n (ix2 r j) * gF x h i n (ix2 r j) * Ideal.ofBits FTy.f32 0x3DB504F3#32 * kF x h n (ix2 j d) : EReal)
      = (x.dqC n h (256 * i + r.val) d.val : EReal) := by
  simp only [pF, gF, kF, scale_eq, ← hσ, ← EReal.coe_mul, ← coe_sum, Attn.dqC, Attn.ds, Finset.sum_range]
  rfl
/-- A chunk's contribution to a query's bias's gradient. -/
theorem dcq_sum (n : ℕ) (r : Fin 256) :
    (∑ j : Fin 512, pF x h i n (ix2 r j) * gF x h i n (ix2 r j) : EReal) = (x.dcqC n h (256 * i + r.val) : EReal) := by
  simp only [pF, gF, ← EReal.coe_mul, ← coe_sum, Attn.dcqC, Attn.ds, Finset.sum_range]
  rfl
/-- A query tile's contribution to a key's gradient. -/
theorem dk_sum (hσ : x.σ = scale) (n : ℕ) (j : Fin 512) (d : Fin 128) :
    (∑ r : Fin 256, pF x h i n (ix2 r j) * gF x h i n (ix2 r j) * Ideal.ofBits FTy.f32 0x3DB504F3#32 * qF x h i (ix2 r d) : EReal)
      = (x.dkT i h (512 * n + j.val) d.val : EReal) := by
  simp only [pF, gF, qF, scale_eq, ← hσ, ← EReal.coe_mul, ← coe_sum, Attn.dkT, Attn.ds, Finset.sum_range]
  rfl
/-- A query tile's contribution to a value's gradient. -/
theorem dv_sum (b : Blk x h i x0 x1 x2 x3 x4 x5 x6 x7) (n : ℕ) (j : Fin 512) (d : Fin 128) :
    (∑ r : Fin 256, pF x h i n (ix2 r j) * x4 (ix2 r d) : EReal) = (x.dvT i h (512 * n + j.val) d.val : EReal) := by
  simp only [b.g, pF, ← EReal.coe_mul, ← coe_sum, Attn.dvT, Finset.sum_range]
  rfl
/-- A query tile's contribution to a key's bias's gradient. -/
theorem dck_sum (n : ℕ) (j : Fin 512) :
    (∑ r : Fin 256, pF x h i n (ix2 r j) * gF x h i n (ix2 r j) : EReal) = (x.dckT i h (512 * n + j.val) : EReal) := by
  simp only [pF, gF, ← EReal.coe_mul, ← coe_sum, Attn.dckT, Attn.ds, Finset.sum_range]
  rfl

variable (m : (ℓ : Loc nD τ sig) → Buf (Elt Ideal) ℓ) (c : Dev nD)

/-- The query tile that a point works on. -/
theorem coord1 : ∀ t : Fin cfg0.N, (grid0.coords t 1).val = t.val % 8 := (by decide +kernel : ∀ t : Fin grid0.N, (grid0.coords t 1).val = t.val % 8)

/-- The input blocks of a point, as real data. -/
def BlkAt (x : Data) (t : Fin cfg0.N) : Prop :=
  Blk x (t.val / 8) (t.val % 8) (iblk m c 0 t) (iblk m c 1 t) (iblk m c 2 t) (iblk m c 3 t) (iblk m c 4 t) (iblk m c 5 t) (iblk m c 6 t) (iblk m c 7 t)

end Cert.Fox

end
-- ==== Proof.Rows.lean ====
/- The two results written once per query tile, the gradients of the query and of its bias: the grid point of head `h`
   and tile `i` leaves the whole gradient, whichever chunks of keys it visits. -/
module

public import proofs.«01_k».proof.Proof.Step

@[expose] public section

set_option maxRecDepth 16384

noncomputable section

namespace Cert.Fox

open Idealize.ShloMosaic Finset Cert.KernelIdeal Cert.KernelIdeal.Gen

variable {x : Data} (m : (ℓ : Loc nD τ sig) → Buf (Elt Ideal) ℓ) (c : Dev nD)

/-- At the first query tile of a head the point leaves the query's gradient. -/
theorem dq_A (hσ : x.σ = scale) (t : Fin cfg0.N) (b : BlkAt m c x t) (h0 : t.val % 8 = 0) (h2 : ¬2 ≤ t.val % 8) (h3 : ¬4 ≤ t.val % 8) (h4 : ¬6 ≤ t.val % 8)
    (r : Fin 256) (d : Fin 128) : (outsAt0 m c t.val t.isLt).1 (ix3 0 r d) = (x.dq (t.val / 8) (256 * (t.val % 8) + r.val) d.val : EReal) := by
  rw [outsAt0_A m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  simp only [kF0 b, kF1 b, kF2 b, kF3 b, qF_eq b]
  pointwise [k0_pay21, k0_pay32, k0_pay43, k0_pay20, k0_pay31, k0_pay42, k0_pay19, k0_pay30, k0_pay41, k0_pay54]
  simp only [dq_sum hσ, ← EReal.coe_add]
  rw [Attn.dq_chunks, Attn.dqC_zero x (n := 3) (by omega), add_zero, Attn.dqC_zero x (n := 2) (by omega), add_zero, Attn.dqC_zero x (n := 1) (by omega), add_zero]

/-- At the first query tile of a head the point leaves the query's bias's gradient. -/
theorem dcq_A (hσ : x.σ = scale) (t : Fin cfg0.N) (b : BlkAt m c x t) (h0 : t.val % 8 = 0) (h2 : ¬2 ≤ t.val % 8) (h3 : ¬4 ≤ t.val % 8) (h4 : ¬6 ≤ t.val % 8)
    (r : Fin 256) : (outsAt0 m c t.val t.isLt).2.2.2.1 (ix3 0 r 0) = (x.dcq (t.val / 8) (256 * (t.val % 8) + r.val) : EReal) := by
  rw [outsAt0_A m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  pointwise [k0_pay23, k0_pay34, k0_pay45, k0_pay19, k0_pay30, k0_pay41, k0_pay55]
  simp only [dcq_sum, ← EReal.coe_add]
  rw [Attn.dcq_chunks, Attn.dcqC_zero x (n := 3) (by omega), add_zero, Attn.dcqC_zero x (n := 2) (by omega), add_zero, Attn.dcqC_zero x (n := 1) (by omega), add_zero]

/-- At the second query tile the point leaves the query's gradient. -/
theorem dq_B (hσ : x.σ = scale) (t : Fin cfg0.N) (b : BlkAt m c x t) (h0 : ¬t.val % 8 = 0) (h2 : ¬2 ≤ t.val % 8) (h3 : ¬4 ≤ t.val % 8) (h4 : ¬6 ≤ t.val % 8)
    (r : Fin 256) (d : Fin 128) : (outsAt0 m c t.val t.isLt).1 (ix3 0 r d) = (x.dq (t.val / 8) (256 * (t.val % 8) + r.val) d.val : EReal) := by
  rw [outsAt0_B m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  simp only [kF0 b, kF1 b, kF2 b, kF3 b, qF_eq b]
  pointwise [k0_pay21, k0_pay32, k0_pay43, k0_pay20, k0_pay31, k0_pay42, k0_pay19, k0_pay30, k0_pay41, k0_pay54]
  simp only [dq_sum hσ, ← EReal.coe_add]
  rw [Attn.dq_chunks, Attn.dqC_zero x (n := 3) (by omega), add_zero, Attn.dqC_zero x (n := 2) (by omega), add_zero, Attn.dqC_zero x (n := 1) (by omega), add_zero]

/-- At the second query tile the point leaves the query's bias's gradient. -/
theorem dcq_B (hσ : x.σ = scale) (t : Fin cfg0.N) (b : BlkAt m c x t) (h0 : ¬t.val % 8 = 0) (h2 : ¬2 ≤ t.val % 8) (h3 : ¬4 ≤ t.val % 8) (h4 : ¬6 ≤ t.val % 8)
    (r : Fin 256) : (outsAt0 m c t.val t.isLt).2.2.2.1 (ix3 0 r 0) = (x.dcq (t.val / 8) (256 * (t.val % 8) + r.val) : EReal) := by
  rw [outsAt0_B m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  pointwise [k0_pay23, k0_pay34, k0_pay45, k0_pay19, k0_pay30, k0_pay41, k0_pay55]
  simp only [dcq_sum, ← EReal.coe_add]
  rw [Attn.dcq_chunks, Attn.dcqC_zero x (n := 3) (by omega), add_zero, Attn.dcqC_zero x (n := 2) (by omega), add_zero, Attn.dcqC_zero x (n := 1) (by omega), add_zero]

/-- At the third or fourth query tile the point leaves the query's gradient. -/
theorem dq_C (hσ : x.σ = scale) (t : Fin cfg0.N) (b : BlkAt m c x t) (h0 : ¬t.val % 8 = 0) (h2 : 2 ≤ t.val % 8) (h3 : ¬4 ≤ t.val % 8) (h4 : ¬6 ≤ t.val % 8)
    (r : Fin 256) (d : Fin 128) : (outsAt0 m c t.val t.isLt).1 (ix3 0 r d) = (x.dq (t.val / 8) (256 * (t.val % 8) + r.val) d.val : EReal) := by
  rw [outsAt0_C m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  simp only [kF0 b, kF1 b, kF2 b, kF3 b, qF_eq b]
  pointwise [k0_pay21, k0_pay32, k0_pay43, k0_pay20, k0_pay31, k0_pay42, k0_pay19, k0_pay30, k0_pay41, k0_pay54]
  simp only [dq_sum hσ, ← EReal.coe_add]
  rw [Attn.dq_chunks, Attn.dqC_zero x (n := 3) (by omega), add_zero, Attn.dqC_zero x (n := 2) (by omega), add_zero]

/-- At the third or fourth query tile the point leaves the query's bias's gradient. -/
theorem dcq_C (hσ : x.σ = scale) (t : Fin cfg0.N) (b : BlkAt m c x t) (h0 : ¬t.val % 8 = 0) (h2 : 2 ≤ t.val % 8) (h3 : ¬4 ≤ t.val % 8) (h4 : ¬6 ≤ t.val % 8)
    (r : Fin 256) : (outsAt0 m c t.val t.isLt).2.2.2.1 (ix3 0 r 0) = (x.dcq (t.val / 8) (256 * (t.val % 8) + r.val) : EReal) := by
  rw [outsAt0_C m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  pointwise [k0_pay23, k0_pay34, k0_pay45, k0_pay19, k0_pay30, k0_pay41, k0_pay55]
  simp only [dcq_sum, ← EReal.coe_add]
  rw [Attn.dcq_chunks, Attn.dcqC_zero x (n := 3) (by omega), add_zero, Attn.dcqC_zero x (n := 2) (by omega), add_zero]

/-- At the fifth or sixth query tile the point leaves the query's gradient. -/
theorem dq_D (hσ : x.σ = scale) (t : Fin cfg0.N) (b : BlkAt m c x t) (h0 : ¬t.val % 8 = 0) (h2 : 2 ≤ t.val % 8) (h3 : 4 ≤ t.val % 8) (h4 : ¬6 ≤ t.val % 8)
    (r : Fin 256) (d : Fin 128) : (outsAt0 m c t.val t.isLt).1 (ix3 0 r d) = (x.dq (t.val / 8) (256 * (t.val % 8) + r.val) d.val : EReal) := by
  rw [outsAt0_D m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  simp only [kF0 b, kF1 b, kF2 b, kF3 b, qF_eq b]
  pointwise [k0_pay21, k0_pay32, k0_pay43, k0_pay20, k0_pay31, k0_pay42, k0_pay19, k0_pay30, k0_pay41, k0_pay54]
  simp only [dq_sum hσ, ← EReal.coe_add]
  rw [Attn.dq_chunks, Attn.dqC_zero x (n := 3) (by omega), add_zero]

/-- At the fifth or sixth query tile the point leaves the query's bias's gradient. -/
theorem dcq_D (hσ : x.σ = scale) (t : Fin cfg0.N) (b : BlkAt m c x t) (h0 : ¬t.val % 8 = 0) (h2 : 2 ≤ t.val % 8) (h3 : 4 ≤ t.val % 8) (h4 : ¬6 ≤ t.val % 8)
    (r : Fin 256) : (outsAt0 m c t.val t.isLt).2.2.2.1 (ix3 0 r 0) = (x.dcq (t.val / 8) (256 * (t.val % 8) + r.val) : EReal) := by
  rw [outsAt0_D m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  pointwise [k0_pay23, k0_pay34, k0_pay45, k0_pay19, k0_pay30, k0_pay41, k0_pay55]
  simp only [dcq_sum, ← EReal.coe_add]
  rw [Attn.dcq_chunks, Attn.dcqC_zero x (n := 3) (by omega), add_zero]

/-- At the last two query tiles the point leaves the query's gradient. -/
theorem dq_E (hσ : x.σ = scale) (t : Fin cfg0.N) (b : BlkAt m c x t) (h0 : ¬t.val % 8 = 0) (h2 : 2 ≤ t.val % 8) (h3 : 4 ≤ t.val % 8) (h4 : 6 ≤ t.val % 8)
    (r : Fin 256) (d : Fin 128) : (outsAt0 m c t.val t.isLt).1 (ix3 0 r d) = (x.dq (t.val / 8) (256 * (t.val % 8) + r.val) d.val : EReal) := by
  rw [outsAt0_E m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  simp only [kF0 b, kF1 b, kF2 b, kF3 b, qF_eq b]
  pointwise [k0_pay21, k0_pay32, k0_pay43, k0_pay20, k0_pay31, k0_pay42, k0_pay19, k0_pay30, k0_pay41, k0_pay54]
  simp only [dq_sum hσ, ← EReal.coe_add]
  rw [Attn.dq_chunks]

/-- At the last two query tiles the point leaves the query's bias's gradient. -/
theorem dcq_E (hσ : x.σ = scale) (t : Fin cfg0.N) (b : BlkAt m c x t) (h0 : ¬t.val % 8 = 0) (h2 : 2 ≤ t.val % 8) (h3 : 4 ≤ t.val % 8) (h4 : 6 ≤ t.val % 8)
    (r : Fin 256) : (outsAt0 m c t.val t.isLt).2.2.2.1 (ix3 0 r 0) = (x.dcq (t.val / 8) (256 * (t.val % 8) + r.val) : EReal) := by
  rw [outsAt0_E m c t h0 h2 h3 h4]
  frame_out
  have hi : t.val % 8 < 8 := Nat.mod_lt _ (by decide)
  simp only [coord1, ↓pF0 b hσ hi, ↓pF1 b hσ hi, ↓pF2 b hσ hi, ↓pF3 b hσ hi, ↓gF0 b, ↓gF1 b, ↓gF2 b, ↓gF3 b]
  pointwise [k0_pay23, k0_pay34, k0_pay45, k0_pay19, k0_pay30, k0_pay41, k0_pay55]
  simp only [dcq_sum, ← EReal.coe_add]
  rw [Attn.dcq_chunks]

end Cert.Fox

end
-- ==== Proof.Tiles.lean ====
/- Reading back a buffer into which chunks of 512 rows have been stored: at a row of the newest chunk its payload, at
   any other row what was there before; for the shapes of the key's gradient, the value's and the bias's. -/
module

public import Idealize.ShloMosaic.Lib.Pointwise
public import Idealize.ShloMosaic.Lib.Pipeline.ValueKit
public import Idealize.ShloMosaic.Lib.Pipeline.ReadBack
public import Idealize.ShloMosaic.Lib.WritesUnit

@[expose] public section

namespace Cert.Fox

open Idealize.ShloMosaic Idealize.ShloMosaic.View

/-- A property of the 2048 keys, chunk by chunk. -/
theorem forall_chunks (P : Fin 2048 → Prop) (p0 : ∀ j : Fin 512, P ⟨0 + j.val, by omega⟩) (p1 : ∀ j : Fin 512, P ⟨512 + j.val, by omega⟩)
    (p2 : ∀ j : Fin 512, P ⟨1024 + j.val, by omega⟩) (p3 : ∀ j : Fin 512, P ⟨1536 + j.val, by omega⟩) (k : Fin 2048) : P k := by
  obtain ⟨k, hk⟩ := k
  by_cases a : k < 512
  · have := p0 ⟨k, a⟩; simpa using this
  by_cases a' : k < 1024
  · have := p1 ⟨k - 512, by omega⟩; simpa [show 512 + (k - 512) = k by omega] using this
  by_cases a'' : k < 1536
  · have := p2 ⟨k - 1024, by omega⟩; simpa [show 1024 + (k - 1024) = k by omega] using this
  · have := p3 ⟨k - 1536, by omega⟩; simpa [show 1536 + (k - 1536) = k by omega] using this

variable {sig : RefSig} {κ : Kind} {sp : Space} {s : Shape} {e : EltTy} {Val : EltTy → Type}

/-- An index at position `x` of the newest piece reads that piece's payload there. -/
theorem canon_hit [∀ e, Nonempty (Val e)] {off size : Fin s.rank → ℕ} (inb : ∀ a, off a + size a ≤ s.size a)
    (w : (Rect.unit off size inb).shape.Idx → Val e) (L : List (Piece Val s e)) (y : s.Idx) (x : (Rect.unit off size inb).shape.Idx)
    (hx : ∀ a, (y a).val = off a + (x a).val) : View.canon ((⟨Rect.unit off size inb, w⟩ : Piece Val s e) :: L) y = w x := by
  have hy : (Rect.unit off size inb).emb x = y := funext fun a => Fin.ext (by
    show off a + 1 * (x a).val = (y a).val
    rw [hx a, Nat.one_mul])
  rw [← hy]; exact canon_cons_emb _ w L x

/-- An index outside the newest piece on axis `a` reads what the earlier ones left. -/
theorem canon_miss [∀ e, Nonempty (Val e)] {off size : Fin s.rank → ℕ} (inb : ∀ a, off a + size a ≤ s.size a)
    (w : (Rect.unit off size inb).shape.Idx → Val e) (L : List (Piece Val s e)) (y : s.Idx) (a : Fin s.rank)
    (ha : (y a).val < off a ∨ off a + size a ≤ (y a).val) :
    View.canon ((⟨Rect.unit off size inb, w⟩ : Piece Val s e) :: L) y = View.canon L y := by
  refine canon_cons_of_not_mem _ _ fun hm => ?_
  have h : y ∈ (Rect.unit off size inb).set := hm
  rw [Rect.mem_set_unit] at h
  have := h a
  omega

/-- The newest chunk of the key's gradient, at one of its rows. -/
theorem canon_hit_k {W : ℕ} [∀ e, Nonempty (Val e)] (o : ℕ) (inb : ∀ a, (![0, o, 0] : Fin 3 → ℕ) a + (![1, 512, W] : Fin 3 → ℕ) a ≤ (⟨3, ![1, 2048, W]⟩ : Shape).size a) (w : (Rect.unit (s := ⟨3, ![1, 2048, W]⟩) ![0, o, 0] ![1, 512, W] inb).shape.Idx → Val e) (L : List (Piece Val ⟨3, ![1, 2048, W]⟩ e)) (j : Fin 512) (d : Fin W) (h : o + j.val < 2048) :
    View.canon ((⟨Rect.unit ![0, o, 0] ![1, 512, W] inb, w⟩ : Piece Val ⟨3, ![1, 2048, W]⟩ e) :: L) (ix3 0 ⟨o + j.val, h⟩ d) = w (ix3 0 j d) :=
  canon_hit inb w L _ (ix3 0 j d) (by intro a; fin_cases a <;> simp [ix2, ix3])

/-- The newest chunk of the key's gradient, at a row outside it. -/
theorem canon_miss_k {W : ℕ} [∀ e, Nonempty (Val e)] (o : ℕ) (inb : ∀ a, (![0, o, 0] : Fin 3 → ℕ) a + (![1, 512, W] : Fin 3 → ℕ) a ≤ (⟨3, ![1, 2048, W]⟩ : Shape).size a) (w : (Rect.unit (s := ⟨3, ![1, 2048, W]⟩) ![0, o, 0] ![1, 512, W] inb).shape.Idx → Val e) (L : List (Piece Val ⟨3, ![1, 2048, W]⟩ e)) (k : ℕ) (hk : k < 2048) (d : Fin W) (h : k < o ∨ o + 512 ≤ k) :
    View.canon ((⟨Rect.unit ![0, o, 0] ![1, 512, W] inb, w⟩ : Piece Val ⟨3, ![1, 2048, W]⟩ e) :: L) (ix3 0 ⟨k, hk⟩ d) = View.canon L (ix3 0 ⟨k, hk⟩ d) :=
  canon_miss inb w L _ (1 : Fin 3) h

/-- The newest chunk stored over the key's gradient, at one of its rows. -/
theorem read_hit_k {W : ℕ} (v : View sig κ sp ⟨3, ![1, 2048, W]⟩ e) (f : v.ty.Contents Val) (o : ℕ) (inb : ∀ a, (![0, o, 0] : Fin 3 → ℕ) a + (![1, 512, W] : Fin 3 → ℕ) a ≤ (⟨3, ![1, 2048, W]⟩ : Shape).size a) (w : (Rect.unit (s := ⟨3, ![1, 2048, W]⟩) ![0, o, 0] ![1, 512, W] inb).shape.Idx → Val e) (L : List (Piece Val ⟨3, ![1, 2048, W]⟩ e)) (j : Fin 512) (d : Fin W) (h : o + j.val < 2048) :
    v.read Val (v.writes Val f ((⟨Rect.unit ![0, o, 0] ![1, 512, W] inb, w⟩ : Piece Val ⟨3, ![1, 2048, W]⟩ e) :: L)) (ix3 0 ⟨o + j.val, h⟩ d) = w (ix3 0 j d) :=
  read_writes_cons_unit_of_mem v f inb w L _ (ix3 0 j d) rfl (by intro a; fin_cases a <;> simp [ix2, ix3])

/-- The newest chunk stored over the key's gradient, at a row outside it. -/
theorem read_miss_k {W : ℕ} (v : View sig κ sp ⟨3, ![1, 2048, W]⟩ e) (f : v.ty.Contents Val) (o : ℕ) (inb : ∀ a, (![0, o, 0] : Fin 3 → ℕ) a + (![1, 512, W] : Fin 3 → ℕ) a ≤ (⟨3, ![1, 2048, W]⟩ : Shape).size a) (w : (Rect.unit (s := ⟨3, ![1, 2048, W]⟩) ![0, o, 0] ![1, 512, W] inb).shape.Idx → Val e) (L : List (Piece Val ⟨3, ![1, 2048, W]⟩ e)) (k : ℕ) (hk : k < 2048) (d : Fin W) (h : k < o ∨ o + 512 ≤ k) :
    v.read Val (v.writes Val f ((⟨Rect.unit ![0, o, 0] ![1, 512, W] inb, w⟩ : Piece Val ⟨3, ![1, 2048, W]⟩ e) :: L)) (ix3 0 ⟨k, hk⟩ d) = v.read Val (v.writes Val f L) (ix3 0 ⟨k, hk⟩ d) :=
  read_writes_cons_unit_of_not_mem v f inb w L _ rfl (1 : Fin 3) h

/-- The newest chunk of the value's gradient, at one of its rows. -/
theorem canon_hit_v [∀ e, Nonempty (Val e)] (o : ℕ) (inb : ∀ a, (![o, 0] : Fin 2 → ℕ) a + (![512, 128] : Fin 2 → ℕ) a ≤ (⟨2, ![2048, 128]⟩ : Shape).size a) (w : (Rect.unit (s := ⟨2, ![2048, 128]⟩) ![o, 0] ![512, 128] inb).shape.Idx → Val e) (L : List (Piece Val ⟨2, ![2048, 128]⟩ e)) (j : Fin 512) (d : Fin 128) (h : o + j.val < 2048) :
    View.canon ((⟨Rect.unit ![o, 0] ![512, 128] inb, w⟩ : Piece Val ⟨2, ![2048, 128]⟩ e) :: L) (ix2 ⟨o + j.val, h⟩ d) = w (ix2 j d) :=
  canon_hit inb w L _ (ix2 j d) (by intro a; fin_cases a <;> simp [ix2, ix3])

/-- The newest chunk of the value's gradient, at a row outside it. -/
theorem canon_miss_v [∀ e, Nonempty (Val e)] (o : ℕ) (inb : ∀ a, (![o, 0] : Fin 2 → ℕ) a + (![512, 128] : Fin 2 → ℕ) a ≤ (⟨2, ![2048, 128]⟩ : Shape).size a) (w : (Rect.unit (s := ⟨2, ![2048, 128]⟩) ![o, 0] ![512, 128] inb).shape.Idx → Val e) (L : List (Piece Val ⟨2, ![2048, 128]⟩ e)) (k : ℕ) (hk : k < 2048) (d : Fin 128) (h : k < o ∨ o + 512 ≤ k) :
    View.canon ((⟨Rect.unit ![o, 0] ![512, 128] inb, w⟩ : Piece Val ⟨2, ![2048, 128]⟩ e) :: L) (ix2 ⟨k, hk⟩ d) = View.canon L (ix2 ⟨k, hk⟩ d) :=
  canon_miss inb w L _ (0 : Fin 2) h

/-- The newest chunk stored over the value's gradient, at one of its rows. -/
theorem read_hit_v (v : View sig κ sp ⟨2, ![2048, 128]⟩ e) (f : v.ty.Contents Val) (o : ℕ) (inb : ∀ a, (![o, 0] : Fin 2 → ℕ) a + (![512, 128] : Fin 2 → ℕ) a ≤ (⟨2, ![2048, 128]⟩ : Shape).size a) (w : (Rect.unit (s := ⟨2, ![2048, 128]⟩) ![o, 0] ![512, 128] inb).shape.Idx → Val e) (L : List (Piece Val ⟨2, ![2048, 128]⟩ e)) (j : Fin 512) (d : Fin 128) (h : o + j.val < 2048) :
    v.read Val (v.writes Val f ((⟨Rect.unit ![o, 0] ![512, 128] inb, w⟩ : Piece Val ⟨2, ![2048, 128]⟩ e) :: L)) (ix2 ⟨o + j.val, h⟩ d) = w (ix2 j d) :=
  read_writes_cons_unit_of_mem v f inb w L _ (ix2 j d) rfl (by intro a; fin_cases a <;> simp [ix2, ix3])

/-- The newest chunk stored over the value's gradient, at a row outside it. -/
theorem read_miss_v (v : View sig κ sp ⟨2, ![2048, 128]⟩ e) (f : v.ty.Contents Val) (o : ℕ) (inb : ∀ a, (![o, 0] : Fin 2 → ℕ) a + (![512, 128] : Fin 2 → ℕ) a ≤ (⟨2, ![2048, 128]⟩ : Shape).size a) (w : (Rect.unit (s := ⟨2, ![2048, 128]⟩) ![o, 0] ![512, 128] inb).shape.Idx → Val e) (L : List (Piece Val ⟨2, ![2048, 128]⟩ e)) (k : ℕ) (hk : k < 2048) (d : Fin 128) (h : k < o ∨ o + 512 ≤ k) :
    v.read Val (v.writes Val f ((⟨Rect.unit ![o, 0] ![512, 128] inb, w⟩ : Piece Val ⟨2, ![2048, 128]⟩ e) :: L)) (ix2 ⟨k, hk⟩ d) = v.read Val (v.writes Val f L) (ix2 ⟨k, hk⟩ d) :=
  read_writes_cons_unit_of_not_mem v f inb w L _ rfl (0 : Fin 2) h

/-- The newest chunk of the bias's gradient, at one of its rows. -/
theorem canon_hit_c [∀ e, Nonempty (Val e)] (o : ℕ) (inb : ∀ a, (![0, 0, o] : Fin 3 → ℕ) a + (![1, 1, 512] : Fin 3 → ℕ) a ≤ (⟨3, ![1, 1, 2048]⟩ : Shape).size a) (w : (Rect.unit (s := ⟨3, ![1, 1, 2048]⟩) ![0, 0, o] ![1, 1, 512] inb).shape.Idx → Val e) (L : List (Piece Val ⟨3, ![1, 1, 2048]⟩ e)) (j : Fin 512)  (h : o + j.val < 2048) :
    View.canon ((⟨Rect.unit ![0, 0, o] ![1, 1, 512] inb, w⟩ : Piece Val ⟨3, ![1, 1, 2048]⟩ e) :: L) (ix3 0 0 ⟨o + j.val, h⟩) = w (ix3 0 0 j) :=
  canon_hit inb w L _ (ix3 0 0 j) (by intro a; fin_cases a <;> simp [ix2, ix3])

/-- The newest chunk of the bias's gradient, at a row outside it. -/
theorem canon_miss_c [∀ e, Nonempty (Val e)] (o : ℕ) (inb : ∀ a, (![0, 0, o] : Fin 3 → ℕ) a + (![1, 1, 512] : Fin 3 → ℕ) a ≤ (⟨3, ![1, 1, 2048]⟩ : Shape).size a) (w : (Rect.unit (s := ⟨3, ![1, 1, 2048]⟩) ![0, 0, o] ![1, 1, 512] inb).shape.Idx → Val e) (L : List (Piece Val ⟨3, ![1, 1, 2048]⟩ e)) (k : ℕ) (hk : k < 2048)  (h : k < o ∨ o + 512 ≤ k) :
    View.canon ((⟨Rect.unit ![0, 0, o] ![1, 1, 512] inb, w⟩ : Piece Val ⟨3, ![1, 1, 2048]⟩ e) :: L) (ix3 0 0 ⟨k, hk⟩) = View.canon L (ix3 0 0 ⟨k, hk⟩) :=
  canon_miss inb w L _ (2 : Fin 3) h

/-- The newest chunk stored over the bias's gradient, at one of its rows. -/
theorem read_hit_c (v : View sig κ sp ⟨3, ![1, 1, 2048]⟩ e) (f : v.ty.Contents Val) (o : ℕ) (inb : ∀ a, (![0, 0, o] : Fin 3 → ℕ) a + (![1, 1, 512] : Fin 3 → ℕ) a ≤ (⟨3, ![1, 1, 2048]⟩ : Shape).size a) (w : (Rect.unit (s := ⟨3, ![1, 1, 2048]⟩) ![0, 0, o] ![1, 1, 512] inb).shape.Idx → Val e) (L : List (Piece Val ⟨3, ![1, 1, 2048]⟩ e)) (j : Fin 512)  (h : o + j.val < 2048) :
    v.read Val (v.writes Val f ((⟨Rect.unit ![0, 0, o] ![1, 1, 512] inb, w⟩ : Piece Val ⟨3, ![1, 1, 2048]⟩ e) :: L)) (ix3 0 0 ⟨o + j.val, h⟩) = w (ix3 0 0 j) :=
  read_writes_cons_unit_of_mem v f inb w L _ (ix3 0 0 j) rfl (by intro a; fin_cases a <;> simp [ix2, ix3])

/-- The newest chunk stored over the bias's gradient, at a row outside it. -/
theorem read_miss_c (v : View sig κ sp ⟨3, ![1, 1, 2048]⟩ e) (f : v.ty.Contents Val) (o : ℕ) (inb : ∀ a, (![0, 0, o] : Fin 3 → ℕ) a + (![1, 1, 512] : Fin 3 → ℕ) a ≤ (⟨3, ![1, 1, 2048]⟩ : Shape).size a) (w : (Rect.unit (s := ⟨3, ![1, 1, 2048]⟩) ![0, 0, o] ![1, 1, 512] inb).shape.Idx → Val e) (L : List (Piece Val ⟨3, ![1, 1, 2048]⟩ e)) (k : ℕ) (hk : k < 2048)  (h : k < o ∨ o + 512 ≤ k) :
    v.read Val (v.writes Val f ((⟨Rect.unit ![0, 0, o] ![1, 1, 512] inb, w⟩ : Piece Val ⟨3, ![1, 1, 2048]⟩ e) :: L)) (ix3 0 0 ⟨k, hk⟩) = v.read Val (v.writes Val f L) (ix3 0 0 ⟨k, hk⟩) :=
  read_writes_cons_unit_of_not_mem v f inb w L _ rfl (2 : Fin 3) h

/-- A load from a buffer that one store has filled reads that store's payload. -/
theorem load_whole [∀ e, Nonempty (Val e)] (v : View sig κ sp s e) {off : Fin s.rank → ℕ} (h : ∀ a, off a = 0)
    (inb : ∀ a, off a + s.size a ≤ s.size a) (w : s.Idx → Val e) (r : Rect s) :
    v.readCov [(⟨Rect.unit off (no_index s.size) inb, w⟩ : Piece Val s e)] r.toLoadRect = View.ld w r := by
  have ho : off = fun _ => 0 := funext h
  rw [readCov_eq_canon_ld _ _ _ fun y => ⟨_, List.mem_singleton_self _, mem_set_unit_zero ho inb y⟩, canon_unit_zero ho]

end Cert.Fox

end
-- ==== Proof.Cols.lean ====
/- The three results accumulated over a head's query tiles, the gradients of the key, of the value and of the key's
   bias: what the point of head `h` and tile `i` leaves, from what the tile before left. -/
module

public import proofs.«01_k».proof.Proof.Step
public import proofs.«01_k».proof.Proof.Tiles

@[expose] public section

set_option maxRecDepth 16384

noncomputable section

namespace Cert.Fox

open Idealize.ShloMosaic Finset Cert.KernelIdeal Cert.KernelIdeal.Gen

variable {x : Data} (m : (ℓ : Loc nD τ sig) → Buf (Elt Ideal) ℓ) (c : Dev nD)

/-- At the first query tile of a head the point leaves the key's gradient of the queries so far. -/
theorem dk_A (hσ : x.σ = scale) (t : Fin cfg0.N) (b : BlkAt m c x t) (h0 : t.val % 8 = 0) (h2 : ¬2 ≤ t.val % 8) (h3 : ¬4 ≤ t.val % 8) (h4 : ¬6 ≤ t.val % 8)
    (k : Fin 2048) (d : Fin 128) : (outsAt0 m c t.val t.isLt).2.1 (ix3 0 k d) = (x.dk (256 * (t.val % 8 + 1)) (t.val / 8) k.val d.val : EReal) := by
  rw [outsAt0_A m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    rw [load_whole _ (by decide)]
    pointwise [k0_pay22, k0_pay33, k0_pay44, k0_pay20, k0_pay31, k0_pay42, k0_pay19, k0_pay30, k0_pay41, k0_pay48]
    have e := dk_sum (h := t.val / 8) (i := t.val % 8) hσ 0 j d
    simp only [Nat.mul_zero, Nat.zero_add] at e
    rw [e, Attn.dk_succ, h0, Nat.mul_zero, Attn.dk_none, zero_add]
  · frame_out
    simp (disch := omega) only [canon_hit_k, canon_miss_k, read_hit_k, read_miss_k]
    rw [View.canon_cons_unit_lit _ _ _ (by decide), Attn.dk_succ, h0, Nat.mul_zero, Attn.dk_none, Attn.dkT_zero x (by first | omega | (simp only; omega))]
    pointwise [k0_pay48]
    simp
  · frame_out
    simp (disch := omega) only [canon_hit_k, canon_miss_k, read_hit_k, read_miss_k]
    rw [View.canon_cons_unit_lit _ _ _ (by decide), Attn.dk_succ, h0, Nat.mul_zero, Attn.dk_none, Attn.dkT_zero x (by first | omega | (simp only; omega))]
    pointwise [k0_pay48]
    simp
  · frame_out
    simp (disch := omega) only [canon_hit_k, canon_miss_k, read_hit_k, read_miss_k]
    rw [View.canon_cons_unit_lit _ _ _ (by decide), Attn.dk_succ, h0, Nat.mul_zero, Attn.dk_none, Attn.dkT_zero x (by first | omega | (simp only; omega))]
    pointwise [k0_pay48]
    simp

/-- At the second query tile the point leaves the key's gradient of the queries so far. -/
theorem dk_B (hσ : x.σ = scale) (t : Fin cfg0.N) (b : BlkAt m c x t) (h0 : ¬t.val % 8 = 0) (h2 : ¬2 ≤ t.val % 8) (h3 : ¬4 ≤ t.val % 8) (h4 : ¬6 ≤ t.val % 8)
    (hprev : ∀ (k : Fin 2048) (d : Fin 128), (outsAt0 m c (t.val - 1) (Nat.lt_of_le_of_lt (Nat.sub_le _ _) t.isLt)).2.1 (ix3 0 k d) = (x.dk (256 * (t.val % 8)) (t.val / 8) k.val d.val : EReal))
    (k : Fin 2048) (d : Fin 128) : (outsAt0 m c t.val t.isLt).2.1 (ix3 0 k d) = (x.dk (256 * (t.val % 8 + 1)) (t.val / 8) k.val d.val : EReal) := by
  rw [outsAt0_B m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 0 j d
    simp only [Nat.mul_zero, Nat.zero_add] at e
    rw [hprev, e, Attn.dk_succ, EReal.coe_add]
  · frame_out
    simp (disch := omega) only [canon_hit_k, canon_miss_k, read_hit_k, read_miss_k]
    rw [Attn.dk_succ, Attn.dkT_zero x (by first | omega | (simp only; omega)), add_zero]
    exact (congrFun ((hs0_9 t).read_unread _) _).trans (hprev ⟨512 + j, by omega⟩ d)
  · frame_out
    simp (disch := omega) only [canon_hit_k, canon_miss_k, read_hit_k, read_miss_k]
    rw [Attn.dk_succ, Attn.dkT_zero x (by first | omega | (simp only; omega)), add_zero]
    exact (congrFun ((hs0_9 t).read_unread _) _).trans (hprev ⟨1024 + j, by omega⟩ d)
  · frame_out
    simp (disch := omega) only [canon_hit_k, canon_miss_k, read_hit_k, read_miss_k]
    rw [Attn.dk_succ, Attn.dkT_zero x (by first | omega | (simp only; omega)), add_zero]
    exact (congrFun ((hs0_9 t).read_unread _) _).trans (hprev ⟨1536 + j, by omega⟩ d)

/-- At the third or fourth query tile the point leaves the key's gradient of the queries so far. -/
theorem dk_C (hσ : x.σ = scale) (t : Fin cfg0.N) (b : BlkAt m c x t) (h0 : ¬t.val % 8 = 0) (h2 : 2 ≤ t.val % 8) (h3 : ¬4 ≤ t.val % 8) (h4 : ¬6 ≤ t.val % 8)
    (hprev : ∀ (k : Fin 2048) (d : Fin 128), (outsAt0 m c (t.val - 1) (Nat.lt_of_le_of_lt (Nat.sub_le _ _) t.isLt)).2.1 (ix3 0 k d) = (x.dk (256 * (t.val % 8)) (t.val / 8) k.val d.val : EReal))
    (k : Fin 2048) (d : Fin 128) : (outsAt0 m c t.val t.isLt).2.1 (ix3 0 k d) = (x.dk (256 * (t.val % 8 + 1)) (t.val / 8) k.val d.val : EReal) := by
  rw [outsAt0_C m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 0 j d
    simp only [Nat.mul_zero, Nat.zero_add] at e
    rw [hprev, e, Attn.dk_succ, EReal.coe_add]
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 1 j d
    rw [hprev, e, Attn.dk_succ, EReal.coe_add]
  · frame_out
    simp (disch := omega) only [canon_hit_k, canon_miss_k, read_hit_k, read_miss_k]
    rw [Attn.dk_succ, Attn.dkT_zero x (by first | omega | (simp only; omega)), add_zero]
    exact (congrFun ((hs0_9 t).read_unread _) _).trans (hprev ⟨1024 + j, by omega⟩ d)
  · frame_out
    simp (disch := omega) only [canon_hit_k, canon_miss_k, read_hit_k, read_miss_k]
    rw [Attn.dk_succ, Attn.dkT_zero x (by first | omega | (simp only; omega)), add_zero]
    exact (congrFun ((hs0_9 t).read_unread _) _).trans (hprev ⟨1536 + j, by omega⟩ d)

/-- At the fifth or sixth query tile the point leaves the key's gradient of the queries so far. -/
theorem dk_D (hσ : x.σ = scale) (t : Fin cfg0.N) (b : BlkAt m c x t) (h0 : ¬t.val % 8 = 0) (h2 : 2 ≤ t.val % 8) (h3 : 4 ≤ t.val % 8) (h4 : ¬6 ≤ t.val % 8)
    (hprev : ∀ (k : Fin 2048) (d : Fin 128), (outsAt0 m c (t.val - 1) (Nat.lt_of_le_of_lt (Nat.sub_le _ _) t.isLt)).2.1 (ix3 0 k d) = (x.dk (256 * (t.val % 8)) (t.val / 8) k.val d.val : EReal))
    (k : Fin 2048) (d : Fin 128) : (outsAt0 m c t.val t.isLt).2.1 (ix3 0 k d) = (x.dk (256 * (t.val % 8 + 1)) (t.val / 8) k.val d.val : EReal) := by
  rw [outsAt0_D m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 0 j d
    simp only [Nat.mul_zero, Nat.zero_add] at e
    rw [hprev, e, Attn.dk_succ, EReal.coe_add]
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 1 j d
    rw [hprev, e, Attn.dk_succ, EReal.coe_add]
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 2 j d
    rw [hprev, e, Attn.dk_succ, EReal.coe_add]
  · frame_out
    simp (disch := omega) only [canon_hit_k, canon_miss_k, read_hit_k, read_miss_k]
    rw [Attn.dk_succ, Attn.dkT_zero x (by first | omega | (simp only; omega)), add_zero]
    exact (congrFun ((hs0_9 t).read_unread _) _).trans (hprev ⟨1536 + j, by omega⟩ d)

/-- At the last two query tiles the point leaves the key's gradient of the queries so far. -/
theorem dk_E (hσ : x.σ = scale) (t : Fin cfg0.N) (b : BlkAt m c x t) (h0 : ¬t.val % 8 = 0) (h2 : 2 ≤ t.val % 8) (h3 : 4 ≤ t.val % 8) (h4 : 6 ≤ t.val % 8)
    (hprev : ∀ (k : Fin 2048) (d : Fin 128), (outsAt0 m c (t.val - 1) (Nat.lt_of_le_of_lt (Nat.sub_le _ _) t.isLt)).2.1 (ix3 0 k d) = (x.dk (256 * (t.val % 8)) (t.val / 8) k.val d.val : EReal))
    (k : Fin 2048) (d : Fin 128) : (outsAt0 m c t.val t.isLt).2.1 (ix3 0 k d) = (x.dk (256 * (t.val % 8 + 1)) (t.val / 8) k.val d.val : EReal) := by
  rw [outsAt0_E m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 0 j d
    simp only [Nat.mul_zero, Nat.zero_add] at e
    rw [hprev, e, Attn.dk_succ, EReal.coe_add]
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 1 j d
    rw [hprev, e, Attn.dk_succ, EReal.coe_add]
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 2 j d
    rw [hprev, e, Attn.dk_succ, EReal.coe_add]
  · frame_out
    simp (disch := omega) only [canon_hit_k, canon_miss_k, read_hit_k, read_miss_k]
    simp only [coord1, ↓pF0 b hσ hi, ↓pF1 b hσ hi, ↓pF2 b hσ hi, ↓pF3 b hσ hi, ↓gF0 b, ↓gF1 b, ↓gF2 b, ↓gF3 b]
    simp only [qF_eq b]
    pointwise [k0_pay22, k0_pay33, k0_pay44, k0_pay20, k0_pay31, k0_pay42, k0_pay19, k0_pay30, k0_pay41, k0_pay48]
    have e := dk_sum (h := t.val / 8) (i := t.val % 8) hσ 3 j d
    rw [hprev, e, Attn.dk_succ, EReal.coe_add]

/-- At the first query tile of a head the point leaves the value's gradient of the queries so far. -/
theorem dv_A (hσ : x.σ = scale) (t : Fin cfg0.N) (b : BlkAt m c x t) (h0 : t.val % 8 = 0) (h2 : ¬2 ≤ t.val % 8) (h3 : ¬4 ≤ t.val % 8) (h4 : ¬6 ≤ t.val % 8)
    (k : Fin 2048) (d : Fin 128) : (outsAt0 m c t.val t.isLt).2.2.1 (ix2 k d) = (x.dv (256 * (t.val % 8 + 1)) (t.val / 8) k.val d.val : EReal) := by
  rw [outsAt0_A m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    rw [load_whole _ (by decide)]
    pointwise [k0_pay6, k0_pay17, k0_pay28, k0_pay39, k0_pay49]
    simp only [↓pF0 b hσ hi]
    have e := dv_sum b 0 j d
    simp only [Nat.mul_zero, Nat.zero_add] at e
    rw [e, Attn.dv_succ, h0, Nat.mul_zero, Attn.dv_none, zero_add]
  · frame_out
    simp (disch := omega) only [canon_hit_v, canon_miss_v, read_hit_v, read_miss_v]
    rw [View.canon_cons_unit_lit _ _ _ (by decide), Attn.dv_succ, h0, Nat.mul_zero, Attn.dv_none, Attn.dvT_zero x (by first | omega | (simp only; omega))]
    pointwise [k0_pay49]
    simp
  · frame_out
    simp (disch := omega) only [canon_hit_v, canon_miss_v, read_hit_v, read_miss_v]
    rw [View.canon_cons_unit_lit _ _ _ (by decide), Attn.dv_succ, h0, Nat.mul_zero, Attn.dv_none, Attn.dvT_zero x (by first | omega | (simp only; omega))]
    pointwise [k0_pay49]
    simp
  · frame_out
    simp (disch := omega) only [canon_hit_v, canon_miss_v, read_hit_v, read_miss_v]
    rw [View.canon_cons_unit_lit _ _ _ (by decide), Attn.dv_succ, h0, Nat.mul_zero, Attn.dv_none, Attn.dvT_zero x (by first | omega | (simp only; omega))]
    pointwise [k0_pay49]
    simp

/-- At the second query tile the point leaves the value's gradient of the queries so far. -/
theorem dv_B (hσ : x.σ = scale) (t : Fin cfg0.N) (b : BlkAt m c x t) (h0 : ¬t.val % 8 = 0) (h2 : ¬2 ≤ t.val % 8) (h3 : ¬4 ≤ t.val % 8) (h4 : ¬6 ≤ t.val % 8)
    (hprev : ∀ (k : Fin 2048) (d : Fin 128), (outsAt0 m c (t.val - 1) (Nat.lt_of_le_of_lt (Nat.sub_le _ _) t.isLt)).2.2.1 (ix2 k d) = (x.dv (256 * (t.val % 8)) (t.val / 8) k.val d.val : EReal))
    (k : Fin 2048) (d : Fin 128) : (outsAt0 m c t.val t.isLt).2.2.1 (ix2 k d) = (x.dv (256 * (t.val % 8 + 1)) (t.val / 8) k.val d.val : EReal) := by
  rw [outsAt0_B m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF0 b hσ hi]
    have e := dv_sum b 0 j d
    simp only [Nat.mul_zero, Nat.zero_add] at e
    rw [hprev, e, Attn.dv_succ, EReal.coe_add]
  · frame_out
    simp (disch := omega) only [canon_hit_v, canon_miss_v, read_hit_v, read_miss_v]
    rw [Attn.dv_succ, Attn.dvT_zero x (by first | omega | (simp only; omega)), add_zero]
    exact (congrFun ((hs0_10 t).read_unread _) _).trans (hprev ⟨512 + j, by omega⟩ d)
  · frame_out
    simp (disch := omega) only [canon_hit_v, canon_miss_v, read_hit_v, read_miss_v]
    rw [Attn.dv_succ, Attn.dvT_zero x (by first | omega | (simp only; omega)), add_zero]
    exact (congrFun ((hs0_10 t).read_unread _) _).trans (hprev ⟨1024 + j, by omega⟩ d)
  · frame_out
    simp (disch := omega) only [canon_hit_v, canon_miss_v, read_hit_v, read_miss_v]
    rw [Attn.dv_succ, Attn.dvT_zero x (by first | omega | (simp only; omega)), add_zero]
    exact (congrFun ((hs0_10 t).read_unread _) _).trans (hprev ⟨1536 + j, by omega⟩ d)

/-- At the third or fourth query tile the point leaves the value's gradient of the queries so far. -/
theorem dv_C (hσ : x.σ = scale) (t : Fin cfg0.N) (b : BlkAt m c x t) (h0 : ¬t.val % 8 = 0) (h2 : 2 ≤ t.val % 8) (h3 : ¬4 ≤ t.val % 8) (h4 : ¬6 ≤ t.val % 8)
    (hprev : ∀ (k : Fin 2048) (d : Fin 128), (outsAt0 m c (t.val - 1) (Nat.lt_of_le_of_lt (Nat.sub_le _ _) t.isLt)).2.2.1 (ix2 k d) = (x.dv (256 * (t.val % 8)) (t.val / 8) k.val d.val : EReal))
    (k : Fin 2048) (d : Fin 128) : (outsAt0 m c t.val t.isLt).2.2.1 (ix2 k d) = (x.dv (256 * (t.val % 8 + 1)) (t.val / 8) k.val d.val : EReal) := by
  rw [outsAt0_C m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF0 b hσ hi]
    have e := dv_sum b 0 j d
    simp only [Nat.mul_zero, Nat.zero_add] at e
    rw [hprev, e, Attn.dv_succ, EReal.coe_add]
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF1 b hσ hi]
    have e := dv_sum b 1 j d
    rw [hprev, e, Attn.dv_succ, EReal.coe_add]
  · frame_out
    simp (disch := omega) only [canon_hit_v, canon_miss_v, read_hit_v, read_miss_v]
    rw [Attn.dv_succ, Attn.dvT_zero x (by first | omega | (simp only; omega)), add_zero]
    exact (congrFun ((hs0_10 t).read_unread _) _).trans (hprev ⟨1024 + j, by omega⟩ d)
  · frame_out
    simp (disch := omega) only [canon_hit_v, canon_miss_v, read_hit_v, read_miss_v]
    rw [Attn.dv_succ, Attn.dvT_zero x (by first | omega | (simp only; omega)), add_zero]
    exact (congrFun ((hs0_10 t).read_unread _) _).trans (hprev ⟨1536 + j, by omega⟩ d)

/-- At the fifth or sixth query tile the point leaves the value's gradient of the queries so far. -/
theorem dv_D (hσ : x.σ = scale) (t : Fin cfg0.N) (b : BlkAt m c x t) (h0 : ¬t.val % 8 = 0) (h2 : 2 ≤ t.val % 8) (h3 : 4 ≤ t.val % 8) (h4 : ¬6 ≤ t.val % 8)
    (hprev : ∀ (k : Fin 2048) (d : Fin 128), (outsAt0 m c (t.val - 1) (Nat.lt_of_le_of_lt (Nat.sub_le _ _) t.isLt)).2.2.1 (ix2 k d) = (x.dv (256 * (t.val % 8)) (t.val / 8) k.val d.val : EReal))
    (k : Fin 2048) (d : Fin 128) : (outsAt0 m c t.val t.isLt).2.2.1 (ix2 k d) = (x.dv (256 * (t.val % 8 + 1)) (t.val / 8) k.val d.val : EReal) := by
  rw [outsAt0_D m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF0 b hσ hi]
    have e := dv_sum b 0 j d
    simp only [Nat.mul_zero, Nat.zero_add] at e
    rw [hprev, e, Attn.dv_succ, EReal.coe_add]
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF1 b hσ hi]
    have e := dv_sum b 1 j d
    rw [hprev, e, Attn.dv_succ, EReal.coe_add]
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF2 b hσ hi]
    have e := dv_sum b 2 j d
    rw [hprev, e, Attn.dv_succ, EReal.coe_add]
  · frame_out
    simp (disch := omega) only [canon_hit_v, canon_miss_v, read_hit_v, read_miss_v]
    rw [Attn.dv_succ, Attn.dvT_zero x (by first | omega | (simp only; omega)), add_zero]
    exact (congrFun ((hs0_10 t).read_unread _) _).trans (hprev ⟨1536 + j, by omega⟩ d)

/-- At the last two query tiles the point leaves the value's gradient of the queries so far. -/
theorem dv_E (hσ : x.σ = scale) (t : Fin cfg0.N) (b : BlkAt m c x t) (h0 : ¬t.val % 8 = 0) (h2 : 2 ≤ t.val % 8) (h3 : 4 ≤ t.val % 8) (h4 : 6 ≤ t.val % 8)
    (hprev : ∀ (k : Fin 2048) (d : Fin 128), (outsAt0 m c (t.val - 1) (Nat.lt_of_le_of_lt (Nat.sub_le _ _) t.isLt)).2.2.1 (ix2 k d) = (x.dv (256 * (t.val % 8)) (t.val / 8) k.val d.val : EReal))
    (k : Fin 2048) (d : Fin 128) : (outsAt0 m c t.val t.isLt).2.2.1 (ix2 k d) = (x.dv (256 * (t.val % 8 + 1)) (t.val / 8) k.val d.val : EReal) := by
  rw [outsAt0_E m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF0 b hσ hi]
    have e := dv_sum b 0 j d
    simp only [Nat.mul_zero, Nat.zero_add] at e
    rw [hprev, e, Attn.dv_succ, EReal.coe_add]
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF1 b hσ hi]
    have e := dv_sum b 1 j d
    rw [hprev, e, Attn.dv_succ, EReal.coe_add]
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF2 b hσ hi]
    have e := dv_sum b 2 j d
    rw [hprev, e, Attn.dv_succ, EReal.coe_add]
  · frame_out
    simp (disch := omega) only [canon_hit_v, canon_miss_v, read_hit_v, read_miss_v]
    simp only [coord1, ↓pF0 b hσ hi, ↓pF1 b hσ hi, ↓pF2 b hσ hi, ↓pF3 b hσ hi, ↓gF0 b, ↓gF1 b, ↓gF2 b, ↓gF3 b]
    pointwise [k0_pay6, k0_pay17, k0_pay28, k0_pay39, k0_pay49]
    simp only [↓pF3 b hσ hi]
    have e := dv_sum b 3 j d
    rw [hprev, e, Attn.dv_succ, EReal.coe_add]

/-- At the first query tile of a head the point leaves the key's bias's gradient of the queries so far. -/
theorem dck_A (hσ : x.σ = scale) (t : Fin cfg0.N) (b : BlkAt m c x t) (h0 : t.val % 8 = 0) (h2 : ¬2 ≤ t.val % 8) (h3 : ¬4 ≤ t.val % 8) (h4 : ¬6 ≤ t.val % 8)
    (k : Fin 2048) : (outsAt0 m c t.val t.isLt).2.2.2.2 (ix3 0 0 k) = (x.dck (256 * (t.val % 8 + 1)) (t.val / 8) k.val : EReal) := by
  rw [outsAt0_A m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    rw [load_whole _ (by decide)]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 0 j
    simp only [Nat.mul_zero, Nat.zero_add] at e
    rw [e, Attn.dck_succ, h0, Nat.mul_zero, Attn.dck_none, zero_add]
    norm_num
  · frame_out
    simp (disch := omega) only [canon_hit_c, canon_miss_c, read_hit_c, read_miss_c]
    rw [View.canon_cons_unit_lit _ _ _ (by decide), Attn.dck_succ, h0, Nat.mul_zero, Attn.dck_none, Attn.dckT_zero x (by first | omega | (simp only; omega))]
    pointwise [k0_pay50]
    simp
  · frame_out
    simp (disch := omega) only [canon_hit_c, canon_miss_c, read_hit_c, read_miss_c]
    rw [View.canon_cons_unit_lit _ _ _ (by decide), Attn.dck_succ, h0, Nat.mul_zero, Attn.dck_none, Attn.dckT_zero x (by first | omega | (simp only; omega))]
    pointwise [k0_pay50]
    simp
  · frame_out
    simp (disch := omega) only [canon_hit_c, canon_miss_c, read_hit_c, read_miss_c]
    rw [View.canon_cons_unit_lit _ _ _ (by decide), Attn.dck_succ, h0, Nat.mul_zero, Attn.dck_none, Attn.dckT_zero x (by first | omega | (simp only; omega))]
    pointwise [k0_pay50]
    simp

/-- At the second query tile the point leaves the key's bias's gradient of the queries so far. -/
theorem dck_B (hσ : x.σ = scale) (t : Fin cfg0.N) (b : BlkAt m c x t) (h0 : ¬t.val % 8 = 0) (h2 : ¬2 ≤ t.val % 8) (h3 : ¬4 ≤ t.val % 8) (h4 : ¬6 ≤ t.val % 8)
    (hprev : ∀ k : Fin 2048, (outsAt0 m c (t.val - 1) (Nat.lt_of_le_of_lt (Nat.sub_le _ _) t.isLt)).2.2.2.2 (ix3 0 0 k) = (x.dck (256 * (t.val % 8)) (t.val / 8) k.val : EReal))
    (k : Fin 2048) : (outsAt0 m c t.val t.isLt).2.2.2.2 (ix3 0 0 k) = (x.dck (256 * (t.val % 8 + 1)) (t.val / 8) k.val : EReal) := by
  rw [outsAt0_B m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 0 j
    simp only [Nat.mul_zero, Nat.zero_add] at e
    rw [hprev, e, Attn.dck_succ, EReal.coe_add, EReal.coe_sub, EReal.coe_zero]
  · frame_out
    simp (disch := omega) only [canon_hit_c, canon_miss_c, read_hit_c, read_miss_c]
    rw [Attn.dck_succ, Attn.dckT_zero x (by first | omega | (simp only; omega)), sub_zero, add_zero]
    exact (congrFun ((hs0_12 t).read_unread _) _).trans (hprev ⟨512 + j, by omega⟩)
  · frame_out
    simp (disch := omega) only [canon_hit_c, canon_miss_c, read_hit_c, read_miss_c]
    rw [Attn.dck_succ, Attn.dckT_zero x (by first | omega | (simp only; omega)), sub_zero, add_zero]
    exact (congrFun ((hs0_12 t).read_unread _) _).trans (hprev ⟨1024 + j, by omega⟩)
  · frame_out
    simp (disch := omega) only [canon_hit_c, canon_miss_c, read_hit_c, read_miss_c]
    rw [Attn.dck_succ, Attn.dckT_zero x (by first | omega | (simp only; omega)), sub_zero, add_zero]
    exact (congrFun ((hs0_12 t).read_unread _) _).trans (hprev ⟨1536 + j, by omega⟩)

/-- At the third or fourth query tile the point leaves the key's bias's gradient of the queries so far. -/
theorem dck_C (hσ : x.σ = scale) (t : Fin cfg0.N) (b : BlkAt m c x t) (h0 : ¬t.val % 8 = 0) (h2 : 2 ≤ t.val % 8) (h3 : ¬4 ≤ t.val % 8) (h4 : ¬6 ≤ t.val % 8)
    (hprev : ∀ k : Fin 2048, (outsAt0 m c (t.val - 1) (Nat.lt_of_le_of_lt (Nat.sub_le _ _) t.isLt)).2.2.2.2 (ix3 0 0 k) = (x.dck (256 * (t.val % 8)) (t.val / 8) k.val : EReal))
    (k : Fin 2048) : (outsAt0 m c t.val t.isLt).2.2.2.2 (ix3 0 0 k) = (x.dck (256 * (t.val % 8 + 1)) (t.val / 8) k.val : EReal) := by
  rw [outsAt0_C m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 0 j
    simp only [Nat.mul_zero, Nat.zero_add] at e
    rw [hprev, e, Attn.dck_succ, EReal.coe_add, EReal.coe_sub, EReal.coe_zero]
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 1 j
    rw [hprev, e, Attn.dck_succ, EReal.coe_add, EReal.coe_sub, EReal.coe_zero]
  · frame_out
    simp (disch := omega) only [canon_hit_c, canon_miss_c, read_hit_c, read_miss_c]
    rw [Attn.dck_succ, Attn.dckT_zero x (by first | omega | (simp only; omega)), sub_zero, add_zero]
    exact (congrFun ((hs0_12 t).read_unread _) _).trans (hprev ⟨1024 + j, by omega⟩)
  · frame_out
    simp (disch := omega) only [canon_hit_c, canon_miss_c, read_hit_c, read_miss_c]
    rw [Attn.dck_succ, Attn.dckT_zero x (by first | omega | (simp only; omega)), sub_zero, add_zero]
    exact (congrFun ((hs0_12 t).read_unread _) _).trans (hprev ⟨1536 + j, by omega⟩)

/-- At the fifth or sixth query tile the point leaves the key's bias's gradient of the queries so far. -/
theorem dck_D (hσ : x.σ = scale) (t : Fin cfg0.N) (b : BlkAt m c x t) (h0 : ¬t.val % 8 = 0) (h2 : 2 ≤ t.val % 8) (h3 : 4 ≤ t.val % 8) (h4 : ¬6 ≤ t.val % 8)
    (hprev : ∀ k : Fin 2048, (outsAt0 m c (t.val - 1) (Nat.lt_of_le_of_lt (Nat.sub_le _ _) t.isLt)).2.2.2.2 (ix3 0 0 k) = (x.dck (256 * (t.val % 8)) (t.val / 8) k.val : EReal))
    (k : Fin 2048) : (outsAt0 m c t.val t.isLt).2.2.2.2 (ix3 0 0 k) = (x.dck (256 * (t.val % 8 + 1)) (t.val / 8) k.val : EReal) := by
  rw [outsAt0_D m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 0 j
    simp only [Nat.mul_zero, Nat.zero_add] at e
    rw [hprev, e, Attn.dck_succ, EReal.coe_add, EReal.coe_sub, EReal.coe_zero]
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 1 j
    rw [hprev, e, Attn.dck_succ, EReal.coe_add, EReal.coe_sub, EReal.coe_zero]
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 2 j
    rw [hprev, e, Attn.dck_succ, EReal.coe_add, EReal.coe_sub, EReal.coe_zero]
  · frame_out
    simp (disch := omega) only [canon_hit_c, canon_miss_c, read_hit_c, read_miss_c]
    rw [Attn.dck_succ, Attn.dckT_zero x (by first | omega | (simp only; omega)), sub_zero, add_zero]
    exact (congrFun ((hs0_12 t).read_unread _) _).trans (hprev ⟨1536 + j, by omega⟩)

/-- At the last two query tiles the point leaves the key's bias's gradient of the queries so far. -/
theorem dck_E (hσ : x.σ = scale) (t : Fin cfg0.N) (b : BlkAt m c x t) (h0 : ¬t.val % 8 = 0) (h2 : 2 ≤ t.val % 8) (h3 : 4 ≤ t.val % 8) (h4 : 6 ≤ t.val % 8)
    (hprev : ∀ k : Fin 2048, (outsAt0 m c (t.val - 1) (Nat.lt_of_le_of_lt (Nat.sub_le _ _) t.isLt)).2.2.2.2 (ix3 0 0 k) = (x.dck (256 * (t.val % 8)) (t.val / 8) k.val : EReal))
    (k : Fin 2048) : (outsAt0 m c t.val t.isLt).2.2.2.2 (ix3 0 0 k) = (x.dck (256 * (t.val % 8 + 1)) (t.val / 8) k.val : EReal) := by
  rw [outsAt0_E m c t h0 h2 h3 h4]
  have hi : t.val % 8 < 8 := Nat.mod_lt _ (by decide)
  revert k
  refine forall_chunks _ (fun j => ?_) (fun j => ?_) (fun j => ?_) (fun j => ?_)
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 0 j
    simp only [Nat.mul_zero, Nat.zero_add] at e
    rw [hprev, e, Attn.dck_succ, EReal.coe_add, EReal.coe_sub, EReal.coe_zero]
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 1 j
    rw [hprev, e, Attn.dck_succ, EReal.coe_add, EReal.coe_sub, EReal.coe_zero]
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 2 j
    rw [hprev, e, Attn.dck_succ, EReal.coe_add, EReal.coe_sub, EReal.coe_zero]
  · frame_out
    simp (disch := omega) only [canon_hit_c, canon_miss_c, read_hit_c, read_miss_c]
    simp only [coord1, ↓pF0 b hσ hi, ↓pF1 b hσ hi, ↓pF2 b hσ hi, ↓pF3 b hσ hi, ↓gF0 b, ↓gF1 b, ↓gF2 b, ↓gF3 b]
    pointwise [k0_pay56, k0_pay1, k0_pay2, k0_pay3, k0_pay13, k0_pay24, k0_pay35, k0_pay46, k0_pay14, k0_pay25, k0_pay36, k0_pay47, k0_pay19, k0_pay30, k0_pay41, k0_pay50]
    have e := dck_sum (x := x) (h := t.val / 8) (i := t.val % 8) 3 j
    rw [hprev, e, Attn.dck_succ, EReal.coe_add, EReal.coe_sub, EReal.coe_zero]

end Cert.Fox

end
-- ==== Proof.Chain.lean ====
/- The points of the grid, one after another: what the five blocks hold after each of them. -/
module

public import proofs.«01_k».proof.Proof.Rows
public import proofs.«01_k».proof.Proof.Cols

@[expose] public section

set_option maxRecDepth 16384

noncomputable section

namespace Cert.Fox

open Idealize.ShloMosaic Finset Cert.KernelIdeal Cert.KernelIdeal.Gen

variable {x : Data} (m : (ℓ : Loc nD τ sig) → Buf (Elt Ideal) ℓ) (c : Dev nD)

/-- After every point the query's block holds the whole gradient of the tile's queries. -/
theorem dq_at (hσ : x.σ = scale) (b : ∀ t, BlkAt m c x t) (t : Fin cfg0.N) (r : Fin 256) (d : Fin 128) :
    (outsAt0 m c t.val t.isLt).1 (ix3 0 r d) = (x.dq (t.val / 8) (256 * (t.val % 8) + r.val) d.val : EReal) := by
  by_cases h0 : t.val % 8 = 0
  · exact dq_A m c hσ t (b t) h0 (by omega) (by omega) (by omega) r d
  by_cases h2 : 2 ≤ t.val % 8
  · by_cases h3 : 4 ≤ t.val % 8
    · by_cases h4 : 6 ≤ t.val % 8
      · exact dq_E m c hσ t (b t) h0 h2 h3 h4 r d
      · exact dq_D m c hσ t (b t) h0 h2 h3 h4 r d
    · exact dq_C m c hσ t (b t) h0 h2 h3 (by omega) r d
  · exact dq_B m c hσ t (b t) h0 h2 (by omega) (by omega) r d

/-- After every point the query's bias's block holds the whole gradient of the tile's queries. -/
theorem dcq_at (hσ : x.σ = scale) (b : ∀ t, BlkAt m c x t) (t : Fin cfg0.N) (r : Fin 256) :
    (outsAt0 m c t.val t.isLt).2.2.2.1 (ix3 0 r 0) = (x.dcq (t.val / 8) (256 * (t.val % 8) + r.val) : EReal) := by
  by_cases h0 : t.val % 8 = 0
  · exact dcq_A m c hσ t (b t) h0 (by omega) (by omega) (by omega) r
  by_cases h2 : 2 ≤ t.val % 8
  · by_cases h3 : 4 ≤ t.val % 8
    · by_cases h4 : 6 ≤ t.val % 8
      · exact dcq_E m c hσ t (b t) h0 h2 h3 h4 r
      · exact dcq_D m c hσ t (b t) h0 h2 h3 h4 r
    · exact dcq_C m c hσ t (b t) h0 h2 h3 (by omega) r
  · exact dcq_B m c hσ t (b t) h0 h2 (by omega) (by omega) r

/-- After every point the key's block holds the gradient of the head's queries so far. -/
theorem dk_at (hσ : x.σ = scale) (b : ∀ t, BlkAt m c x t) : ∀ (n : ℕ) (hn : n < cfg0.N) (k : Fin 2048) (d : Fin 128),
    (outsAt0 m c n hn).2.1 (ix3 0 k d) = (x.dk (256 * (n % 8 + 1)) (n / 8) k.val d.val : EReal) := by
  intro n
  induction n with
  | zero => exact fun hn k d => dk_A m c hσ ⟨0, hn⟩ (b _) rfl (by simp) (by simp) (by simp) k d
  | succ n ih =>
    intro hn
    by_cases h0 : (n + 1) % 8 = 0
    · exact fun k d => dk_A m c hσ ⟨n + 1, hn⟩ (b _) h0 (by simp only; omega) (by simp only; omega) (by simp only; omega) k d
    have hp : ∀ (k : Fin 2048) (d : Fin 128), (outsAt0 m c n (Nat.lt_of_succ_lt hn)).2.1 (ix3 0 k d)
        = (x.dk (256 * ((n + 1) % 8)) ((n + 1) / 8) k.val d.val : EReal) := by
      have e1 : n % 8 + 1 = (n + 1) % 8 := by omega
      have e2 : n / 8 = (n + 1) / 8 := by omega
      intro k d
      rw [ih (Nat.lt_of_succ_lt hn) k d, e1, e2]
    by_cases h2 : 2 ≤ (n + 1) % 8
    · by_cases h3 : 4 ≤ (n + 1) % 8
      · by_cases h4 : 6 ≤ (n + 1) % 8
        · exact dk_E m c hσ ⟨n + 1, hn⟩ (b _) h0 h2 h3 h4 hp
        · exact dk_D m c hσ ⟨n + 1, hn⟩ (b _) h0 h2 h3 h4 hp
      · exact dk_C m c hσ ⟨n + 1, hn⟩ (b _) h0 h2 h3 (by simp only; omega) hp
    · exact dk_B m c hσ ⟨n + 1, hn⟩ (b _) h0 h2 (by simp only; omega) (by simp only; omega) hp

/-- After every point the value's block holds the gradient of the head's queries so far. -/
theorem dv_at (hσ : x.σ = scale) (b : ∀ t, BlkAt m c x t) : ∀ (n : ℕ) (hn : n < cfg0.N) (k : Fin 2048) (d : Fin 128),
    (outsAt0 m c n hn).2.2.1 (ix2 k d) = (x.dv (256 * (n % 8 + 1)) (n / 8) k.val d.val : EReal) := by
  intro n
  induction n with
  | zero => exact fun hn k d => dv_A m c hσ ⟨0, hn⟩ (b _) rfl (by simp) (by simp) (by simp) k d
  | succ n ih =>
    intro hn
    by_cases h0 : (n + 1) % 8 = 0
    · exact fun k d => dv_A m c hσ ⟨n + 1, hn⟩ (b _) h0 (by simp only; omega) (by simp only; omega) (by simp only; omega) k d
    have hp : ∀ (k : Fin 2048) (d : Fin 128), (outsAt0 m c n (Nat.lt_of_succ_lt hn)).2.2.1 (ix2 k d)
        = (x.dv (256 * ((n + 1) % 8)) ((n + 1) / 8) k.val d.val : EReal) := by
      have e1 : n % 8 + 1 = (n + 1) % 8 := by omega
      have e2 : n / 8 = (n + 1) / 8 := by omega
      intro k d
      rw [ih (Nat.lt_of_succ_lt hn) k d, e1, e2]
    by_cases h2 : 2 ≤ (n + 1) % 8
    · by_cases h3 : 4 ≤ (n + 1) % 8
      · by_cases h4 : 6 ≤ (n + 1) % 8
        · exact dv_E m c hσ ⟨n + 1, hn⟩ (b _) h0 h2 h3 h4 hp
        · exact dv_D m c hσ ⟨n + 1, hn⟩ (b _) h0 h2 h3 h4 hp
      · exact dv_C m c hσ ⟨n + 1, hn⟩ (b _) h0 h2 h3 (by simp only; omega) hp
    · exact dv_B m c hσ ⟨n + 1, hn⟩ (b _) h0 h2 (by simp only; omega) (by simp only; omega) hp

/-- After every point the key's bias's block holds the gradient of the head's queries so far. -/
theorem dck_at (hσ : x.σ = scale) (b : ∀ t, BlkAt m c x t) : ∀ (n : ℕ) (hn : n < cfg0.N) (k : Fin 2048),
    (outsAt0 m c n hn).2.2.2.2 (ix3 0 0 k) = (x.dck (256 * (n % 8 + 1)) (n / 8) k.val : EReal) := by
  intro n
  induction n with
  | zero => exact fun hn k => dck_A m c hσ ⟨0, hn⟩ (b _) rfl (by simp) (by simp) (by simp) k
  | succ n ih =>
    intro hn
    by_cases h0 : (n + 1) % 8 = 0
    · exact fun k => dck_A m c hσ ⟨n + 1, hn⟩ (b _) h0 (by simp only; omega) (by simp only; omega) (by simp only; omega) k
    have hp : ∀ (k : Fin 2048), (outsAt0 m c n (Nat.lt_of_succ_lt hn)).2.2.2.2 (ix3 0 0 k)
        = (x.dck (256 * ((n + 1) % 8)) ((n + 1) / 8) k.val : EReal) := by
      have e1 : n % 8 + 1 = (n + 1) % 8 := by omega
      have e2 : n / 8 = (n + 1) / 8 := by omega
      intro k
      rw [ih (Nat.lt_of_succ_lt hn) k, e1, e2]
    by_cases h2 : 2 ≤ (n + 1) % 8
    · by_cases h3 : 4 ≤ (n + 1) % 8
      · by_cases h4 : 6 ≤ (n + 1) % 8
        · exact dck_E m c hσ ⟨n + 1, hn⟩ (b _) h0 h2 h3 h4 hp
        · exact dck_D m c hσ ⟨n + 1, hn⟩ (b _) h0 h2 h3 h4 hp
      · exact dck_C m c hσ ⟨n + 1, hn⟩ (b _) h0 h2 h3 (by simp only; omega) hp
    · exact dck_B m c hσ ⟨n + 1, hn⟩ (b _) h0 h2 (by simp only; omega) (by simp only; omega) hp

end Cert.Fox

end
-- ==== Proof.Host.lean ====
/- What the host lines before the region leave in the buffers the backward kernel reads: the row's log-sum, the
   forward output, the bias columns and rows; then every block of every point. -/
module

public import proofs.«01_k».proof.Proof.Step

@[expose] public section

set_option maxRecDepth 16384

noncomputable section

namespace Cert.Fox

open Idealize.ShloMosaic Finset Cert.KernelIdeal Cert.KernelIdeal.Gen

variable (m : (ℓ : Loc nD τ sig) → Buf (Elt Ideal) ℓ) (c : Dev nD)

/-- A row's maximum and its log-sum, added in a column. -/
theorem lse_read (a b : FVec Ideal S8x2048 .f32) (h : Fin 8) (q : Fin 2048) :
    addf (broadcastInDim S8x2048x1 ![0, 1] bcast_S8x2048_S8x2048x1_0_1 a)
      (Host.log (broadcastInDim S8x2048x1 ![0, 1] bcast_S8x2048_S8x2048x1_0_1 b)) (ix3 h q 0) = a (ix2 h q) + Ideal.log (b (ix2 h q)) := by
  pointwise
/-- The largest score of a row. -/
theorem max_read (a : FVec Ideal S8x2048x2048 .f32) (h : Fin 8) (q : Fin 2048) :
    Host.reduce FloatOps.maximumf a (constant (F := Ideal) S_ .f32 0xFF800000#32) reducesTo_S8x2048x2048_S8x2048_d2 h_S_ (ix2 h q) = fold max ⊥ (fun k => a (ix3 h q k)) univ := by
  pointwise
  rw [negInf_eq]
/-- The sum of a row. -/
theorem sum_read (a : FVec Ideal S8x2048x2048 .f32) (h : Fin 8) (q : Fin 2048) :
    Host.reduceAdd a (constant (F := Ideal) S_ .f32 0x00000000#32) reducesTo_S8x2048x2048_S8x2048_d2 h_S_ (ix2 h q) = ∑ k, a (ix3 h q k) := by
  pointwise
/-- The weighted values, laid out by position and flat lane. -/
theorem out_read (W : FVec Ideal S2048x8x128 .f32) (p : FVec Ideal S8x2048x2048 .f32) (q : Fin 2048) (d : Fin 1024) :
    truncf (F := Ideal) .bf16 (shapeCast S2048x1024 (transpose S2048x8x128 [2, 0, 1]
      (Host.dotGeneral dot_S2048x8x128_S8x2048x2048_S8x128x2048_0_2_2_1_1_0 none W p) transposes_S8x128x2048_S2048x8x128_2_0_1)
      shapeCasts_S2048x8x128_S2048x1024) bitsLt_bf16_f32 (ix2 q d)
    = ∑ k, W (ix3 k ⟨d.val / 128, by omega⟩ ⟨d.val % 128, by omega⟩) * p (ix3 ⟨d.val / 128, by omega⟩ q k) := by
  pointwise

/-- A row's weights, about its greatest. -/
theorem weight_read (e : FVec Ideal S8x2048x2048 .f32) (b : FVec Ideal S8x2048 .f32) (h : Fin 8) (q k : Fin 2048) :
    Host.divf e (broadcastInDim S8x2048x2048 ![0, 1, 2] bcast_S8x2048x1_S8x2048x2048_0_1_2
      (broadcastInDim S8x2048x1 ![0, 1] bcast_S8x2048_S8x2048x1_0_1 b)) (ix3 h q k) = Ideal.div (e (ix3 h q k)) (b (ix2 h q)) := by
  pointwise

/-- A row's exponentials about its greatest. -/
theorem exp_read (e : FVec Ideal S8x2048x2048 .f32) (b : FVec Ideal S8x2048 .f32) (h : Fin 8) (q k : Fin 2048) :
    Host.exp (subf e (broadcastInDim S8x2048x2048 ![0, 1, 2] bcast_S8x2048x1_S8x2048x2048_0_1_2
      (broadcastInDim S8x2048x1 ![0, 1] bcast_S8x2048_S8x2048x1_0_1 b))) (ix3 h q k) = Ideal.exp (e (ix3 h q k) - b (ix2 h q)) := by
  pointwise

/-- The log-sum of a row of masked scores is a real that gives the row's weights. -/
theorem lse_row {W : ℕ} {last : ℕ → ℕ} (x : Attn W last) (h q : ℕ) (hq : q < 2048) (f : Fin 2048 → EReal)
    (hf : ∀ k : Fin 2048, f k = if k.val ≤ last q then (x.s h q k.val : EReal) else ⊥) :
    ∃ L : ℝ, fold max ⊥ f univ + Ideal.log (∑ k, Ideal.exp (f k - fold max ⊥ f univ)) = (L : EReal) ∧
      ∀ k, k ≤ last q → Real.exp (x.s h q k - L) = x.p h q k := by
  obtain ⟨M, hM, he, hs⟩ := row_stats x h q hq f hf
  refine ⟨M + Real.log (Real.exp (-M) * x.z h q), ?_, fun k hk => ?_⟩
  · rw [hM, hs, log_coe _ (mul_pos (Real.exp_pos _) (x.z_pos hq)), ← EReal.coe_add]
  · rw [← x.sum_off]
    exact x.exp_lse hq hk M

/-- The values under a row's weights are the row's output. -/
theorem out_row {W : ℕ} {last : ℕ → ℕ} (x : Attn W last) (h q d : ℕ) (hq : q < 2048) (f v : Fin 2048 → EReal)
    (hf : ∀ k : Fin 2048, f k = if k.val ≤ last q then (x.s h q k.val : EReal) else ⊥)
    (hv : ∀ k : Fin 2048, v k = (x.V k.val (h * 128 + d) : EReal)) :
    ∑ k, v k * Ideal.div (Ideal.exp (f k - fold max ⊥ f univ)) (∑ k, Ideal.exp (f k - fold max ⊥ f univ)) = (x.o h q d : EReal) := by
  obtain ⟨M, hM, he, hs⟩ := row_stats x h q hq f hf
  rw [Attn.o, coe_sum_fin]
  refine sum_congr (M := EReal) rfl fun k _ => ?_
  rw [hM, hs, he, hv, div_coe _ _ (mul_pos (Real.exp_pos _) (x.z_pos hq)).ne', x.p_off hq, ← EReal.coe_mul, mul_comm]

/-- Running one list of host lines after another. -/
theorem after_split {τ : Topo} {sig : RefSig} (l₁ l₂ : List (HloOp τ sig (Elt Ideal))) (σ : (b : DevRef τ sig) → b.ty.Contents (Elt Ideal)) :
    StableHlo.after (l₁ ++ l₂) σ = StableHlo.after l₂ (StableHlo.after l₁ σ) := by
  induction l₁ generalizing σ with
  | nil => rfl
  | cons op l ih => exact ih _

/-- The host lines before the region, in their three parts. -/
theorem V_parts (b : Ref sig .tc) : V m c b =
    StableHlo.after hostOps0_2 (StableHlo.after hostOps0_1 (StableHlo.after hostOps0 fun b => m (c, b))) (Proc.devRef .tc b) := by
  show StableHlo.after (hostOps0 ++ (hostOps0_1 ++ (hostOps0_2 ++ []))) _ _ = _
  rw [List.append_nil, after_split, after_split]

section parts

variable (σ : (b : DevRef τ sig) → b.ty.Contents (Elt Ideal))

/-- The log-sum column, from the masked scores. -/
theorem lse_after (S : FVec Ideal S8x2048x2048 .f32) (hS : S = σ (Proc.devRef .tc main_v20)) (h : Fin 8) (q : Fin 2048) :
    (StableHlo.after hostOps0_2 σ (Proc.devRef .tc main_v29) : FVec Ideal S8x2048x1 .f32) (ix3 h q 0)
    = fold max ⊥ (fun k => S (ix3 h q k)) univ + Ideal.log (∑ k, Ideal.exp (S (ix3 h q k) - fold max ⊥ (fun k => S (ix3 h q k)) univ)) := by
  subst hS
  simp only [hostOps0_2]
  entry_read
  rw [lse_read, sum_read, max_read]
  pointwise
  rw [negInf_eq]

/-- The forward output, from the masked scores and the values. -/
theorem out_after (S : FVec Ideal S8x2048x2048 .f32) (hS : S = σ (Proc.devRef .tc main_v20))
    (W : FVec Ideal S2048x8x128 .f32) (hW : W = σ (Proc.devRef .tc main_v3)) (q : Fin 2048) (d : Fin 1024) :
    (StableHlo.after hostOps0_2 σ (Proc.devRef .tc main_v35) : FVec Ideal S2048x1024 .bf16) (ix2 q d)
    = ∑ k, W (ix3 k ⟨d.val / 128, by omega⟩ ⟨d.val % 128, by omega⟩) *
        Ideal.div (Ideal.exp (S (ix3 ⟨d.val / 128, by omega⟩ q k) - fold max ⊥ (fun k => S (ix3 ⟨d.val / 128, by omega⟩ q k)) univ))
        (∑ k, Ideal.exp (S (ix3 ⟨d.val / 128, by omega⟩ q k) - fold max ⊥ (fun k => S (ix3 ⟨d.val / 128, by omega⟩ q k)) univ)) := by
  subst hS hW
  simp only [hostOps0_2]
  entry_read
  refine (out_read _ _ q d).trans ?_
  refine sum_congr (M := EReal) rfl fun k _ => congrArg₂ (fun a b : EReal => a * b) rfl ((weight_read _ _ _ _ _).trans ?_)
  rw [sum_read]
  exact congrArg₂ Ideal.div ((exp_read _ _ _ _ _).trans (by rw [max_read]))
    (sum_congr (M := EReal) rfl fun k _ => (exp_read _ _ _ _ _).trans (by rw [max_read]))

/-- The masked scores, from the mask and the scores. -/
theorem masked_after (B : Vec Ideal S1x2048x2048 .i1) (hB : B = σ (Proc.devRef .tc main_v19)) (S : FVec Ideal S8x2048x2048 .f32)
    (hS : S = σ (Proc.devRef .tc main_v12)) (I : FVec Ideal S_ .f32) (hI : I = σ (Proc.devRef .tc main_cst_0)) (h : Fin 8) (q k : Fin 2048) :
    (StableHlo.after hostOps0_1 σ (Proc.devRef .tc main_v20) : FVec Ideal S8x2048x2048 .f32) (ix3 h q k)
    = Scalar.select (B (ix3 0 q k)) (S (ix3 h q k)) (I ix0) := by
  have e : StableHlo.after hostOps0_1 σ (Proc.devRef .tc main_v20)
      = select (broadcastInDim S8x2048x2048 ![0, 1, 2] bcast_S1x2048x2048_S8x2048x2048_0_1_2 B) S
          (broadcastInDim S8x2048x2048 ![] bcast_S_S8x2048x2048 I) := by
    subst hB hS hI
    simp only [hostOps0_1]
    entry_read
    rfl
  rw [e]
  pointwise

/-- The masking lines leave the values. -/
theorem values_after : StableHlo.after hostOps0_1 σ (Proc.devRef .tc main_v3) = σ (Proc.devRef .tc main_v3) := by
  simp only [hostOps0_1]
  entry_read
  rfl

/-- The scores. -/
theorem score_after (Q K : FVec Ideal S8x2048x128 .bf16) (C : FVec Ideal S8x2048 .f32) (hQ : Q = σ (Proc.devRef .tc main_arg0))
    (hK : K = σ (Proc.devRef .tc main_arg1)) (hC : C = σ (Proc.devRef .tc main_arg3)) (h : Fin 8) (q k : Fin 2048) :
    (StableHlo.after hostOps0 σ (Proc.devRef .tc main_v12) : FVec Ideal S8x2048x2048 .f32) (ix3 h q k)
    = (∑ d, Q (ix3 h q d) * K (ix3 h k d)) * Ideal.ofBits FTy.f32 0x3DB504F3#32 + C (ix2 h q) - C (ix2 h k) := by
  subst hQ hK hC
  simp only [hostOps0]
  entry_read
  pointwise

/-- The mask. -/
theorem mask_after (q k : Fin 2048) : (StableHlo.after hostOps0 σ (Proc.devRef .tc main_v19) : Vec Ideal S1x2048x2048 .i1) (ix3 0 q k)
    = IntOp.cmpi .sle (BitVec.ofNat 32 k.val) (BitVec.ofNat 32 q.val) := by
  simp only [hostOps0]
  entry_read
  pointwise

/-- What a masked place holds. -/
theorem fill_after : (StableHlo.after hostOps0 σ (Proc.devRef .tc main_cst_0) : FVec Ideal S_ .f32) ix0 = (⊥ : EReal) := by
  simp only [hostOps0]
  entry_read
  pointwise
  exact negInf_eq

/-- The values, by position, head and lane. -/
theorem value_after (Z : FVec Ideal S2048x13312 .f32) (hZ : Z = σ (Proc.devRef .tc main_arg2)) (k : Fin 2048) (h : Fin 8) (d : Fin 128) :
    (StableHlo.after hostOps0 σ (Proc.devRef .tc main_v3) : FVec Ideal S2048x8x128 .f32) (ix3 k h d)
    = Z (ix2 k ⟨3072 + (h.val * 128 + d.val), by omega⟩) := by
  subst hZ
  simp only [hostOps0]
  entry_read
  pointwise

end parts

/-- The bias as a column. -/
theorem V_col (h : Fin 8) (q : Fin 2048) : (V m c main_v0 : FVec Ideal S8x2048x1 .f32) (ix3 h q 0)
    = (m (c, Proc.devRef .tc main_arg3) : FVec Ideal S8x2048 .f32) (ix2 h q) := by
  simp only [V, hostOps0, hostOps0_1, hostOps0_2, List.flatten_cons, List.flatten_nil, List.append_nil, List.cons_append, List.nil_append]
  entry_read
  pointwise

/-- The bias as a row. -/
theorem V_row (h : Fin 8) (k : Fin 2048) : (V m c main_v1 : FVec Ideal S8x1x2048 .f32) (ix3 h 0 k)
    = (m (c, Proc.devRef .tc main_arg3) : FVec Ideal S8x2048 .f32) (ix2 h k) := by
  simp only [V, hostOps0, hostOps0_1, hostOps0_2, List.flatten_cons, List.flatten_nil, List.append_nil, List.cons_append, List.nil_append]
  entry_read
  pointwise

/-- The real data of the arguments device `c` holds. -/
def dat : Data := data (m (c, Proc.devRef .tc main_arg0)) (m (c, Proc.devRef .tc main_arg1)) (m (c, Proc.devRef .tc main_arg2)) (m (c, Proc.devRef .tc main_arg3)) (m (c, Proc.devRef .tc main_arg4))
/-- Every entry of the arguments that the attention reads is finite. -/
def Fin0 : Prop := Finite (m (c, Proc.devRef .tc main_arg0)) (m (c, Proc.devRef .tc main_arg1)) (m (c, Proc.devRef .tc main_arg2)) (m (c, Proc.devRef .tc main_arg3)) (m (c, Proc.devRef .tc main_arg4))

/-- The masked scores, as the host lines leave them. -/
def masked : FVec Ideal S8x2048x2048 .f32 :=
  StableHlo.after hostOps0_1 (StableHlo.after hostOps0 fun b => m (c, b)) (Proc.devRef .tc main_v20)

/-- A masked score is the real score, or negative infinity after the query. -/
theorem masked_eq (f : Fin0 m c) (h : Fin 8) (q k : Fin 2048) :
    masked m c (ix3 h q k) = if k.val ≤ q.val then ((dat m c).s h.val q.val k.val : EReal) else ⊥ := by
  refine (masked_after _ _ rfl _ rfl _ rfl h q k).trans ?_
  rw [mask_after, fill_after, select_pos, score_after _ _ _ _ rfl rfl rfl]
  congr 1
  simp only [fun d => rd3_eq _ h q d (f.q _), fun d => rd3_eq _ h k d (f.k _), fun q => rd2_eq _ h q (f.cum _), scale_eq, ← EReal.coe_mul, ← coe_sum,
    ← EReal.coe_add, ← EReal.coe_sub, Attn.s, Finset.sum_range]
  rfl

/-- The log-sum column gives the row's weights. -/
theorem lse_eq (f : Fin0 m c) (h : Fin 8) (q : Fin 2048) : ∃ L : ℝ, (V m c main_v29 : FVec Ideal S8x2048x1 .f32) (ix3 h q 0) = (L : EReal) ∧
    ∀ k, k ≤ q.val → Real.exp ((dat m c).s h.val q.val k - L) = (dat m c).p h.val q.val k := by
  rw [V_parts, lse_after _ (masked m c) rfl h q]
  exact lse_row (dat m c) h.val q.val q.isLt _ (masked_eq m c f h q)

/-- The forward output. -/
theorem out_eq (f : Fin0 m c) (q : Fin 2048) (d : Fin 1024) : (V m c main_v35 : FVec Ideal S2048x1024 .bf16) (ix2 q d)
    = ((dat m c).o (d.val / 128) q.val (d.val % 128) : EReal) := by
  rw [V_parts]
  refine (out_after _ (masked m c) rfl _ rfl q d).trans
    (out_row (dat m c) _ q.val _ q.isLt _ _ (masked_eq m c f ⟨d.val / 128, by omega⟩ q) fun k => ?_)
  rw [values_after, value_after _ _ rfl]
  exact rd2_eq _ k ⟨3072 + (d.val / 128 * 128 + d.val % 128), by omega⟩ (f.z k ⟨d.val / 128 * 128 + d.val % 128, by omega⟩)

/-- Where window 0's block of a point lies. -/
theorem idx0 : ∀ t : Fin cfg0.N, win0_0.index t 0 = t.val / 8 ∧ win0_0.index t 1 = t.val % 8 ∧ win0_0.index t 2 = 0 := by
  decide +kernel
/-- Where window 1's block of a point lies. -/
theorem idx1 : ∀ t : Fin cfg0.N, win0_1.index t 0 = t.val / 8 ∧ win0_1.index t 1 = 0 ∧ win0_1.index t 2 = 0 := by
  decide +kernel
/-- Where window 2's block of a point lies. -/
theorem idx2 : ∀ t : Fin cfg0.N, win0_2.index t 0 = 0 ∧ win0_2.index t 1 = 24 + t.val / 8 := by
  decide +kernel
/-- Where window 3's block of a point lies. -/
theorem idx3 : ∀ t : Fin cfg0.N, win0_3.index t 0 = t.val % 8 ∧ win0_3.index t 1 = t.val / 8 := by
  decide +kernel
/-- Where window 4's block of a point lies. -/
theorem idx4 : ∀ t : Fin cfg0.N, win0_4.index t 0 = t.val % 8 ∧ win0_4.index t 1 = t.val / 8 := by
  decide +kernel
/-- Where window 5's block of a point lies. -/
theorem idx5 : ∀ t : Fin cfg0.N, win0_5.index t 0 = t.val / 8 ∧ win0_5.index t 1 = t.val % 8 ∧ win0_5.index t 2 = 0 := by
  decide +kernel
/-- Where window 6's block of a point lies. -/
theorem idx6 : ∀ t : Fin cfg0.N, win0_6.index t 0 = t.val / 8 ∧ win0_6.index t 1 = t.val % 8 ∧ win0_6.index t 2 = 0 := by
  decide +kernel
/-- Where window 7's block of a point lies. -/
theorem idx7 : ∀ t : Fin cfg0.N, win0_7.index t 0 = t.val / 8 ∧ win0_7.index t 1 = 0 ∧ win0_7.index t 2 = 0 := by
  decide +kernel

/-- A point's head and tile. -/
theorem point_lt (t : Fin cfg0.N) : t.val / 8 < 8 ∧ t.val % 8 < 8 := by
  have : t.val < 64 := t.isLt
  omega

/-- Window 5's block reads the log-sum column, whatever the buffers hold. -/
theorem read5 (W : (b : Ref sig .tc) → b.ty.Contents (Elt Ideal)) (t : Fin cfg0.N) (y : S1x256x1.Idx) :
    ((cfg0.win 5).blk t).view.read (Elt Ideal) (W (Pipeline.arrRef spec0 5)) y = W main_v29 ((win0_5.blk t).view.emb y) := rfl
/-- A point's block of the queries. -/
theorem blk_q (f : Fin0 m c) (t : Fin cfg0.N) (r : Fin 256) (d : Fin 128) : iblk m c 0 t (ix3 0 r d) = ((dat m c).Q (t.val / 8) (256 * (t.val % 8) + r.val) d.val : EReal) := by
  obtain ⟨h8, i8⟩ := point_lt t
  have e : (win0_0.blk t).view.emb (ix3 0 r d) = ix3 ⟨t.val / 8, h8⟩ ⟨256 * (t.val % 8) + r.val, by omega⟩ d := by
    obtain ⟨e0, e1, e2⟩ := idx0 t
    blk_ext [e0, e1, e2]
  refine (congrArg (V m c main_arg0) e).trans ?_
  rw [V_main_arg0]
  exact rd3_eq _ _ _ _ (f.q _)

/-- A point's block of the keys. -/
theorem blk_k (f : Fin0 m c) (t : Fin cfg0.N) (r : Fin 2048) (d : Fin 128) : iblk m c 1 t (ix3 0 r d) = ((dat m c).K (t.val / 8) r.val d.val : EReal) := by
  obtain ⟨h8, i8⟩ := point_lt t
  have e : (win0_1.blk t).view.emb (ix3 0 r d) = ix3 ⟨t.val / 8, h8⟩ r d := by
    obtain ⟨e0, e1, e2⟩ := idx1 t
    blk_ext [e0, e1, e2]
  refine (congrArg (V m c main_arg1) e).trans ?_
  rw [V_main_arg1]
  exact rd3_eq _ _ _ _ (f.k _)

/-- A point's block of the values. -/
theorem blk_v (f : Fin0 m c) (t : Fin cfg0.N) (r : Fin 2048) (d : Fin 128) : iblk m c 2 t (ix2 r d) = ((dat m c).V r.val (t.val / 8 * 128 + d.val) : EReal) := by
  obtain ⟨h8, i8⟩ := point_lt t
  have e : (win0_2.blk t).view.emb (ix2 r d) = ix2 r ⟨3072 + (t.val / 8 * 128 + d.val), by omega⟩ := by
    obtain ⟨e0, e1⟩ := idx2 t
    blk_ext [e0, e1]
  refine (congrArg (V m c main_arg2) e).trans ?_
  rw [V_main_arg2]
  exact rd2_eq _ r ⟨3072 + (t.val / 8 * 128 + d.val), by omega⟩ (f.z r ⟨t.val / 8 * 128 + d.val, by omega⟩)

/-- A point's block of the forward output. -/
theorem blk_o (f : Fin0 m c) (t : Fin cfg0.N) (r : Fin 256) (d : Fin 128) : iblk m c 3 t (ix2 r d) = ((dat m c).o (t.val / 8) (256 * (t.val % 8) + r.val) d.val : EReal) := by
  obtain ⟨h8, i8⟩ := point_lt t
  have e : (win0_3.blk t).view.emb (ix2 r d) = ix2 ⟨256 * (t.val % 8) + r.val, by omega⟩ ⟨t.val / 8 * 128 + d.val, by omega⟩ := by
    obtain ⟨e0, e1⟩ := idx3 t
    blk_ext [e0, e1]
  have e2 := out_eq m c f ⟨256 * (t.val % 8) + r.val, by omega⟩ ⟨t.val / 8 * 128 + d.val, by omega⟩
  simp only at e2
  rw [show (t.val / 8 * 128 + d.val) / 128 = t.val / 8 by omega, show (t.val / 8 * 128 + d.val) % 128 = d.val by omega] at e2
  blk_simp [iblk]
  rw [e]
  exact e2

/-- A point's block of the output's gradient. -/
theorem blk_g (f : Fin0 m c) (t : Fin cfg0.N) (r : Fin 256) (d : Fin 128) : iblk m c 4 t (ix2 r d) = ((dat m c).D (256 * (t.val % 8) + r.val) (t.val / 8 * 128 + d.val) : EReal) := by
  obtain ⟨h8, i8⟩ := point_lt t
  have e : (win0_4.blk t).view.emb (ix2 r d) = ix2 ⟨256 * (t.val % 8) + r.val, by omega⟩ ⟨t.val / 8 * 128 + d.val, by omega⟩ := by
    obtain ⟨e0, e1⟩ := idx4 t
    blk_ext [e0, e1]
  refine (congrArg (V m c main_arg4) e).trans ?_
  rw [V_main_arg4]
  exact rd2_eq _ _ _ (f.g _)

/-- A point's block of the log-sum. -/
theorem blk_l (f : Fin0 m c) (t : Fin cfg0.N) (r : Fin 256) : ∃ L : ℝ, iblk m c 5 t (ix3 0 r 0) = (L : EReal) ∧ ∀ k, k ≤ 256 * (t.val % 8) + r.val → Real.exp ((dat m c).s (t.val / 8) (256 * (t.val % 8) + r.val) k - L) = (dat m c).p (t.val / 8) (256 * (t.val % 8) + r.val) k := by
  obtain ⟨h8, i8⟩ := point_lt t
  have e : (win0_5.blk t).view.emb (ix3 0 r 0) = ix3 ⟨t.val / 8, h8⟩ ⟨256 * (t.val % 8) + r.val, by omega⟩ 0 := by
    obtain ⟨e0, e1, e2⟩ := idx5 t
    blk_ext [e0, e1, e2]
  obtain ⟨L, hL, hp⟩ := lse_eq m c f ⟨t.val / 8, h8⟩ ⟨256 * (t.val % 8) + r.val, by omega⟩
  refine ⟨L, ?_, hp⟩
  refine (read5 (V m c) t (ix3 0 r 0)).trans ?_
  rw [e]
  exact hL

/-- A point's block of the queries' bias. -/
theorem blk_cq (f : Fin0 m c) (t : Fin cfg0.N) (r : Fin 256) : iblk m c 6 t (ix3 0 r 0) = ((dat m c).C (t.val / 8) (256 * (t.val % 8) + r.val) : EReal) := by
  obtain ⟨h8, i8⟩ := point_lt t
  have e : (win0_6.blk t).view.emb (ix3 0 r 0) = ix3 ⟨t.val / 8, h8⟩ ⟨256 * (t.val % 8) + r.val, by omega⟩ 0 := by
    obtain ⟨e0, e1, e2⟩ := idx6 t
    blk_ext [e0, e1, e2]
  exact (congrArg (V m c main_v0) e).trans ((V_col m c _ _).trans (rd2_eq _ _ _ (f.cum _)))

/-- A point's block of the keys' bias. -/
theorem blk_ck (f : Fin0 m c) (t : Fin cfg0.N) (r : Fin 2048) : iblk m c 7 t (ix3 0 0 r) = ((dat m c).C (t.val / 8) r.val : EReal) := by
  obtain ⟨h8, i8⟩ := point_lt t
  have e : (win0_7.blk t).view.emb (ix3 0 0 r) = ix3 ⟨t.val / 8, h8⟩ 0 r := by
    obtain ⟨e0, e1, e2⟩ := idx7 t
    blk_ext [e0, e1, e2]
  exact (congrArg (V m c main_v1) e).trans ((V_row m c _ _).trans (rd2_eq _ _ _ (f.cum _)))

/-- The blocks of every point are the real data's. -/
theorem blkAt (f : Fin0 m c) (t : Fin cfg0.N) : BlkAt m c (dat m c) t :=
  ⟨blk_q m c f t, blk_k m c f t, blk_v m c f t, blk_o m c f t, blk_g m c f t, blk_l m c f t, blk_cq m c f t, blk_ck m c f t⟩

end Cert.Fox

end
-- ==== Proof.Softmax.lean ====
/- The reference's softmax and its derivative, which the two attentions share: the terms that the host lines compose, and
   each of them at an index, as the real data of an attention whose masked scores they are given. -/
module

public import proofs.«01_k».proof.Proof.Host
public import proofs.«01_k».proof.Proof.Gen.ReferenceIdeal.Run

@[expose] public section

set_option maxRecDepth 16384

noncomputable section

namespace Cert.Fox

open Idealize.ShloMosaic Finset Cert.ReferenceIdeal Cert.ReferenceIdeal.Gen

/-- The exponentials of a row about its greatest score. -/
def rExp (s : FVec Ideal S8x2048x2048 .f32) : FVec Ideal S8x2048x2048 .f32 :=
  Host.exp (subf s (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) (Host.reduce FloatOps.maximumf s (constant S_ .f32 0xFF800000#32) reducesTo_S8x2048x2048_S8x2048_d2 h_S_)))))
/-- The sums of the rows. -/
def rSum (e : FVec Ideal S8x2048x2048 .f32) : FVec Ideal S8x2048 .f32 :=
  Host.reduceAdd e (constant S_ .f32 0x00000000#32) reducesTo_S8x2048x2048_S8x2048_d2 h_S_
/-- The gradients of the weights. -/
def rDp (v : FVec Ideal S2048x1024 .f32) (g : FVec Ideal S2048x1024 .bf16) : FVec Ideal S8x2048x2048 .f32 :=
  Host.dotGeneral dot_S8x128x2048_S2048x8x128_S8x2048x2048_1_2_2_0_0_1 none (transpose S8x128x2048 [1, 2, 0] (shapeCast S2048x8x128 (extf .f32 g bitsLt_bf16_f32) shapeCasts_S2048x1024_S2048x8x128) transposes_S2048x8x128_S8x128x2048_1_2_0) (shapeCast S2048x8x128 v shapeCasts_S2048x1024_S2048x8x128)
/-- The gradients of the scores. -/
def rDs (B : Vec Ideal S8x2048x2048 .i1) (p e : FVec Ideal S8x2048x2048 .f32) (l : FVec Ideal S8x2048 .f32) : FVec Ideal S8x2048x2048 .f32 :=
  select B (mulf (addf (Host.divf p (broadcastInDim S8x2048x2048 ![0, 1, 2] bcast_S8x2048x1_S8x2048x2048_0_1_2 (broadcastInDim S8x2048x1 ![0, 1] bcast_S8x2048_S8x2048x1_0_1 l))) (broadcastInDim S8x2048x2048 ![0, 1] bcast_S8x2048_S8x2048x2048_0_1 (Host.reduceAdd (Host.negf (shapeCast S8x2048x1 (Host.reduceAdd (mulf (mulf p (broadcastInDim S8x2048x2048 ![0, 1, 2] bcast_S8x2048x1_S8x2048x2048_0_1_2 (Host.divf (broadcastInDim S8x2048x1 ![] bcast_S_S8x2048x1 (constant S_ .f32 0x3F800000#32)) (mulf (broadcastInDim S8x2048x1 ![0, 1] bcast_S8x2048_S8x2048x1_0_1 l) (broadcastInDim S8x2048x1 ![0, 1] bcast_S8x2048_S8x2048x1_0_1 l))))) e) (constant S_ .f32 0x00000000#32) reducesTo_S8x2048x2048_S8x2048_d2 h_S_) shapeCasts_S8x2048_S8x2048x1)) (constant S_ .f32 0x00000000#32) reducesTo_S8x2048x1_S8x2048_d2 h_S_))) e) (broadcastInDim S8x2048x2048 ![] bcast_S_S8x2048x2048 (constant S_ .f32 0x00000000#32))
/-- The gradient of the values. -/
def rV (g : FVec Ideal S2048x1024 .bf16) (e : FVec Ideal S8x2048x2048 .f32) (l : FVec Ideal S8x2048 .f32) : FVec Ideal S2048x1024 .f32 :=
  shapeCast S2048x1024 (transpose S2048x8x128 [2, 0, 1] (Host.dotGeneral dot_S8x128x2048_S8x2048x2048_S8x128x2048_2_1_1_2_0_0 none (transpose S8x128x2048 [1, 2, 0] (shapeCast S2048x8x128 (extf .f32 g bitsLt_bf16_f32) shapeCasts_S2048x1024_S2048x8x128) transposes_S2048x8x128_S8x128x2048_1_2_0) (Host.divf e (broadcastInDim S8x2048x2048 ![0, 1, 2] bcast_S8x2048x1_S8x2048x2048_0_1_2 (broadcastInDim S8x2048x1 ![0, 1] bcast_S8x2048_S8x2048x1_0_1 l)))) transposes_S8x128x2048_S2048x8x128_2_0_1) shapeCasts_S2048x8x128_S2048x1024

/-- The greater of negative infinity and an entry. -/
theorem top_read (b : FVec Ideal S8x2048 .f32) (h : Fin 8) (i : Fin 2048) :
    maximumf (broadcastInDim S8x2048 ![] bcast_S_S8x2048 (constant (F := Ideal) S_ .f32 0xFF800000#32)) b (ix2 h i) = b (ix2 h i) := by
  pointwise
  rw [negInf_eq]
  exact max_bot_left _

/-- An exponential. -/
theorem rExp_read (s : FVec Ideal S8x2048x2048 .f32) (h : Fin 8) (i j : Fin 2048) :
    rExp s (ix3 h i j) = Ideal.exp (s (ix3 h i j) - fold max ⊥ (fun j => s (ix3 h i j)) univ) := by
  refine (exp_read s _ h i j).trans (congrArg (fun m => Ideal.exp (s (ix3 h i j) - m)) ?_)
  exact (top_read _ h i).trans (max_read s h i)

/-- A row's sum. -/
theorem rSum_read (e : FVec Ideal S8x2048x2048 .f32) (h : Fin 8) (i : Fin 2048) : rSum e (ix2 h i) = ∑ j, e (ix3 h i j) := by
  pointwise [rSum]

/-- The gradient of a weight. -/
theorem rDp_read (v : FVec Ideal S2048x1024 .f32) (g : FVec Ideal S2048x1024 .bf16) (h : Fin 8) (i j : Fin 2048) : rDp v g (ix3 h i j) =
    ∑ d : Fin 128, g (ix2 i ⟨h.val * 128 + d.val, by omega⟩) * v (ix2 j ⟨h.val * 128 + d.val, by omega⟩) := by
  pointwise [rDp]

/-- The gradient of a score. -/
theorem rDs_read (B : Vec Ideal S8x2048x2048 .i1) (p e : FVec Ideal S8x2048x2048 .f32) (l : FVec Ideal S8x2048 .f32) (h : Fin 8) (i j : Fin 2048) :
    rDs B p e l (ix3 h i j) = Scalar.select (B (ix3 h i j)) ((Ideal.div (p (ix3 h i j)) (l (ix2 h i)) +
      -(∑ j, p (ix3 h i j) * Ideal.div 1 (l (ix2 h i) * l (ix2 h i)) * e (ix3 h i j))) * e (ix3 h i j)) 0 := by
  pointwise [rDs]
  simp only [univ_unique, sum_singleton]

/-- The gradient of a value. -/
theorem rV_read (g : FVec Ideal S2048x1024 .bf16) (e : FVec Ideal S8x2048x2048 .f32) (l : FVec Ideal S8x2048 .f32) (j : Fin 2048) (d : Fin 1024) :
    rV g e l (ix2 j d) = ∑ i, g (ix2 i d) * Ideal.div (e (ix3 ⟨d.val / 128, by omega⟩ i j)) (l (ix2 ⟨d.val / 128, by omega⟩ i)) := by
  pointwise [rV]

variable {W : ℕ} {last : ℕ → ℕ} (x : Attn W last)

/-- The gradient of the queries, as an array. -/
def outQ : FVec Ideal ⟨3, ![8, 2048, W]⟩ .f32 := fun y => (x.dq (y 0).val (y 1).val (y 2).val : EReal)
/-- The gradient of the keys, as an array. -/
def outK : FVec Ideal ⟨3, ![8, 2048, W]⟩ .f32 := fun y => (x.dk 2048 (y 0).val (y 1).val (y 2).val : EReal)
/-- The gradient of the values, as an array. -/
def outV : FVec Ideal S2048x1024 .f32 := fun y => (x.dv 2048 ((y 1).val / 128) (y 0).val ((y 1).val % 128) : EReal)

variable {s : FVec Ideal S8x2048x2048 .f32}
  (hs : ∀ (h : Fin 8) (i j : Fin 2048), s (ix3 h i j) = if j.val ≤ last i.val then (x.s h.val i.val j.val : EReal) else ⊥)
include hs

/-- One row's exponentials and their sum, of the masked scores of the data. -/
theorem rRow (h : Fin 8) (i : Fin 2048) : ∃ M : ℝ,
    (∀ j : Fin 2048, rExp s (ix3 h i j) = ((if j.val ≤ last i.val then Real.exp (x.s h.val i.val j.val - M) else 0 : ℝ) : EReal)) ∧
    rSum (rExp s) (ix2 h i) = ((Real.exp (-M) * x.z h.val i.val : ℝ) : EReal) := by
  obtain ⟨M, hM, he, hz⟩ := row_stats x h.val i.val i.isLt _ (hs h i)
  refine ⟨M, fun j => ?_, ?_⟩
  · rw [rExp_read, hM, he]
  · rw [rSum_read, ← hz]
    exact sum_congr rfl fun j _ => by rw [rExp_read, hM]

/-- The gradient of a score is the data's, of a mask that is true of the keys that a query sees. -/
theorem rDs_eq (B : Vec Ideal S8x2048x2048 .i1) (hB : ∀ (h : Fin 8) (i j : Fin 2048), B (ix3 h i j) = 1#1 ↔ j.val ≤ last i.val)
    (p : FVec Ideal S8x2048x2048 .f32) (hp : ∀ (h : Fin 8) (i j : Fin 2048), p (ix3 h i j) = (x.dp h.val i.val j.val : EReal))
    (h : Fin 8) (i j : Fin 2048) : rDs B p (rExp s) (rSum (rExp s)) (ix3 h i j) = (x.ds h.val i.val j.val : EReal) := by
  obtain ⟨M, he, hz⟩ := rRow x hs h i
  have hL : Real.exp (-M) * x.z h.val i.val ≠ 0 := (mul_pos (Real.exp_pos _) (x.z_pos i.isLt)).ne'
  rw [rDs_read, select_iff _ (hB h i j)]
  by_cases hk : j.val ≤ last i.val
  · rw [if_pos hk, hz, ← EReal.coe_mul, ← EReal.coe_one, div_coe _ _ (mul_ne_zero hL hL)]
    simp only [hp, he]
    rw [div_coe _ _ hL, ← x.ds_off i.isLt j.val M _ rfl (fun j => if j ≤ last i.val then Real.exp (x.s h.val i.val j - M) else 0)
      fun _ => rfl, EReal.coe_mul, EReal.coe_add, EReal.coe_neg, coe_sum_fin]
    simp only [EReal.coe_mul]
  · rw [if_neg hk, Attn.ds_zero _ (by omega), EReal.coe_zero]

/-- The values' gradient is the data's. -/
theorem rV_eq (g : FVec Ideal S2048x1024 .bf16) (hg : ∀ (i : Fin 2048) (d : Fin 1024), g (ix2 i d) = (x.D i.val d.val : EReal)) :
    rV g (rExp s) (rSum (rExp s)) = outV x := by
  funext y
  idx_vars y
  rw [rV_read]
  show _ = (x.dv 2048 (y1.val / 128) y0.val (y1.val % 128) : EReal)
  rw [Attn.dv, coe_sum_fin]
  refine sum_congr rfl fun i _ => ?_
  obtain ⟨M, he, hz⟩ := rRow x hs ⟨y1.val / 128, by omega⟩ i
  rw [hz, he, div_coe _ _ (mul_pos (Real.exp_pos _) (x.z_pos i.isLt)).ne', x.p_off i.isLt, hg,
    ← EReal.coe_mul, mul_comm, show y1.val / 128 * 128 + y1.val % 128 = y1.val by omega]

end Cert.Fox

end
-- ==== Proof.Arrays.lean ====
/- The five arrays the backward kernel leaves: every entry is the real data's gradient. -/
module

public import proofs.«01_k».proof.Proof.Chain
public import proofs.«01_k».proof.Proof.Softmax

@[expose] public section

set_option maxRecDepth 16384

noncomputable section

namespace Cert.Fox

open Idealize.ShloMosaic Finset Cert.KernelIdeal Cert.KernelIdeal.Gen

/-- The gradient of the queries' bias, as an array. -/
def outCQ (x : Data) : FVec Ideal S8x2048x1 .f32 := fun y => (x.dcq (y 0).val (y 1).val : EReal)
/-- The gradient of the keys' bias, as an array. -/
def outCK (x : Data) : FVec Ideal S8x1x2048 .f32 := fun y => (x.dck 2048 (y 0).val (y 2).val : EReal)

variable (m : (ℓ : Loc nD τ sig) → Buf (Elt Ideal) ℓ) (c : Dev nD)

/-- Where output window 8's block of a point lies. -/
theorem idx8 : ∀ t : Fin cfg0.N, win0_8.index t 0 = t.val / 8 ∧ win0_8.index t 1 = t.val % 8 ∧ win0_8.index t 2 = 0 := by
  decide +kernel
/-- The array of output window 8. -/
theorem arr8 (f : Fin0 m c) : (dats m 0 c).arrAt 8 cfg0.N = outQ (dat m c) := by
  refine (dats m 0 c).arrAt_eq_of_covers 8 _ (by decide +kernel) fun t hf y => ?_
  blk_simp
  rw [after0_8]
  suffices key : ∀ y : S1x256x128.Idx, (outsAt0 m c t.val t.isLt).1 y = outQ (dat m c) ((win0_8.blk t).view.emb y) from key y
  intro y
  idx_vars y
  obtain ⟨h8, i8⟩ := point_lt t
  obtain rfl : y0 = 0 := Subsingleton.elim _ _
  have e : (win0_8.blk t).view.emb (ix3 0 y1 y2) = ix3 ⟨t.val / 8, h8⟩ ⟨256 * (t.val % 8) + y1.val, by omega⟩ y2 := by
    obtain ⟨e0, e1, e2⟩ := idx8 t
    blk_ext [e0, e1, e2]
  rw [e]
  exact dq_at m c rfl (blkAt m c f) t y1 y2

/-- Where output window 9's block of a point lies. -/
theorem idx9 : ∀ t : Fin cfg0.N, win0_9.index t 0 = t.val / 8 ∧ win0_9.index t 1 = 0 ∧ win0_9.index t 2 = 0 := by
  decide +kernel
/-- Window 9's block is written back after a head's last tile. -/
theorem last9 : ∀ t : Fin cfg0.N, (cfg0.win 9).flush t = true → t.val % 8 = 7 := by
  decide +kernel
/-- The array of output window 9. -/
theorem arr9 (f : Fin0 m c) : (dats m 0 c).arrAt 9 cfg0.N = outK (dat m c) := by
  refine (dats m 0 c).arrAt_eq_of_covers 9 _ (by decide +kernel) fun t hf y => ?_
  blk_simp
  rw [after0_9]
  suffices key : ∀ y : S1x2048x128.Idx, (outsAt0 m c t.val t.isLt).2.1 y = outK (dat m c) ((win0_9.blk t).view.emb y) from key y
  intro y
  idx_vars y
  obtain ⟨h8, i8⟩ := point_lt t
  obtain rfl : y0 = 0 := Subsingleton.elim _ _
  have e : (win0_9.blk t).view.emb (ix3 0 y1 y2) = ix3 ⟨t.val / 8, h8⟩ y1 y2 := by
    obtain ⟨e0, e1, e2⟩ := idx9 t
    blk_ext [e0, e1, e2]
  rw [e]
  have h7 := last9 t hf
  refine (dk_at m c rfl (blkAt m c f) t.val t.isLt y1 y2).trans ?_
  rw [h7]
  rfl

/-- Where output window 10's block of a point lies. -/
theorem idx10 : ∀ t : Fin cfg0.N, win0_10.index t 0 = 0 ∧ win0_10.index t 1 = t.val / 8 := by
  decide +kernel
/-- Window 10's block is written back after a head's last tile. -/
theorem last10 : ∀ t : Fin cfg0.N, (cfg0.win 10).flush t = true → t.val % 8 = 7 := by
  decide +kernel
/-- The array of output window 10. -/
theorem arr10 (f : Fin0 m c) : (dats m 0 c).arrAt 10 cfg0.N = outV (dat m c) := by
  refine (dats m 0 c).arrAt_eq_of_covers 10 _ (by decide +kernel) fun t hf y => ?_
  blk_simp
  rw [after0_10]
  suffices key : ∀ y : S2048x128.Idx, (outsAt0 m c t.val t.isLt).2.2.1 y = outV (dat m c) ((win0_10.blk t).view.emb y) from key y
  intro y
  idx_vars y
  obtain ⟨h8, i8⟩ := point_lt t
  have e : (win0_10.blk t).view.emb (ix2 y0 y1) = ix2 y0 ⟨t.val / 8 * 128 + y1.val, by omega⟩ := by
    obtain ⟨e0, e1⟩ := idx10 t
    blk_ext [e0, e1]
  rw [e]
  have h7 := last10 t hf
  refine (dv_at m c rfl (blkAt m c f) t.val t.isLt y0 y1).trans ?_
  rw [h7]
  have a : (t.val / 8 * 128 + y1.val) / 128 = t.val / 8 := by omega
  have b : (t.val / 8 * 128 + y1.val) % 128 = y1.val := by omega
  show _ = ((dat m c).dv 2048 ((t.val / 8 * 128 + y1.val) / 128) y0.val ((t.val / 8 * 128 + y1.val) % 128) : EReal)
  rw [a, b]

/-- Where output window 11's block of a point lies. -/
theorem idx11 : ∀ t : Fin cfg0.N, win0_11.index t 0 = t.val / 8 ∧ win0_11.index t 1 = t.val % 8 ∧ win0_11.index t 2 = 0 := by
  decide +kernel
/-- The array of output window 11. -/
theorem arr11 (f : Fin0 m c) : (dats m 0 c).arrAt 11 cfg0.N = outCQ (dat m c) := by
  refine (dats m 0 c).arrAt_eq_of_covers 11 _ (by decide +kernel) fun t hf y => ?_
  blk_simp
  rw [after0_11]
  suffices key : ∀ y : S1x256x1.Idx, (outsAt0 m c t.val t.isLt).2.2.2.1 y = outCQ (dat m c) ((win0_11.blk t).view.emb y) from key y
  intro y
  idx_vars y
  obtain ⟨h8, i8⟩ := point_lt t
  obtain rfl : y0 = 0 := Subsingleton.elim _ _
  obtain rfl : y2 = 0 := Subsingleton.elim _ _
  have e : (win0_11.blk t).view.emb (ix3 0 y1 0) = ix3 ⟨t.val / 8, h8⟩ ⟨256 * (t.val % 8) + y1.val, by omega⟩ 0 := by
    obtain ⟨e0, e1, e2⟩ := idx11 t
    blk_ext [e0, e1, e2]
  rw [e]
  exact dcq_at m c rfl (blkAt m c f) t y1

/-- Where output window 12's block of a point lies. -/
theorem idx12 : ∀ t : Fin cfg0.N, win0_12.index t 0 = t.val / 8 ∧ win0_12.index t 1 = 0 ∧ win0_12.index t 2 = 0 := by
  decide +kernel
/-- Window 12's block is written back after a head's last tile. -/
theorem last12 : ∀ t : Fin cfg0.N, (cfg0.win 12).flush t = true → t.val % 8 = 7 := by
  decide +kernel
/-- The array of output window 12. -/
theorem arr12 (f : Fin0 m c) : (dats m 0 c).arrAt 12 cfg0.N = outCK (dat m c) := by
  refine (dats m 0 c).arrAt_eq_of_covers 12 _ (by decide +kernel) fun t hf y => ?_
  blk_simp
  rw [after0_12]
  suffices key : ∀ y : S1x1x2048.Idx, (outsAt0 m c t.val t.isLt).2.2.2.2 y = outCK (dat m c) ((win0_12.blk t).view.emb y) from key y
  intro y
  idx_vars y
  obtain ⟨h8, i8⟩ := point_lt t
  obtain rfl : y0 = 0 := Subsingleton.elim _ _
  obtain rfl : y1 = 0 := Subsingleton.elim _ _
  have e : (win0_12.blk t).view.emb (ix3 0 0 y2) = ix3 ⟨t.val / 8, h8⟩ 0 y2 := by
    obtain ⟨e0, e1, e2⟩ := idx12 t
    blk_ext [e0, e1, e2]
  rw [e]
  have h7 := last12 t hf
  refine (dck_at m c rfl (blkAt m c f) t.val t.isLt y2).trans ?_
  rw [h7]
  rfl

end Cert.Fox

end
-- ==== Proof.Ref.lean ====
/- The reference's five results, at an index: the real data's gradients. -/
module

public import proofs.«01_k».proof.Proof.Arrays
public import proofs.«01_k».proof.Proof.Gen.ReferenceIdeal.Run

@[expose] public section

set_option maxRecDepth 16384

noncomputable section

namespace Cert.Fox

open Idealize.ShloMosaic Finset Cert.ReferenceIdeal Cert.ReferenceIdeal.Gen

section terms

variable (q k : FVec Ideal S8x2048x128 .bf16) (z : FVec Ideal S2048x13312 .f32) (cum : FVec Ideal S8x2048 .f32)
  (g : FVec Ideal S2048x1024 .bf16)

/-- The causal mask. -/
def rMask : Vec Ideal S8x2048x2048 .i1 :=
  broadcastInDim S8x2048x2048 ![0, 1, 2] bcast_S1x2048x2048_S8x2048x2048_0_1_2 (broadcastInDim S1x2048x2048 ![1, 2] bcast_S2048x2048_S1x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
/-- The masked scores. -/
def rScore : FVec Ideal S8x2048x2048 .f32 :=
  select rMask (subf (addf (mulf (Host.dotGeneral dot_S8x2048x128_S8x2048x128_S8x2048x2048_2_2_1_1_0_0 none (extf .f32 q bitsLt_bf16_f32) (extf .f32 k bitsLt_bf16_f32)) (broadcastInDim S8x2048x2048 ![] bcast_S_S8x2048x2048 (constant S_ .f32 0x3DB504F3#32))) (broadcastInDim S8x2048x2048 ![0, 1, 2] bcast_S8x2048x1_S8x2048x2048_0_1_2 (broadcastInDim S8x2048x1 ![0, 1] bcast_S8x2048_S8x2048x1_0_1 cum))) (broadcastInDim S8x2048x2048 ![0, 1, 2] bcast_S8x1x2048_S8x2048x2048_0_1_2 (broadcastInDim S8x1x2048 ![0, 2] bcast_S8x2048_S8x1x2048_0_2 cum))) (broadcastInDim S8x2048x2048 ![] bcast_S_S8x2048x2048 (id (constant S_ .f32 0xFF800000#32)))
/-- The gradients of the scores, from the arguments. -/
def rGrad : FVec Ideal S8x2048x2048 .f32 :=
  rDs rMask (rDp (extractStridedSlice S2048x1024 ![0, 3072] z slices_S2048x13312_S2048x1024_0_3072) g) (rExp (rScore q k cum)) (rSum (rExp (rScore q k cum)))

/-- The gradient of the queries. -/
def rQ (k : FVec Ideal S8x2048x128 .bf16) (G : FVec Ideal S8x2048x2048 .f32) : FVec Ideal S8x2048x128 .f32 :=
  Host.dotGeneral dot_S8x2048x2048_S8x2048x128_S8x2048x128_2_1_1_2_0_0 none (mulf G (broadcastInDim S8x2048x2048 ![] bcast_S_S8x2048x2048 (constant S_ .f32 0x3DB504F3#32))) (extf .f32 k bitsLt_bf16_f32)
/-- The gradient of the keys. -/
def rK (q : FVec Ideal S8x2048x128 .bf16) (G : FVec Ideal S8x2048x2048 .f32) : FVec Ideal S8x2048x128 .f32 :=
  Host.dotGeneral dot_S8x2048x2048_S8x2048x128_S8x2048x128_1_1_2_2_0_0 none (mulf G (broadcastInDim S8x2048x2048 ![] bcast_S_S8x2048x2048 (constant S_ .f32 0x3DB504F3#32))) (extf .f32 q bitsLt_bf16_f32)
/-- The gradient of the queries' bias. -/
def rCQ (G : FVec Ideal S8x2048x2048 .f32) : FVec Ideal S8x2048x1 .f32 :=
  shapeCast S8x2048x1 (Host.reduceAdd G (constant S_ .f32 0x00000000#32) reducesTo_S8x2048x2048_S8x2048_d2 h_S_) shapeCasts_S8x2048_S8x2048x1
/-- The gradient of the keys' bias. -/
def rCK (G : FVec Ideal S8x2048x2048 .f32) : FVec Ideal S8x1x2048 .f32 :=
  shapeCast S8x1x2048 (Host.reduceAdd (Host.negf G) (constant S_ .f32 0x00000000#32) reducesTo_S8x2048x2048_S8x2048_d1 h_S_) shapeCasts_S8x2048_S8x1x2048

end terms

section entries

variable (q k : FVec Ideal S8x2048x128 .bf16) (z : FVec Ideal S2048x13312 .f32) (cum : FVec Ideal S8x2048 .f32)
  (g : FVec Ideal S2048x1024 .bf16) (f : Finite q k z cum g)

/-- The mask compares the positions. -/
theorem rMask_read (h : Fin 8) (i j : Fin 2048) : rMask (ix3 h i j) = IntOp.cmpi .sle (BitVec.ofNat 32 j.val) (BitVec.ofNat 32 i.val) := by
  pointwise [rMask]

/-- The values' columns of the third argument. -/
theorem slice_read (j : Fin 2048) (d : Fin 1024) :
    extractStridedSlice S2048x1024 ![0, 3072] z slices_S2048x13312_S2048x1024_0_3072 (ix2 j d) = z (ix2 j ⟨3072 + d.val, by omega⟩) := by
  pointwise

/-- A masked score. -/
theorem rScore_read (h : Fin 8) (i j : Fin 2048) : rScore q k cum (ix3 h i j)
    = if j.val ≤ i.val then (∑ d, q (ix3 h i d) * k (ix3 h j d)) * Ideal.ofBits FTy.f32 0x3DB504F3#32 + cum (ix2 h i) - cum (ix2 h j) else ⊥ := by
  rw [← select_pos]
  pointwise [rScore, rMask]
  exact congrArg _ negInf_eq

/-- The gradient of a query. -/
theorem rQ_read (G : FVec Ideal S8x2048x2048 .f32) (h : Fin 8) (i : Fin 2048) (d : Fin 128) :
    rQ k G (ix3 h i d) = ∑ j, G (ix3 h i j) * Ideal.ofBits FTy.f32 0x3DB504F3#32 * k (ix3 h j d) := by
  pointwise [rQ]

/-- The gradient of a key. -/
theorem rK_read (G : FVec Ideal S8x2048x2048 .f32) (h : Fin 8) (j : Fin 2048) (d : Fin 128) :
    rK q G (ix3 h j d) = ∑ i, G (ix3 h i j) * Ideal.ofBits FTy.f32 0x3DB504F3#32 * q (ix3 h i d) := by
  pointwise [rK]

/-- The gradient of a query's bias. -/
theorem rCQ_read (G : FVec Ideal S8x2048x2048 .f32) (h : Fin 8) (i : Fin 2048) : rCQ G (ix3 h i 0) = ∑ j, G (ix3 h i j) := by
  pointwise [rCQ]

/-- The gradient of a key's bias. -/
theorem rCK_read (G : FVec Ideal S8x2048x2048 .f32) (h : Fin 8) (j : Fin 2048) : rCK G (ix3 h 0 j) = ∑ i, -G (ix3 h i j) := by
  pointwise [rCK]

variable {q k z cum g}
include f

/-- The masked score of the real data. -/
theorem rScore_eq (h : Fin 8) (i j : Fin 2048) :
    rScore q k cum (ix3 h i j) = if j.val ≤ i.val then ((data q k z cum g).s h.val i.val j.val : EReal) else ⊥ := by
  rw [rScore_read]
  congr 1
  simp only [fun d => rd3_eq _ h i d (f.q _), fun d => rd3_eq _ h j d (f.k _), fun i => rd2_eq _ h i (f.cum _), scale_eq, ← EReal.coe_mul, ← coe_sum,
    ← EReal.coe_add, ← EReal.coe_sub, Attn.s, Finset.sum_range]
  rfl

/-- The gradient of a score of the real data. -/
theorem rGrad_eq (h : Fin 8) (i j : Fin 2048) : rGrad q k z cum g (ix3 h i j) = ((data q k z cum g).ds h.val i.val j.val : EReal) := by
  refine rDs_eq (data q k z cum g) (rScore_eq f) rMask (fun h i j => ?_) _ (fun h i j => ?_) h i j
  · rw [rMask_read]
    exact pos_iff j.val i.val j.isLt i.isLt
  · rw [rDp_read, Attn.dp, coe_sum_fin]
    refine sum_congr rfl fun d _ => ?_
    rw [slice_read, rd2_eq g i ⟨h.val * 128 + d.val, by omega⟩ (f.g _),
      rd2_eq z j ⟨3072 + (h.val * 128 + d.val), by omega⟩ (f.z j ⟨h.val * 128 + d.val, by omega⟩), ← EReal.coe_mul]
    rfl

/-- The queries' gradient. -/
theorem rQ_eq : rQ k (rGrad q k z cum g) = outQ (data q k z cum g) := by
  funext y
  idx_vars y
  rw [rQ_read]
  show _ = ((data q k z cum g).dq y0.val y1.val y2.val : EReal)
  rw [Attn.dq, coe_sum_fin]
  refine sum_congr rfl fun j _ => ?_
  rw [rGrad_eq f, scale_eq, rd3_eq k y0 j y2 (f.k _), EReal.coe_mul, EReal.coe_mul]
  rfl

/-- The keys' gradient. -/
theorem rK_eq : rK q (rGrad q k z cum g) = outK (data q k z cum g) := by
  funext y
  idx_vars y
  rw [rK_read]
  show _ = ((data q k z cum g).dk 2048 y0.val y1.val y2.val : EReal)
  rw [Attn.dk, coe_sum_fin]
  refine sum_congr rfl fun i _ => ?_
  rw [rGrad_eq f, scale_eq, rd3_eq q y0 i y2 (f.q _), EReal.coe_mul, EReal.coe_mul]
  rfl

/-- The queries' bias's gradient. -/
theorem rCQ_eq : rCQ (rGrad q k z cum g) = outCQ (data q k z cum g) := by
  funext y
  idx_vars y
  obtain rfl : y2 = 0 := Subsingleton.elim _ _
  rw [rCQ_read]
  show _ = ((data q k z cum g).dcq y0.val y1.val : EReal)
  rw [Attn.dcq, coe_sum_fin]
  exact sum_congr rfl fun j _ => rGrad_eq f y0 y1 j

/-- The keys' bias's gradient. -/
theorem rCK_eq : rCK (rGrad q k z cum g) = outCK (data q k z cum g) := by
  funext y
  idx_vars y
  obtain rfl : y1 = 0 := Subsingleton.elim _ _
  rw [rCK_read]
  show _ = ((data q k z cum g).dck 2048 y0.val y2.val : EReal)
  rw [Attn.dck, coe_sum_fin]
  exact sum_congr rfl fun i _ => by rw [rGrad_eq f, EReal.coe_neg]

end entries

section results

variable (m : (ℓ : Loc nD τ sig) → Buf (Elt Ideal) ℓ) (c : Dev nD)

/-- The program's results are these terms of its arguments. -/
theorem res_terms : Value.res_main_v80 m c = rQ (m (c, Proc.devRef .tc main_arg1)) (rGrad (m (c, Proc.devRef .tc main_arg0)) (m (c, Proc.devRef .tc main_arg1)) (m (c, Proc.devRef .tc main_arg2)) (m (c, Proc.devRef .tc main_arg3)) (m (c, Proc.devRef .tc main_arg4))) ∧
    Value.res_main_v79 m c = rK (m (c, Proc.devRef .tc main_arg0)) (rGrad (m (c, Proc.devRef .tc main_arg0)) (m (c, Proc.devRef .tc main_arg1)) (m (c, Proc.devRef .tc main_arg2)) (m (c, Proc.devRef .tc main_arg3)) (m (c, Proc.devRef .tc main_arg4))) ∧
    Value.res_main_v58 m c = rV (m (c, Proc.devRef .tc main_arg4)) (rExp (rScore (m (c, Proc.devRef .tc main_arg0)) (m (c, Proc.devRef .tc main_arg1)) (m (c, Proc.devRef .tc main_arg3)))) (rSum (rExp (rScore (m (c, Proc.devRef .tc main_arg0)) (m (c, Proc.devRef .tc main_arg1)) (m (c, Proc.devRef .tc main_arg3))))) ∧
    Value.res_main_v76 m c = rCQ (rGrad (m (c, Proc.devRef .tc main_arg0)) (m (c, Proc.devRef .tc main_arg1)) (m (c, Proc.devRef .tc main_arg2)) (m (c, Proc.devRef .tc main_arg3)) (m (c, Proc.devRef .tc main_arg4))) ∧
    Value.res_main_v74 m c = rCK (rGrad (m (c, Proc.devRef .tc main_arg0)) (m (c, Proc.devRef .tc main_arg1)) (m (c, Proc.devRef .tc main_arg2)) (m (c, Proc.devRef .tc main_arg3)) (m (c, Proc.devRef .tc main_arg4))) :=
  ⟨rfl, rfl, rfl, rfl, rfl⟩

end results

end Cert.Fox

end
-- ==== Proof.LatentBlocks.lean ====
/- The latent attention's backward kernel at one grid point: the argument arrays as real data, the point's input blocks
   as that data, and what each of the four chunks of keys computes from them. -/
module

public import proofs.«01_k».proof.Proof.Sums
public import proofs.«01_k».proof.Proof.Inputs
public import proofs.«01_k».proof.Pre_finite_latent
public import proofs.«01_k».proof.Proof.Gen.LatentIdeal.Value
public import Idealize.ShloMosaic.Lib.Pipeline.ValueKit

@[expose] public section

set_option maxRecDepth 16384

noncomputable section

namespace Cert.Mla

open Idealize.ShloMosaic Finset Cert.Fox Cert.LatentIdeal Cert.LatentIdeal.Gen

/-- The data of the latent attention: 256 lanes, and a query sees the keys up to the end of its own chunk of 64. -/
abbrev Data := Attn 256 fun q => q / 64 * 64 + 63

/-- The score's scale, as the program's constant denotes it. -/
def scale : ℝ := (Ideal.ofBits .f32 0x3D93CD3A#32).toReal

/-- The scale's constant is that real. -/
theorem scale_eq : Ideal.ofBits .f32 0x3D93CD3A#32 = (scale : EReal) := by
  have h : ∃ r : ℝ, Ideal.ofBits .f32 0x3D93CD3A#32 = (r : EReal) := by
    simp only [Ideal.ofBits, Ideal.ieee]
    rw [if_neg (by decide), if_neg (by decide)]
    exact ⟨_, rfl⟩
  obtain ⟨r, hr⟩ := h
  rw [scale, hr, EReal.toReal_coe]

/-- The real data of the argument arrays: no bias, and the values in the last 1024 columns of the third. -/
def data (q k : FVec Ideal S8x2048x256 .bf16) (z : FVec Ideal S2048x2048 .f32) (g : FVec Ideal S2048x1024 .bf16) : Data where
  Q := rd3 q
  K := rd3 k
  V i e := rd2 z i (1024 + e)
  C _ _ := 0
  D := rd2 g
  σ := scale
  own _ := by omega
  mono a b h := by show a / 64 * 64 + 63 ≤ b / 64 * 64 + 63; omega

/-- Every entry that the attention reads is finite. -/
structure Finite (q k : FVec Ideal S8x2048x256 .bf16) (z : FVec Ideal S2048x2048 .f32) (g : FVec Ideal S2048x1024 .bf16) : Prop where
  q : ∀ i, q i ≠ ⊤ ∧ q i ≠ ⊥
  k : ∀ i, k i ≠ ⊤ ∧ k i ≠ ⊥
  z : ∀ (i : Fin 2048) (e : Fin 1024), z (ix2 i ⟨1024 + e.val, by omega⟩) ≠ ⊤ ∧ z (ix2 i ⟨1024 + e.val, by omega⟩) ≠ ⊥
  g : ∀ i, g i ≠ ⊤ ∧ g i ≠ ⊥

/-- The shape facts that the precondition's operations take. -/
instance preFacts : Cert.Pre_finite_latent.Facts where
  bitsLt_bf16_f32 := by decide
  bcast_S_S8x2048x256 := by decide
  reducesTo_S8x2048x256_S_d0_1_2 := by decide
  h_S_ := by decide
  slices_S2048x2048_S2048x1024_0_1024 := by decide
  bcast_S_S2048x1024 := by decide
  reducesTo_S2048x1024_S_d0_1 := by decide

/-- The precondition says that every entry that the attention reads is finite. -/
theorem finite_of_pre (q k : FVec Ideal S8x2048x256 .bf16) (z : FVec Ideal S2048x2048 .f32) (g : FVec Ideal S2048x1024 .bf16)
    (h : Cert.Pre_finite_latent.fn q k z g = fun _ => 1#1) : Finite q k z g := by
  have h0 := congrFun h ix0
  unfold Cert.Pre_finite_latent.fn Cert.Pre_finite_latent.fn_part1 at h0
  dsimp only [andi_apply] at h0
  have sp : ∀ a b : BitVec 1, IntOp.andi a b = 1#1 → a = 1#1 ∧ b = 1#1 := by decide
  obtain ⟨h0, hg⟩ := sp _ _ h0
  obtain ⟨h0, hz⟩ := sp _ _ h0
  obtain ⟨hq, hk⟩ := sp _ _ h0
  haveI : Subsingleton S_.Idx := ⟨fun a b => funext fun i => i.elim0⟩
  refine ⟨fun i => ?_, fun i => ?_, fun i e => ?_, fun i => ?_⟩
  · exact finite_of_lt _ (Host.reduce_andi_all _ _ _ _ _ hq i)
  · exact finite_of_lt _ (Host.reduce_andi_all _ _ _ _ _ hk i)
  · have := Host.reduce_andi_all _ _ _ _ _ hz (ix2 i e)
    refine finite_of_lt _ ?_
    pointwise at this
    exact this
  · exact finite_of_lt _ (Host.reduce_andi_all _ _ _ _ _ hg i)

/-- The six input blocks of the point of head `h` and query tile `i`, as real data. -/
structure Blk (x : Data) (h i : ℕ) (x0 : Vec Ideal S1x256x256 .bf16) (x1 : Vec Ideal S1x2048x256 .bf16) (x2 : Vec Ideal S2048x128 .f32)
    (x3 : Vec Ideal S256x128 .bf16) (x4 : Vec Ideal S256x128 .bf16) (x5 : Vec Ideal S1x256x1 .f32) : Prop where
  σ : x.σ = scale
  c : ∀ h k, x.C h k = 0
  q : ∀ (r : Fin 256) (d : Fin 256), x0 (ix3 0 r d) = (x.Q h (256 * i + r.val) d.val : EReal)
  k : ∀ (j : Fin 2048) (d : Fin 256), x1 (ix3 0 j d) = (x.K h j.val d.val : EReal)
  v : ∀ (j : Fin 2048) (d : Fin 128), x2 (ix2 j d) = (x.V j.val (h * 128 + d.val) : EReal)
  o : ∀ (r : Fin 256) (d : Fin 128), x3 (ix2 r d) = (x.o h (256 * i + r.val) d.val : EReal)
  g : ∀ (r : Fin 256) (d : Fin 128), x4 (ix2 r d) = (x.D (256 * i + r.val) (h * 128 + d.val) : EReal)
  l : ∀ r : Fin 256, ∃ L : ℝ, x5 (ix3 0 r 0) = (L : EReal) ∧
    ∀ k, k ≤ (256 * i + r.val) / 64 * 64 + 63 → Real.exp (x.s h (256 * i + r.val) k - L) = x.p h (256 * i + r.val) k

/-- The row weights of query tile `i` on key chunk `n`. -/
def pF (x : Data) (h i n : ℕ) : FVec Ideal S256x512 .f32 := fun y => (x.p h (256 * i + (y 0).val) (512 * n + (y 1).val) : EReal)
/-- The gradients of the scaled scores of query tile `i` on key chunk `n`. -/
def dF (x : Data) (h i n : ℕ) : FVec Ideal S256x512 .bf16 :=
  fun y => ((x.ds h (256 * i + (y 0).val) (512 * n + (y 1).val) * x.σ : ℝ) : EReal)
/-- The key chunk. -/
def kF (x : Data) (h n : ℕ) : FVec Ideal S512x256 .bf16 := fun y => (x.K h (512 * n + (y 0).val) (y 1).val : EReal)

/-- Six places to the right is the number of a position's chunk. -/
theorem shift_pos : ∀ a : Fin 2048, IntOp.shrsi .vector (BitVec.ofNat 32 a.val) 6#32 = BitVec.ofNat 32 (a.val / 64) := by decide +kernel

variable {x : Data} {h i : ℕ} {x0 : Vec Ideal S1x256x256 .bf16} {x1 : Vec Ideal S1x2048x256 .bf16} {x2 : Vec Ideal S2048x128 .f32}
    {x3 : Vec Ideal S256x128 .bf16} {x4 : Vec Ideal S256x128 .bf16} {x5 : Vec Ideal S1x256x1 .f32}

/-- The mask of a chunk, at row `r` and column `j`. -/
theorem mask_iff (o r j : ℕ) (hi : i < 8) (ho : o ≤ 1536) (hr : r < 256) (hj : j < 512) :
    (IntOp.cmpi .sle (IntOp.shrsi .vector (IntOp.addi (BitVec.ofNat 32 o) (BitVec.ofNat 32 j)) 6#32)
      (IntOp.shrsi .vector (IntOp.addi (Scalar.muli (BitVec.ofNat 32 i) 256#32) (BitVec.ofNat 32 r)) 6#32) = 1#1)
    ↔ o + j ≤ (256 * i + r) / 64 * 64 + 63 := by
  rw [col_pos, row_pos, shift_pos ⟨o + j, by omega⟩, shift_pos ⟨256 * i + r, by omega⟩, pos_iff _ _ (by simp only; omega) (by simp only; omega)]
  simp only
  omega

/-- The exponential of a masked score less the row's log-sum is the row weight. -/
theorem p_val (b : Blk x h i x0 x1 x2 x3 x4 x5) (r : Fin 256) (j : Fin 2048) (c : BitVec 1)
    (hc : c = 1#1 ↔ j.val ≤ (256 * i + r.val) / 64 * 64 + 63) :
    Ideal.exp (Scalar.select c ((∑ d, x0 (ix3 0 r d) * x1 (ix3 0 j d)) * Ideal.ofBits FTy.f32 0x3D93CD3A#32)
      (Named.named (F := Ideal) (φ := .f32) κ "mask" 0xF149F2CA#32) - x5 (ix3 0 r 0)) = (x.p h (256 * i + r.val) j.val : EReal) := by
  obtain ⟨L, hL, hp⟩ := b.l r
  have hm : (Named.named (F := Ideal) (φ := .f32) κ "mask" 0xF149F2CA#32 : EReal) = ⊥ := rfl
  have hs : (∑ d, x0 (ix3 0 r d) * x1 (ix3 0 j d)) * Ideal.ofBits FTy.f32 0x3D93CD3A#32 = (x.s h (256 * i + r.val) j.val : EReal) := by
    simp only [b.q, b.k, scale_eq, ← b.σ, ← EReal.coe_mul, ← coe_sum, Attn.s, b.c, add_zero, sub_zero, Finset.sum_range]
  rw [select_iff c hc, hs, hm, hL]
  by_cases hk : j.val ≤ (256 * i + r.val) / 64 * 64 + 63
  · rw [if_pos hk, ← hp _ hk]; rfl
  · rw [if_neg hk, Attn.p_zero x (by omega), EReal.bot_sub]; rfl

/-- The weight's gradient less the row's mean gradient, from the output's gradient, the values and the output. -/
theorem g_val (b : Blk x h i x0 x1 x2 x3 x4 x5) (r : Fin 256) (j : Fin 2048) :
    (∑ d, x4 (ix2 r d) * x2 (ix2 j d) - ∑ d, x4 (ix2 r d) * x3 (ix2 r d) : EReal)
      = ((x.dp h (256 * i + r.val) j.val - x.del h (256 * i + r.val) : ℝ) : EReal) := by
  simp only [b.g, b.v, b.o, ← EReal.coe_mul, ← coe_sum, ← EReal.coe_sub, ← Attn.del_eq, Attn.dp, Finset.sum_range]

/-- The gradient of a scaled score, from the weight and its centred gradient. -/
theorem d_val (b : Blk x h i x0 x1 x2 x3 x4 x5) (r : Fin 256) (j : Fin 2048) (p : EReal) (hp : p = (x.p h (256 * i + r.val) j.val : EReal)) :
    (p * (∑ d, x4 (ix2 r d) * x2 (ix2 j d) - ∑ d, x4 (ix2 r d) * x3 (ix2 r d)) * Ideal.ofBits FTy.f32 0x3D93CD3A#32 : EReal)
      = ((x.ds h (256 * i + r.val) j.val * x.σ : ℝ) : EReal) := by
  rw [g_val b, hp, scale_eq, ← b.σ, ← EReal.coe_mul, ← EReal.coe_mul]
  rfl

/-- The four chunks' weights are the row weights. -/
theorem p_chunks (b : Blk x h i x0 x1 x2 x3 x4 x5) (hi : i < 8) :
    k0_pay8 (BitVec.ofNat 32 i) (k0_pay25 x0) (k0_pay26 x5)
      (View.ld x1 (Rect.unit ![0, 0, 0] ![1, 512, 256] inb_S1x2048x256_S1x512x256_0_0_0)) = pF x h i 0 ∧
    k0_pay12 (BitVec.ofNat 32 i) (k0_pay25 x0) (k0_pay26 x5)
      (View.ld x1 (Rect.unit ![0, 512, 0] ![1, 512, 256] inb_S1x2048x256_S1x512x256_0_512_0)) = pF x h i 1 ∧
    k0_pay16 (BitVec.ofNat 32 i) (k0_pay25 x0) (k0_pay26 x5)
      (View.ld x1 (Rect.unit ![0, 1024, 0] ![1, 512, 256] inb_S1x2048x256_S1x512x256_0_1024_0)) = pF x h i 2 ∧
    k0_pay20 (BitVec.ofNat 32 i) (k0_pay25 x0) (k0_pay26 x5)
      (View.ld x1 (Rect.unit ![0, 1536, 0] ![1, 512, 256] inb_S1x2048x256_S1x512x256_0_1536_0)) = pF x h i 3 := by
  refine ⟨?_, ?_, ?_, ?_⟩ <;> funext y <;> idx_vars y <;>
    pointwise [k0_pay8, k0_pay12, k0_pay16, k0_pay20, k0_pay25, k0_pay26, k0_pay7, k0_pay11, k0_pay15, k0_pay19]
  · refine (p_val b y0 ⟨y1.val, by omega⟩ _ ((mask_iff 0 y0.val y1.val hi (by omega) y0.isLt y1.isLt).trans (by rw [Nat.zero_add]))).trans ?_
    simp [pF]
  · exact p_val b y0 ⟨512 + y1.val, by omega⟩ _ (mask_iff 512 y0.val y1.val hi (by omega) y0.isLt y1.isLt)
  · exact p_val b y0 ⟨1024 + y1.val, by omega⟩ _ (mask_iff 1024 y0.val y1.val hi (by omega) y0.isLt y1.isLt)
  · exact p_val b y0 ⟨1536 + y1.val, by omega⟩ _ (mask_iff 1536 y0.val y1.val hi (by omega) y0.isLt y1.isLt)

/-- The four chunks' gradients of the scaled scores. -/
theorem d_chunks (b : Blk x h i x0 x1 x2 x3 x4 x5) (hi : i < 8) :
    k0_pay10 (BitVec.ofNat 32 i) (k0_pay25 x0) x4 (k0_pay26 x5) (k0_pay27 x4 x3)
      (View.ld x1 (Rect.unit ![0, 0, 0] ![1, 512, 256] inb_S1x2048x256_S1x512x256_0_0_0))
      (View.ld x2 (Rect.unit ![0, 0] ![512, 128] inb_S2048x128_S512x128_0_0)) = dF x h i 0 ∧
    k0_pay14 (BitVec.ofNat 32 i) (k0_pay25 x0) x4 (k0_pay26 x5) (k0_pay27 x4 x3)
      (View.ld x1 (Rect.unit ![0, 512, 0] ![1, 512, 256] inb_S1x2048x256_S1x512x256_0_512_0))
      (View.ld x2 (Rect.unit ![512, 0] ![512, 128] inb_S2048x128_S512x128_512_0)) = dF x h i 1 ∧
    k0_pay18 (BitVec.ofNat 32 i) (k0_pay25 x0) x4 (k0_pay26 x5) (k0_pay27 x4 x3)
      (View.ld x1 (Rect.unit ![0, 1024, 0] ![1, 512, 256] inb_S1x2048x256_S1x512x256_0_1024_0))
      (View.ld x2 (Rect.unit ![1024, 0] ![512, 128] inb_S2048x128_S512x128_1024_0)) = dF x h i 2 ∧
    k0_pay22 (BitVec.ofNat 32 i) (k0_pay25 x0) x4 (k0_pay26 x5) (k0_pay27 x4 x3)
      (View.ld x1 (Rect.unit ![0, 1536, 0] ![1, 512, 256] inb_S1x2048x256_S1x512x256_0_1536_0))
      (View.ld x2 (Rect.unit ![1536, 0] ![512, 128] inb_S2048x128_S512x128_1536_0)) = dF x h i 3 := by
  obtain ⟨p0, p1, p2, p3⟩ := p_chunks b hi
  refine ⟨?_, ?_, ?_, ?_⟩ <;> funext y <;> idx_vars y <;> simp only [k0_pay10, k0_pay14, k0_pay18, k0_pay22, p0, p1, p2, p3] <;>
    pointwise [k0_pay27]
  · refine (d_val b y0 ⟨y1.val, by omega⟩ _ (by simp [pF])).trans ?_
    simp [dF]
  · exact d_val b y0 ⟨512 + y1.val, by omega⟩ _ rfl
  · exact d_val b y0 ⟨1024 + y1.val, by omega⟩ _ rfl
  · exact d_val b y0 ⟨1536 + y1.val, by omega⟩ _ rfl

/-- The four parts of the key block. -/
theorem k_chunks (b : Blk x h i x0 x1 x2 x3 x4 x5) :
    k0_pay7 (View.ld x1 (Rect.unit ![0, 0, 0] ![1, 512, 256] inb_S1x2048x256_S1x512x256_0_0_0)) = kF x h 0 ∧
    k0_pay11 (View.ld x1 (Rect.unit ![0, 512, 0] ![1, 512, 256] inb_S1x2048x256_S1x512x256_0_512_0)) = kF x h 1 ∧
    k0_pay15 (View.ld x1 (Rect.unit ![0, 1024, 0] ![1, 512, 256] inb_S1x2048x256_S1x512x256_0_1024_0)) = kF x h 2 ∧
    k0_pay19 (View.ld x1 (Rect.unit ![0, 1536, 0] ![1, 512, 256] inb_S1x2048x256_S1x512x256_0_1536_0)) = kF x h 3 := by
  refine ⟨?_, ?_, ?_, ?_⟩ <;> funext y <;> idx_vars y <;> pointwise [k0_pay7, k0_pay11, k0_pay15, k0_pay19]
  · refine (b.k ⟨y0.val, by omega⟩ y1).trans ?_
    simp [kF]
  · exact b.k ⟨512 + y0.val, by omega⟩ y1
  · exact b.k ⟨1024 + y0.val, by omega⟩ y1
  · exact b.k ⟨1536 + y0.val, by omega⟩ y1

/-- What a query tile adds to a value's gradient. -/
theorem v_sum (b : Blk x h i x0 x1 x2 x3 x4 x5) (n : ℕ) (j : Fin 512) (d : Fin 128) :
    (∑ r : Fin 256, pF x h i n (ix2 r j) * x4 (ix2 r d) : EReal) = (x.dvT i h (512 * n + j.val) d.val : EReal) := by
  simp only [b.g, pF, ← EReal.coe_mul, ← coe_sum, Attn.dvT, Finset.sum_range]
  rfl

/-- What the four chunks add to the value's gradient. -/
theorem v_chunks (b : Blk x h i x0 x1 x2 x3 x4 x5) (hi : i < 8) (w : Vec Ideal S512x128 .f32) (j : Fin 512) (d : Fin 128) :
    k0_pay9 (BitVec.ofNat 32 i) (k0_pay25 x0) x4 (k0_pay26 x5)
      (View.ld x1 (Rect.unit ![0, 0, 0] ![1, 512, 256] inb_S1x2048x256_S1x512x256_0_0_0)) w (ix2 j d)
      = w (ix2 j d) + (x.dvT i h (0 + j.val) d.val : EReal) ∧
    k0_pay13 (BitVec.ofNat 32 i) (k0_pay25 x0) x4 (k0_pay26 x5)
      (View.ld x1 (Rect.unit ![0, 512, 0] ![1, 512, 256] inb_S1x2048x256_S1x512x256_0_512_0)) w (ix2 j d)
      = w (ix2 j d) + (x.dvT i h (512 + j.val) d.val : EReal) ∧
    k0_pay17 (BitVec.ofNat 32 i) (k0_pay25 x0) x4 (k0_pay26 x5)
      (View.ld x1 (Rect.unit ![0, 1024, 0] ![1, 512, 256] inb_S1x2048x256_S1x512x256_0_1024_0)) w (ix2 j d)
      = w (ix2 j d) + (x.dvT i h (1024 + j.val) d.val : EReal) ∧
    k0_pay21 (BitVec.ofNat 32 i) (k0_pay25 x0) x4 (k0_pay26 x5)
      (View.ld x1 (Rect.unit ![0, 1536, 0] ![1, 512, 256] inb_S1x2048x256_S1x512x256_0_1536_0)) w (ix2 j d)
      = w (ix2 j d) + (x.dvT i h (1536 + j.val) d.val : EReal) := by
  obtain ⟨p0, p1, p2, p3⟩ := p_chunks b hi
  simp only [k0_pay9, k0_pay13, k0_pay17, k0_pay21, p0, p1, p2, p3]
  refine ⟨?_, ?_, ?_, ?_⟩ <;> pointwise <;> rw [v_sum b]
  rw [Nat.mul_zero, Nat.zero_add]

/-- What a chunk adds to a query's gradient. -/
theorem q_sum (n : ℕ) (r d : Fin 256) :
    (∑ j : Fin 512, dF x h i n (ix2 r j) * kF x h n (ix2 j d) : EReal) = (x.dqC n h (256 * i + r.val) d.val : EReal) := by
  simp only [dF, kF, ← EReal.coe_mul, ← coe_sum, Attn.dqC, Finset.sum_range]
  rfl

/-- What a query tile adds to a key's gradient. -/
theorem k_sum (b : Blk x h i x0 x1 x2 x3 x4 x5) (n : ℕ) (j : Fin 512) (d : Fin 256) :
    (∑ r : Fin 256, dF x h i n (ix2 r j) * x0 (ix3 0 r d) : EReal) = (x.dkT i h (512 * n + j.val) d.val : EReal) := by
  simp only [b.q, dF, ← EReal.coe_mul, ← coe_sum, Attn.dkT, Finset.sum_range]
  rfl

end Cert.Mla

end
-- ==== Proof.LatentPoints.lean ====
/- The grid points of the latent attention's backward kernel, one after another: what the three result blocks hold after
   each of them. -/
module

public import proofs.«01_k».proof.Proof.LatentBlocks
public import proofs.«01_k».proof.Proof.Tiles

@[expose] public section

set_option maxRecDepth 16384

noncomputable section

namespace Cert.Mla

open Idealize.ShloMosaic Finset Cert.Fox Cert.LatentIdeal Cert.LatentIdeal.Gen

variable {x : Data} (m : (ℓ : Loc nD τ sig) → Buf (Elt Ideal) ℓ) (c : Dev nD)

/-- The query tile that a point works on. -/
theorem coord1 : ∀ t : Fin cfg0.N, (grid0.coords t 1).val = t.val % 8 := (by decide +kernel : ∀ t : Fin grid0.N, (grid0.coords t 1).val = t.val % 8)

/-- The input blocks of a point, as real data. -/
def BlkAt (x : Data) (t : Fin cfg0.N) : Prop :=
  Blk x (t.val / 8) (t.val % 8) (iblk m c 0 t) (iblk m c 1 t) (iblk m c 2 t) (iblk m c 3 t) (iblk m c 4 t) (iblk m c 5 t)

/-- The point before. -/
theorem prev_lt (t : Fin cfg0.N) : t.val - 1 < cfg0.N := Nat.lt_of_le_of_lt (Nat.sub_le _ _) t.isLt

/-- After every point the query's block holds the whole gradient of the tile's queries. -/
theorem dq_at (t : Fin cfg0.N) (b : BlkAt m c x t) (r d : Fin 256) :
    (outsAt0 m c t.val t.isLt).1 (ix3 0 r d) = (x.dq (t.val / 8) (256 * (t.val % 8) + r.val) d.val : EReal) := by
  have hi : t.val % 8 < 8 := Nat.mod_lt _ (by decide)
  obtain ⟨d0, d1, d2, d3⟩ := d_chunks b hi
  obtain ⟨k0, k1, k2, k3⟩ := k_chunks b
  rw [Attn.dq_chunks]
  by_cases h0 : t.val % 8 = 0
  · rw [outsAt0_A m c t h0 (by omega) (by omega) (by omega), Attn.dqC_zero x (n := 3) (by omega), Attn.dqC_zero x (n := 2) (by omega),
      Attn.dqC_zero x (n := 1) (by omega)]
    frame_out
    simp only [coord1, ↓d0, k0]
    pointwise [k0_pay29, k0_pay28]
    simp only [q_sum, add_zero]
  by_cases h2 : 2 ≤ t.val % 8
  · by_cases h3 : 4 ≤ t.val % 8
    · by_cases h4 : 6 ≤ t.val % 8
      · rw [outsAt0_E m c t h0 h2 h3 h4]
        frame_out
        simp only [coord1, ↓d0, ↓d1, ↓d2, ↓d3, k0, k1, k2, k3]
        pointwise [k0_pay29, k0_pay1, k0_pay3, k0_pay5, k0_pay28]
        simp only [q_sum, ← EReal.coe_add]
      · rw [outsAt0_D m c t h0 h2 h3 h4, Attn.dqC_zero x (n := 3) (by omega)]
        frame_out
        simp only [coord1, ↓d0, ↓d1, ↓d2, k0, k1, k2]
        pointwise [k0_pay29, k0_pay1, k0_pay3, k0_pay28]
        simp only [q_sum, ← EReal.coe_add, add_zero]
    · rw [outsAt0_C m c t h0 h2 h3 (by omega), Attn.dqC_zero x (n := 3) (by omega), Attn.dqC_zero x (n := 2) (by omega)]
      frame_out
      simp only [coord1, ↓d0, ↓d1, k0, k1]
      pointwise [k0_pay29, k0_pay1, k0_pay28]
      simp only [q_sum, ← EReal.coe_add, add_zero]
  · rw [outsAt0_B m c t h0 h2 (by omega) (by omega), Attn.dqC_zero x (n := 3) (by omega), Attn.dqC_zero x (n := 2) (by omega),
      Attn.dqC_zero x (n := 1) (by omega)]
    frame_out
    simp only [coord1, ↓d0, k0]
    pointwise [k0_pay29, k0_pay28]
    simp only [q_sum, add_zero]

set_option maxHeartbeats 2000000 in
/-- A point leaves the key's gradient of the head's queries so far, over what the point before left. -/
theorem dk_point (t : Fin cfg0.N) (b : BlkAt m c x t)
    (hp : t.val % 8 ≠ 0 → ∀ (k : Fin 2048) (d : Fin 256), (outsAt0 m c (t.val - 1) (prev_lt t)).2.1 (ix3 0 k d) = (x.dk (256 * (t.val % 8)) (t.val / 8) k.val d.val : EReal))
    (k : Fin 2048) (d : Fin 256) : (outsAt0 m c t.val t.isLt).2.1 (ix3 0 k d) = (x.dk (256 * (t.val % 8 + 1)) (t.val / 8) k.val d.val : EReal) := by
  have hi : t.val % 8 < 8 := Nat.mod_lt _ (by decide)
  obtain ⟨d0, d1, d2, d3⟩ := d_chunks b hi
  have s0 := k_sum b 0
  simp only [Nat.mul_zero, Nat.zero_add] at s0
  have s1 := k_sum b 1
  have s2 := k_sum b 2
  have s3 := k_sum b 3
  rw [Attn.dk_succ]
  revert k
  by_cases h0 : t.val % 8 = 0
  · have z : ∀ k d, x.dk (256 * (t.val % 8)) (t.val / 8) k d = 0 := fun k d => by rw [h0, Nat.mul_zero, Attn.dk_none]
    simp only [z, zero_add]
    rw [outsAt0_A m c t h0 (by omega) (by omega) (by omega)]
    refine forall_chunks _ (fun j => ?_) (fun j => ?_) (fun j => ?_) (fun j => ?_) <;> frame_out <;>
      simp (disch := omega) only [canon_hit_k, canon_miss_k, read_hit_k, read_miss_k]
    · simp only [coord1, ↓d0]
      rw [load_whole _ (by decide)]
      pointwise [k0_pay30, k0_pay23, k0_pay25]
      exact s0 j d
    all_goals
      rw [View.canon_cons_unit_lit _ _ _ (by decide), Attn.dkT_zero x (by first | omega | (simp only; omega))]
      pointwise [k0_pay23]
      simp
  have hp := hp h0
  have o : (256 * (t.val % 8) + 255) / 64 * 64 + 63 = 256 * (t.val % 8) + 255 := by omega
  by_cases h2 : 2 ≤ t.val % 8
  on_goal 1 => by_cases h3 : 4 ≤ t.val % 8
  on_goal 1 => by_cases h4 : 6 ≤ t.val % 8
  on_goal 1 => rw [outsAt0_E m c t h0 h2 h3 h4]
  on_goal 2 => rw [outsAt0_D m c t h0 h2 h3 h4]
  on_goal 3 => rw [outsAt0_C m c t h0 h2 h3 (by omega)]
  on_goal 4 => rw [outsAt0_B m c t h0 h2 (by omega) (by omega)]
  all_goals
    refine forall_chunks _ (fun j => ?_) (fun j => ?_) (fun j => ?_) (fun j => ?_) <;> frame_out <;>
      simp (disch := omega) only [canon_hit_k, canon_miss_k, read_hit_k, read_miss_k]
  all_goals first
    | rw [Attn.dkT_zero x (by first | omega | (simp only; omega)), add_zero]
      exact (congrFun ((hs0_7 t).read_unread _) _).trans (hp ⟨_, _⟩ d)
    | simp only [coord1, ↓d0, ↓d1, ↓d2, ↓d3]
      pointwise [k0_pay30, k0_pay2, k0_pay4, k0_pay6, k0_pay25]
      rw [hp, EReal.coe_add]
      first
        | rw [s0]
        | rw [s1]
        | rw [s2]
        | rw [s3]

set_option maxHeartbeats 2000000 in
/-- A point leaves the value's gradient of the head's queries so far, over what the point before left. -/
theorem dv_point (t : Fin cfg0.N) (b : BlkAt m c x t)
    (hp : t.val % 8 ≠ 0 → ∀ (k : Fin 2048) (d : Fin 128), (outsAt0 m c (t.val - 1) (prev_lt t)).2.2 (ix2 k d) = (x.dv (256 * (t.val % 8)) (t.val / 8) k.val d.val : EReal))
    (k : Fin 2048) (d : Fin 128) : (outsAt0 m c t.val t.isLt).2.2 (ix2 k d) = (x.dv (256 * (t.val % 8 + 1)) (t.val / 8) k.val d.val : EReal) := by
  have hi : t.val % 8 < 8 := Nat.mod_lt _ (by decide)
  have v := fun w j d => v_chunks b hi w j d
  rw [Attn.dv_succ]
  revert k
  by_cases h0 : t.val % 8 = 0
  · have z : ∀ k d, x.dv (256 * (t.val % 8)) (t.val / 8) k d = 0 := fun k d => by rw [h0, Nat.mul_zero, Attn.dv_none]
    simp only [z, zero_add]
    rw [outsAt0_A m c t h0 (by omega) (by omega) (by omega)]
    refine forall_chunks _ (fun j => ?_) (fun j => ?_) (fun j => ?_) (fun j => ?_) <;> frame_out <;>
      simp (disch := omega) only [canon_hit_v, canon_miss_v, read_hit_v, read_miss_v]
    · simp only [coord1]
      rw [load_whole _ (by decide), (v _ _ _).1]
      pointwise [k0_pay24]
    all_goals
      rw [View.canon_cons_unit_lit _ _ _ (by decide), Attn.dvT_zero x (by first | omega | (simp only; omega))]
      pointwise [k0_pay24]
      simp
  have hp := hp h0
  have o : (256 * (t.val % 8) + 255) / 64 * 64 + 63 = 256 * (t.val % 8) + 255 := by omega
  by_cases h2 : 2 ≤ t.val % 8
  on_goal 1 => by_cases h3 : 4 ≤ t.val % 8
  on_goal 1 => by_cases h4 : 6 ≤ t.val % 8
  on_goal 1 => rw [outsAt0_E m c t h0 h2 h3 h4]
  on_goal 2 => rw [outsAt0_D m c t h0 h2 h3 h4]
  on_goal 3 => rw [outsAt0_C m c t h0 h2 h3 (by omega)]
  on_goal 4 => rw [outsAt0_B m c t h0 h2 (by omega) (by omega)]
  all_goals
    refine forall_chunks _ (fun j => ?_) (fun j => ?_) (fun j => ?_) (fun j => ?_) <;> frame_out <;>
      simp (disch := omega) only [canon_hit_v, canon_miss_v, read_hit_v, read_miss_v]
  all_goals first
    | rw [Attn.dvT_zero x (by first | omega | (simp only; omega)), add_zero]
      exact (congrFun ((hs0_8 t).read_unread _) _).trans (hp ⟨_, _⟩ d)
    | simp only [coord1]
      first
        | rw [(v _ _ _).1]
        | rw [(v _ _ _).2.1]
        | rw [(v _ _ _).2.2.1]
        | rw [(v _ _ _).2.2.2]
      pointwise
      rw [hp, EReal.coe_add]

/-- After every point the key's block holds the gradient of the head's queries so far. -/
theorem dk_at (b : ∀ t, BlkAt m c x t) : ∀ (n : ℕ) (hn : n < cfg0.N) (k : Fin 2048) (d : Fin 256),
    (outsAt0 m c n hn).2.1 (ix3 0 k d) = (x.dk (256 * (n % 8 + 1)) (n / 8) k.val d.val : EReal) := by
  intro n
  induction n with
  | zero => exact fun hn => dk_point m c ⟨0, hn⟩ (b _) fun h => absurd rfl h
  | succ n ih =>
    refine fun hn => dk_point m c ⟨n + 1, hn⟩ (b _) fun h0 k d => (ih (Nat.lt_of_succ_lt hn) k d).trans ?_
    rw [show n % 8 + 1 = (n + 1) % 8 by simp only at h0; omega, show n / 8 = (n + 1) / 8 by simp only at h0; omega]

/-- After every point the value's block holds the gradient of the head's queries so far. -/
theorem dv_at (b : ∀ t, BlkAt m c x t) : ∀ (n : ℕ) (hn : n < cfg0.N) (k : Fin 2048) (d : Fin 128),
    (outsAt0 m c n hn).2.2 (ix2 k d) = (x.dv (256 * (n % 8 + 1)) (n / 8) k.val d.val : EReal) := by
  intro n
  induction n with
  | zero => exact fun hn => dv_point m c ⟨0, hn⟩ (b _) fun h => absurd rfl h
  | succ n ih =>
    refine fun hn => dv_point m c ⟨n + 1, hn⟩ (b _) fun h0 k d => (ih (Nat.lt_of_succ_lt hn) k d).trans ?_
    rw [show n % 8 + 1 = (n + 1) % 8 by simp only at h0; omega, show n / 8 = (n + 1) / 8 by simp only at h0; omega]

end Cert.Mla

end
-- ==== Proof.LatentHost.lean ====
/- What the host lines before the latent attention's region leave in the buffers its backward kernel reads: the row's
   log-sum and the forward output; then every block of every point. -/
module

public import proofs.«01_k».proof.Proof.LatentPoints
public import proofs.«01_k».proof.Proof.Host

@[expose] public section

set_option maxRecDepth 16384

noncomputable section

namespace Cert.Mla

open Idealize.ShloMosaic Finset Cert.Fox Cert.LatentIdeal Cert.LatentIdeal.Gen

variable (m : (ℓ : Loc nD τ sig) → Buf (Elt Ideal) ℓ) (c : Dev nD)

/-- The host lines before the region, in their five parts. -/
theorem V_parts (b : Ref sig .tc) : V m c b = StableHlo.after hostOps0_4 (StableHlo.after hostOps0_3 (StableHlo.after hostOps0_2
    (StableHlo.after hostOps0_1 (StableHlo.after hostOps0 fun b => m (c, b))))) (Proc.devRef .tc b) := by
  show StableHlo.after (hostOps0 ++ (hostOps0_1 ++ (hostOps0_2 ++ (hostOps0_3 ++ (hostOps0_4 ++ []))))) _ _ = _
  rw [List.append_nil, after_split, after_split, after_split, after_split]

/-- The sign of an integer. -/
def signOf (a : BitVec 32) : BitVec 32 := if a = 0 then 0 else if a.msb then -1 else 1
/-- The number of a position's chunk, as a division of integers that rounds down. -/
def chunkOf (a : BitVec 32) : BitVec 32 :=
  Scalar.select (IntOp.andi (IntOp.cmpi .ne (signOf a) (signOf 64#32)) (IntOp.cmpi .ne (IntOp.remsi .host a 64#32) 0#32))
    (IntOp.subi (IntOp.divsi .host a 64#32) 1#32) (IntOp.divsi .host a 64#32)
/-- A position's chunk. -/
theorem chunkOf_pos : ∀ a : Fin 2048, chunkOf (BitVec.ofNat 32 a.val) = BitVec.ofNat 32 (a.val / 64) := by decide +kernel

/-- Comparing the chunks of a key and of a query. -/
theorem chunk_iff (k q : Fin 2048) :
    IntOp.cmpi .sle (chunkOf (BitVec.ofNat 32 k.val)) (chunkOf (BitVec.ofNat 32 q.val)) = 1#1 ↔ k.val ≤ q.val / 64 * 64 + 63 := by
  rw [chunkOf_pos, chunkOf_pos, pos_iff _ _ (by omega) (by omega)]
  omega

section parts

variable (σ : (b : DevRef τ sig) → b.ty.Contents (Elt Ideal))

/-- The scores, which the lines for the mask leave. -/
theorem score_after (Q K : FVec Ideal S8x2048x256 .bf16) (hQ : Q = σ (Proc.devRef .tc main_arg0)) (hK : K = σ (Proc.devRef .tc main_arg1))
    (h : Fin 8) (q k : Fin 2048) :
    (StableHlo.after hostOps0_2 (StableHlo.after hostOps0_1 (StableHlo.after hostOps0 σ)) (Proc.devRef .tc main_v4) : FVec Ideal S8x2048x2048 .f32) (ix3 h q k)
    = (∑ d, Q (ix3 h q d) * K (ix3 h k d)) * Ideal.ofBits FTy.f32 0x3D93CD3A#32 := by
  subst hQ hK
  simp only [hostOps0, hostOps0_1, hostOps0_2]
  entry_read
  pointwise

/-- The positions and the chunk's length. -/
theorem pos_after : (StableHlo.after hostOps0 σ (Proc.devRef .tc main_v5) : Vec Ideal S2048 .i32) = iotaInDim S2048 32 0 ∧
    (StableHlo.after hostOps0 σ (Proc.devRef .tc main_c) : Vec Ideal S_ .i32) = constantI S_ 32 64#32 := by
  simp only [hostOps0]
  constructor
  · entry_read
    rfl
  · entry_read
    rfl

/-- The chunk of every position. -/
theorem chunk_after (P : Vec Ideal S2048 .i32) (hP : P = σ (Proc.devRef .tc main_v5)) (N : Vec Ideal S_ .i32) (hN : N = σ (Proc.devRef .tc main_c))
    (e : P = iotaInDim S2048 32 0) (e' : N = constantI S_ 32 64#32) (a : Fin 2048) :
    (StableHlo.after hostOps0_1 σ (Proc.devRef .tc main_v6) : Vec Ideal S2048 .i32) (ix1 a) = chunkOf (BitVec.ofNat 32 a.val) := by
  have r : (StableHlo.after hostOps0_1 σ (Proc.devRef .tc main_v6) : Vec Ideal S2048 .i32) =
      select (andi (cmpi .ne (signi P) (broadcastInDim S2048 ![] bcast_S_S2048 (signi N))) (cmpi .ne (Host.remsi P (broadcastInDim S2048 ![] bcast_S_S2048 N)) (broadcastInDim S2048 ![] bcast_S_S2048 (constantI S_ 32 0#32))))
        (subi (Host.divsi P (broadcastInDim S2048 ![] bcast_S_S2048 N)) (broadcastInDim S2048 ![] bcast_S_S2048 (constantI S_ 32 1#32))) (Host.divsi P (broadcastInDim S2048 ![] bcast_S_S2048 N)) := by
    subst hP hN
    simp only [hostOps0_1]
    entry_read
    rfl
  rw [r, e, e']
  pointwise
  rfl

/-- The mask, from the chunks. -/
theorem mask_after (C : Vec Ideal S2048 .i32) (hC : C = σ (Proc.devRef .tc main_v6)) (q k : Fin 2048) :
    (StableHlo.after hostOps0_2 σ (Proc.devRef .tc main_v12) : Vec Ideal S1x2048x2048 .i1) (ix3 0 q k) = IntOp.cmpi .sle (C (ix1 k)) (C (ix1 q)) := by
  subst hC
  simp only [hostOps0_2]
  entry_read
  pointwise

/-- What a masked place holds. -/
theorem fill_after : (StableHlo.after hostOps0_2 σ (Proc.devRef .tc main_cst_0) : FVec Ideal S_ .f32) ix0 = (⊥ : EReal) := by
  simp only [hostOps0_2]
  entry_read
  pointwise
  exact negInf_eq

/-- The masked scores, from the mask and the scores. -/
theorem masked_after (B : Vec Ideal S1x2048x2048 .i1) (hB : B = σ (Proc.devRef .tc main_v12)) (S : FVec Ideal S8x2048x2048 .f32)
    (hS : S = σ (Proc.devRef .tc main_v4)) (I : FVec Ideal S_ .f32) (hI : I = σ (Proc.devRef .tc main_cst_0)) (h : Fin 8) (q k : Fin 2048) :
    (StableHlo.after hostOps0_3 σ (Proc.devRef .tc main_v13) : FVec Ideal S8x2048x2048 .f32) (ix3 h q k)
    = Scalar.select (B (ix3 0 q k)) (S (ix3 h q k)) (I ix0) := by
  have e : StableHlo.after hostOps0_3 σ (Proc.devRef .tc main_v13)
      = select (broadcastInDim S8x2048x2048 ![0, 1, 2] bcast_S1x2048x2048_S8x2048x2048_0_1_2 B) S
          (broadcastInDim S8x2048x2048 ![] bcast_S_S8x2048x2048 I) := by
    subst hB hS hI
    simp only [hostOps0_3]
    entry_read
    rfl
  rw [e]
  pointwise

/-- The log-sum column, from the masked scores. -/
theorem lse_after (S : FVec Ideal S8x2048x2048 .f32) (hS : S = σ (Proc.devRef .tc main_v13)) (h : Fin 8) (q : Fin 2048) :
    (StableHlo.after hostOps0_4 σ (Proc.devRef .tc main_v22) : FVec Ideal S8x2048x1 .f32) (ix3 h q 0)
    = fold max ⊥ (fun k => S (ix3 h q k)) univ + Ideal.log (∑ k, Ideal.exp (S (ix3 h q k) - fold max ⊥ (fun k => S (ix3 h q k)) univ)) := by
  subst hS
  simp only [hostOps0_4]
  entry_read
  refine (lse_read _ _ h q).trans (congrArg₂ (fun a b : EReal => a + Ideal.log b) (max_read _ h q) ((sum_read _ h q).trans ?_))
  exact sum_congr (M := EReal) rfl fun k _ => (exp_read _ _ _ _ _).trans (by rw [max_read])

/-- The forward output, from the masked scores and the values. -/
theorem out_after (S : FVec Ideal S8x2048x2048 .f32) (hS : S = σ (Proc.devRef .tc main_v13))
    (Z : FVec Ideal S2048x2048 .f32) (hZ : Z = σ (Proc.devRef .tc main_arg2)) (q : Fin 2048) (d : Fin 1024) :
    (StableHlo.after hostOps0_4 σ (Proc.devRef .tc main_v30) : FVec Ideal S2048x1024 .bf16) (ix2 q d)
    = ∑ k, Z (ix2 k ⟨1024 + (d.val / 128 * 128 + d.val % 128), by omega⟩) *
        Ideal.div (Ideal.exp (S (ix3 ⟨d.val / 128, by omega⟩ q k) - fold max ⊥ (fun k => S (ix3 ⟨d.val / 128, by omega⟩ q k)) univ))
        (∑ k, Ideal.exp (S (ix3 ⟨d.val / 128, by omega⟩ q k) - fold max ⊥ (fun k => S (ix3 ⟨d.val / 128, by omega⟩ q k)) univ)) := by
  subst hS hZ
  simp only [hostOps0_4]
  entry_read
  refine (out_read _ _ q d).trans ?_
  refine sum_congr (M := EReal) rfl fun k _ => congrArg₂ (fun a b : EReal => a * b) ?_ ((weight_read _ _ _ _ _).trans ?_)
  · pointwise
    exact congrArg _ (congrArg (ix2 k) (Fin.ext (by show 1024 + d.val = 1024 + (d.val / 128 * 128 + d.val % 128); omega)))
  rw [sum_read]
  exact congrArg₂ Ideal.div ((exp_read _ _ _ _ _).trans (by rw [max_read]))
    (sum_congr (M := EReal) rfl fun k _ => (exp_read _ _ _ _ _).trans (by rw [max_read]))

/-- The lines before leave the third argument. -/
theorem arg2_after : StableHlo.after hostOps0_3 (StableHlo.after hostOps0_2 (StableHlo.after hostOps0_1 (StableHlo.after hostOps0 σ))) (Proc.devRef .tc main_arg2)
    = σ (Proc.devRef .tc main_arg2) := by
  simp only [hostOps0, hostOps0_1, hostOps0_2, hostOps0_3]
  entry_read
  rfl

end parts

/-- The real data of the arguments device `c` holds. -/
def dat : Data := data (m (c, Proc.devRef .tc main_arg0)) (m (c, Proc.devRef .tc main_arg1)) (m (c, Proc.devRef .tc main_arg2)) (m (c, Proc.devRef .tc main_arg3))
/-- Every entry of the arguments that the attention reads is finite. -/
def Fin0 : Prop := Finite (m (c, Proc.devRef .tc main_arg0)) (m (c, Proc.devRef .tc main_arg1)) (m (c, Proc.devRef .tc main_arg2)) (m (c, Proc.devRef .tc main_arg3))

/-- The masked scores, as the host lines leave them. -/
def masked : FVec Ideal S8x2048x2048 .f32 := StableHlo.after hostOps0_3 (StableHlo.after hostOps0_2
    (StableHlo.after hostOps0_1 (StableHlo.after hostOps0 fun b => m (c, b)))) (Proc.devRef .tc main_v13)

/-- A masked score is the real score, or negative infinity after the query's chunk. -/
theorem masked_eq (f : Fin0 m c) (h : Fin 8) (q k : Fin 2048) :
    masked m c (ix3 h q k) = if k.val ≤ q.val / 64 * 64 + 63 then ((dat m c).s h.val q.val k.val : EReal) else ⊥ := by
  obtain ⟨p, n⟩ := pos_after fun b => m (c, b)
  refine (masked_after _ _ rfl _ rfl _ rfl h q k).trans ?_
  rw [mask_after _ _ rfl, fill_after, chunk_after _ _ rfl _ rfl p n, chunk_after _ _ rfl _ rfl p n, select_iff _ (chunk_iff k q), score_after _ _ _ rfl rfl]
  congr 1
  simp only [fun d => rd3_eq _ h q d (f.q _), fun d => rd3_eq _ h k d (f.k _), scale_eq, ← EReal.coe_mul, ← coe_sum]
  rw [← Finset.sum_range (fun d => rd3 (m (c, Proc.devRef .tc main_arg0)) h.val q.val d * rd3 (m (c, Proc.devRef .tc main_arg1)) h.val k.val d), Attn.s]
  show _ = ((_ + (0 : ℝ) - 0 : ℝ) : EReal)
  rw [add_zero, sub_zero]
  rfl

/-- The log-sum column gives the row's weights. -/
theorem lse_eq (f : Fin0 m c) (h : Fin 8) (q : Fin 2048) : ∃ L : ℝ, (V m c main_v22 : FVec Ideal S8x2048x1 .f32) (ix3 h q 0) = (L : EReal) ∧
    ∀ k, k ≤ q.val / 64 * 64 + 63 → Real.exp ((dat m c).s h.val q.val k - L) = (dat m c).p h.val q.val k := by
  rw [V_parts, lse_after _ (masked m c) rfl h q]
  exact lse_row (dat m c) h.val q.val q.isLt _ (masked_eq m c f h q)

/-- The forward output. -/
theorem out_eq (f : Fin0 m c) (q : Fin 2048) (d : Fin 1024) : (V m c main_v30 : FVec Ideal S2048x1024 .bf16) (ix2 q d)
    = ((dat m c).o (d.val / 128) q.val (d.val % 128) : EReal) := by
  rw [V_parts]
  refine (out_after _ (masked m c) rfl _ rfl q d).trans
    (out_row (dat m c) _ q.val _ q.isLt _ _ (masked_eq m c f ⟨d.val / 128, by omega⟩ q) fun k => ?_)
  rw [arg2_after]
  exact rd2_eq _ k ⟨1024 + (d.val / 128 * 128 + d.val % 128), by omega⟩ (f.z k ⟨d.val / 128 * 128 + d.val % 128, by omega⟩)

/-- Where window 0's block of a point lies. -/
theorem idx0 : ∀ t : Fin cfg0.N, win0_0.index t 0 = t.val / 8 ∧ win0_0.index t 1 = t.val % 8 ∧ win0_0.index t 2 = 0 := by
  decide +kernel
/-- Where window 1's block of a point lies. -/
theorem idx1 : ∀ t : Fin cfg0.N, win0_1.index t 0 = t.val / 8 ∧ win0_1.index t 1 = 0 ∧ win0_1.index t 2 = 0 := by
  decide +kernel
/-- Where window 2's block of a point lies. -/
theorem idx2 : ∀ t : Fin cfg0.N, win0_2.index t 0 = 0 ∧ win0_2.index t 1 = 8 + t.val / 8 := by
  decide +kernel
/-- Where window 3's block of a point lies. -/
theorem idx3 : ∀ t : Fin cfg0.N, win0_3.index t 0 = t.val % 8 ∧ win0_3.index t 1 = t.val / 8 := by
  decide +kernel
/-- Where window 4's block of a point lies. -/
theorem idx4 : ∀ t : Fin cfg0.N, win0_4.index t 0 = t.val % 8 ∧ win0_4.index t 1 = t.val / 8 := by
  decide +kernel
/-- Where window 5's block of a point lies. -/
theorem idx5 : ∀ t : Fin cfg0.N, win0_5.index t 0 = t.val / 8 ∧ win0_5.index t 1 = t.val % 8 ∧ win0_5.index t 2 = 0 := by
  decide +kernel
/-- Window 5's block reads the log-sum column, whatever the buffers hold. -/
theorem read5 (W : (b : Ref sig .tc) → b.ty.Contents (Elt Ideal)) (t : Fin cfg0.N) (y : S1x256x1.Idx) :
    ((cfg0.win 5).blk t).view.read (Elt Ideal) (W (Pipeline.arrRef spec0 5)) y = W main_v22 ((win0_5.blk t).view.emb y) := rfl
/-- A point's block of the queries. -/
theorem blk_q (f : Fin0 m c) (t : Fin cfg0.N) (r : Fin 256) (d : Fin 256) : iblk m c 0 t (ix3 0 r d) = ((dat m c).Q (t.val / 8) (256 * (t.val % 8) + r.val) d.val : EReal) := by
  obtain ⟨h8, i8⟩ := point_lt t
  have e : (win0_0.blk t).view.emb (ix3 0 r d) = ix3 ⟨t.val / 8, h8⟩ ⟨256 * (t.val % 8) + r.val, by omega⟩ d := by
    obtain ⟨e0, e1, e2⟩ := idx0 t
    blk_ext [e0, e1, e2]
  refine (congrArg (V m c main_arg0) e).trans ?_
  rw [V_main_arg0]
  exact rd3_eq _ _ _ _ (f.q _)

/-- A point's block of the keys. -/
theorem blk_k (f : Fin0 m c) (t : Fin cfg0.N) (r : Fin 2048) (d : Fin 256) : iblk m c 1 t (ix3 0 r d) = ((dat m c).K (t.val / 8) r.val d.val : EReal) := by
  obtain ⟨h8, i8⟩ := point_lt t
  have e : (win0_1.blk t).view.emb (ix3 0 r d) = ix3 ⟨t.val / 8, h8⟩ r d := by
    obtain ⟨e0, e1, e2⟩ := idx1 t
    blk_ext [e0, e1, e2]
  refine (congrArg (V m c main_arg1) e).trans ?_
  rw [V_main_arg1]
  exact rd3_eq _ _ _ _ (f.k _)

/-- A point's block of the values. -/
theorem blk_v (f : Fin0 m c) (t : Fin cfg0.N) (r : Fin 2048) (d : Fin 128) : iblk m c 2 t (ix2 r d) = ((dat m c).V r.val (t.val / 8 * 128 + d.val) : EReal) := by
  obtain ⟨h8, i8⟩ := point_lt t
  have e : (win0_2.blk t).view.emb (ix2 r d) = ix2 r ⟨1024 + (t.val / 8 * 128 + d.val), by omega⟩ := by
    obtain ⟨e0, e1⟩ := idx2 t
    blk_ext [e0, e1]
  refine (congrArg (V m c main_arg2) e).trans ?_
  rw [V_main_arg2]
  exact rd2_eq _ r ⟨1024 + (t.val / 8 * 128 + d.val), by omega⟩ (f.z r ⟨t.val / 8 * 128 + d.val, by omega⟩)

/-- A point's block of the forward output. -/
theorem blk_o (f : Fin0 m c) (t : Fin cfg0.N) (r : Fin 256) (d : Fin 128) : iblk m c 3 t (ix2 r d) = ((dat m c).o (t.val / 8) (256 * (t.val % 8) + r.val) d.val : EReal) := by
  obtain ⟨h8, i8⟩ := point_lt t
  have e : (win0_3.blk t).view.emb (ix2 r d) = ix2 ⟨256 * (t.val % 8) + r.val, by omega⟩ ⟨t.val / 8 * 128 + d.val, by omega⟩ := by
    obtain ⟨e0, e1⟩ := idx3 t
    blk_ext [e0, e1]
  have e2 := out_eq m c f ⟨256 * (t.val % 8) + r.val, by omega⟩ ⟨t.val / 8 * 128 + d.val, by omega⟩
  simp only at e2
  rw [show (t.val / 8 * 128 + d.val) / 128 = t.val / 8 by omega, show (t.val / 8 * 128 + d.val) % 128 = d.val by omega] at e2
  blk_simp [iblk]
  rw [e]
  exact e2

/-- A point's block of the output's gradient. -/
theorem blk_g (f : Fin0 m c) (t : Fin cfg0.N) (r : Fin 256) (d : Fin 128) : iblk m c 4 t (ix2 r d) = ((dat m c).D (256 * (t.val % 8) + r.val) (t.val / 8 * 128 + d.val) : EReal) := by
  obtain ⟨h8, i8⟩ := point_lt t
  have e : (win0_4.blk t).view.emb (ix2 r d) = ix2 ⟨256 * (t.val % 8) + r.val, by omega⟩ ⟨t.val / 8 * 128 + d.val, by omega⟩ := by
    obtain ⟨e0, e1⟩ := idx4 t
    blk_ext [e0, e1]
  refine (congrArg (V m c main_arg3) e).trans ?_
  rw [V_main_arg3]
  exact rd2_eq _ _ _ (f.g _)

/-- A point's block of the log-sum. -/
theorem blk_l (f : Fin0 m c) (t : Fin cfg0.N) (r : Fin 256) : ∃ L : ℝ, iblk m c 5 t (ix3 0 r 0) = (L : EReal) ∧ ∀ k, k ≤ (256 * (t.val % 8) + r.val) / 64 * 64 + 63 → Real.exp ((dat m c).s (t.val / 8) (256 * (t.val % 8) + r.val) k - L) = (dat m c).p (t.val / 8) (256 * (t.val % 8) + r.val) k := by
  obtain ⟨h8, i8⟩ := point_lt t
  have e : (win0_5.blk t).view.emb (ix3 0 r 0) = ix3 ⟨t.val / 8, h8⟩ ⟨256 * (t.val % 8) + r.val, by omega⟩ 0 := by
    obtain ⟨e0, e1, e2⟩ := idx5 t
    blk_ext [e0, e1, e2]
  obtain ⟨L, hL, hp⟩ := lse_eq m c f ⟨t.val / 8, h8⟩ ⟨256 * (t.val % 8) + r.val, by omega⟩
  refine ⟨L, ?_, hp⟩
  refine (read5 (V m c) t (ix3 0 r 0)).trans ?_
  rw [e]
  exact hL

/-- The blocks of every point are the real data's. -/
theorem blkAt (f : Fin0 m c) (t : Fin cfg0.N) : BlkAt m c (dat m c) t :=
  ⟨rfl, fun _ _ => rfl, blk_q m c f t, blk_k m c f t, blk_v m c f t, blk_o m c f t, blk_g m c f t, blk_l m c f t⟩

end Cert.Mla

end
-- ==== Proof.LatentArrays.lean ====
/- The three arrays the latent attention's backward kernel leaves: every entry is the real data's gradient. -/
module

public import proofs.«01_k».proof.Proof.LatentHost
public import proofs.«01_k».proof.Proof.Softmax

@[expose] public section

set_option maxRecDepth 16384

noncomputable section

namespace Cert.Mla

open Idealize.ShloMosaic Finset Cert.Fox Cert.LatentIdeal Cert.LatentIdeal.Gen

variable (m : (ℓ : Loc nD τ sig) → Buf (Elt Ideal) ℓ) (c : Dev nD)

/-- Where output window 6's block of a point lies. -/
theorem idx6 : ∀ t : Fin cfg0.N, win0_6.index t 0 = t.val / 8 ∧ win0_6.index t 1 = t.val % 8 ∧ win0_6.index t 2 = 0 := by
  decide +kernel
/-- The array of output window 6. -/
theorem arr6 (f : Fin0 m c) : (dats m 0 c).arrAt 6 cfg0.N = outQ (dat m c) := by
  refine (dats m 0 c).arrAt_eq_of_covers 6 _ (by decide +kernel) fun t hf y => ?_
  blk_simp
  rw [after0_6]
  suffices key : ∀ y : S1x256x256.Idx, (outsAt0 m c t.val t.isLt).1 y = outQ (dat m c) ((win0_6.blk t).view.emb y) from key y
  intro y
  idx_vars y
  obtain ⟨h8, i8⟩ := point_lt t
  obtain rfl : y0 = 0 := Subsingleton.elim _ _
  have e : (win0_6.blk t).view.emb (ix3 0 y1 y2) = ix3 ⟨t.val / 8, h8⟩ ⟨256 * (t.val % 8) + y1.val, by omega⟩ y2 := by
    obtain ⟨e0, e1, e2⟩ := idx6 t
    blk_ext [e0, e1, e2]
  rw [e]
  exact dq_at m c t (blkAt m c f t) y1 y2

/-- Where output window 7's block of a point lies. -/
theorem idx7 : ∀ t : Fin cfg0.N, win0_7.index t 0 = t.val / 8 ∧ win0_7.index t 1 = 0 ∧ win0_7.index t 2 = 0 := by
  decide +kernel
/-- Window 7's block is written back after a head's last tile. -/
theorem last7 : ∀ t : Fin cfg0.N, (cfg0.win 7).flush t = true → t.val % 8 = 7 := by
  decide +kernel
/-- The array of output window 7. -/
theorem arr7 (f : Fin0 m c) : (dats m 0 c).arrAt 7 cfg0.N = outK (dat m c) := by
  refine (dats m 0 c).arrAt_eq_of_covers 7 _ (by decide +kernel) fun t hf y => ?_
  blk_simp
  rw [after0_7]
  suffices key : ∀ y : S1x2048x256.Idx, (outsAt0 m c t.val t.isLt).2.1 y = outK (dat m c) ((win0_7.blk t).view.emb y) from key y
  intro y
  idx_vars y
  obtain ⟨h8, i8⟩ := point_lt t
  obtain rfl : y0 = 0 := Subsingleton.elim _ _
  have e : (win0_7.blk t).view.emb (ix3 0 y1 y2) = ix3 ⟨t.val / 8, h8⟩ y1 y2 := by
    obtain ⟨e0, e1, e2⟩ := idx7 t
    blk_ext [e0, e1, e2]
  rw [e]
  refine (dk_at m c (blkAt m c f) t.val t.isLt y1 y2).trans ?_
  rw [last7 t hf]
  rfl

/-- Where output window 8's block of a point lies. -/
theorem idx8 : ∀ t : Fin cfg0.N, win0_8.index t 0 = 0 ∧ win0_8.index t 1 = t.val / 8 := by
  decide +kernel
/-- Window 8's block is written back after a head's last tile. -/
theorem last8 : ∀ t : Fin cfg0.N, (cfg0.win 8).flush t = true → t.val % 8 = 7 := by
  decide +kernel
/-- The array of output window 8. -/
theorem arr8 (f : Fin0 m c) : (dats m 0 c).arrAt 8 cfg0.N = outV (dat m c) := by
  refine (dats m 0 c).arrAt_eq_of_covers 8 _ (by decide +kernel) fun t hf y => ?_
  blk_simp
  rw [after0_8]
  suffices key : ∀ y : S2048x128.Idx, (outsAt0 m c t.val t.isLt).2.2 y = outV (dat m c) ((win0_8.blk t).view.emb y) from key y
  intro y
  idx_vars y
  obtain ⟨h8, i8⟩ := point_lt t
  have e : (win0_8.blk t).view.emb (ix2 y0 y1) = ix2 y0 ⟨t.val / 8 * 128 + y1.val, by omega⟩ := by
    obtain ⟨e0, e1⟩ := idx8 t
    blk_ext [e0, e1]
  rw [e]
  refine (dv_at m c (blkAt m c f) t.val t.isLt y0 y1).trans ?_
  rw [last8 t hf]
  have a : (t.val / 8 * 128 + y1.val) / 128 = t.val / 8 := by omega
  have b : (t.val / 8 * 128 + y1.val) % 128 = y1.val := by omega
  show _ = ((dat m c).dv 2048 ((t.val / 8 * 128 + y1.val) / 128) y0.val ((t.val / 8 * 128 + y1.val) % 128) : EReal)
  rw [a, b]

end Cert.Mla

end
-- ==== Proof.LatentRef.lean ====
/- The latent attention's reference: its three results are the real data's gradients. -/
module

public import proofs.«01_k».proof.Proof.LatentArrays
public import proofs.«01_k».proof.Proof.Gen.LatentRefIdeal.Run

@[expose] public section

set_option maxRecDepth 16384

noncomputable section

namespace Cert.Mla

open Idealize.ShloMosaic Finset Cert.Fox Cert.LatentRefIdeal Cert.LatentRefIdeal.Gen

section terms

variable (q k : FVec Ideal S8x2048x256 .bf16) (z : FVec Ideal S2048x2048 .f32) (g : FVec Ideal S2048x1024 .bf16)

/-- The chunk of every position. -/
def rChunk : Vec Ideal S2048 .i32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))
/-- The mask. -/
def rMask : Vec Ideal S8x2048x2048 .i1 :=
  broadcastInDim S8x2048x2048 ![0, 1, 2] bcast_S1x2048x2048_S8x2048x2048_0_1_2 (broadcastInDim S1x2048x2048 ![1, 2] bcast_S2048x2048_S1x2048x2048_1_2 (cmpi .sle (broadcastInDim S2048x2048 ![0, 1] bcast_S1x2048_S2048x2048_0_1 (broadcastInDim S1x2048 ![1] bcast_S2048_S1x2048_1 rChunk)) (broadcastInDim S2048x2048 ![0, 1] bcast_S2048x1_S2048x2048_0_1 (broadcastInDim S2048x1 ![0] bcast_S2048_S2048x1_0 rChunk))))
/-- The masked scores. -/
def rScore : FVec Ideal S8x2048x2048 .f32 :=
  select rMask (mulf (Host.dotGeneral dot_S8x2048x256_S8x2048x256_S8x2048x2048_2_2_1_1_0_0 none (extf .f32 q bitsLt_bf16_f32) (extf .f32 k bitsLt_bf16_f32)) (broadcastInDim S8x2048x2048 ![] bcast_S_S8x2048x2048 (constant S_ .f32 0x3D93CD3A#32))) (broadcastInDim S8x2048x2048 ![] bcast_S_S8x2048x2048 (id (constant S_ .f32 0xFF800000#32)))
/-- The gradients of the scores, from the arguments. -/
def rGrad : FVec Ideal S8x2048x2048 .f32 :=
  rDs rMask (rDp (extractStridedSlice S2048x1024 ![0, 1024] z slices_S2048x2048_S2048x1024_0_1024) g) (rExp (rScore q k)) (rSum (rExp (rScore q k)))
/-- The gradient of the queries. -/
def rQ (k : FVec Ideal S8x2048x256 .bf16) (G : FVec Ideal S8x2048x2048 .f32) : FVec Ideal S8x2048x256 .f32 :=
  Host.dotGeneral dot_S8x2048x2048_S8x2048x256_S8x2048x256_2_1_1_2_0_0 none (mulf G (broadcastInDim S8x2048x2048 ![] bcast_S_S8x2048x2048 (constant S_ .f32 0x3D93CD3A#32))) (extf .f32 k bitsLt_bf16_f32)
/-- The gradient of the keys. -/
def rK (q : FVec Ideal S8x2048x256 .bf16) (G : FVec Ideal S8x2048x2048 .f32) : FVec Ideal S8x2048x256 .f32 :=
  Host.dotGeneral dot_S8x2048x2048_S8x2048x256_S8x2048x256_1_1_2_2_0_0 none (mulf G (broadcastInDim S8x2048x2048 ![] bcast_S_S8x2048x2048 (constant S_ .f32 0x3D93CD3A#32))) (extf .f32 q bitsLt_bf16_f32)

end terms

section entries

variable (q k : FVec Ideal S8x2048x256 .bf16) (z : FVec Ideal S2048x2048 .f32) (g : FVec Ideal S2048x1024 .bf16) (f : Finite q k z g)

/-- A position's chunk. -/
theorem rChunk_read (a : Fin 2048) : rChunk (ix1 a) = chunkOf (BitVec.ofNat 32 a.val) := by
  pointwise [rChunk]
  rfl

/-- The mask compares the chunks. -/
theorem rMask_read (h : Fin 8) (i j : Fin 2048) :
    rMask (ix3 h i j) = IntOp.cmpi .sle (chunkOf (BitVec.ofNat 32 j.val)) (chunkOf (BitVec.ofNat 32 i.val)) := by
  rw [← rChunk_read, ← rChunk_read]
  pointwise [rMask]

/-- The values' columns of the third argument. -/
theorem slice_read (j : Fin 2048) (d : Fin 1024) :
    extractStridedSlice S2048x1024 ![0, 1024] z slices_S2048x2048_S2048x1024_0_1024 (ix2 j d) = z (ix2 j ⟨1024 + d.val, by omega⟩) := by
  pointwise

/-- A masked score. -/
theorem rScore_read (h : Fin 8) (i j : Fin 2048) : rScore q k (ix3 h i j)
    = if j.val ≤ i.val / 64 * 64 + 63 then (∑ d, q (ix3 h i d) * k (ix3 h j d)) * Ideal.ofBits FTy.f32 0x3D93CD3A#32 else ⊥ := by
  rw [← select_iff _ (chunk_iff j i), ← rMask_read h]
  pointwise [rScore]
  exact congrArg _ negInf_eq

/-- The gradient of a query. -/
theorem rQ_read (G : FVec Ideal S8x2048x2048 .f32) (h : Fin 8) (i : Fin 2048) (d : Fin 256) :
    rQ k G (ix3 h i d) = ∑ j, G (ix3 h i j) * Ideal.ofBits FTy.f32 0x3D93CD3A#32 * k (ix3 h j d) := by
  pointwise [rQ]

/-- The gradient of a key. -/
theorem rK_read (G : FVec Ideal S8x2048x2048 .f32) (h : Fin 8) (j : Fin 2048) (d : Fin 256) :
    rK q G (ix3 h j d) = ∑ i, G (ix3 h i j) * Ideal.ofBits FTy.f32 0x3D93CD3A#32 * q (ix3 h i d) := by
  pointwise [rK]

variable {q k z g}
include f

/-- The masked score of the real data. -/
theorem rScore_eq (h : Fin 8) (i j : Fin 2048) :
    rScore q k (ix3 h i j) = if j.val ≤ i.val / 64 * 64 + 63 then ((data q k z g).s h.val i.val j.val : EReal) else ⊥ := by
  rw [rScore_read]
  congr 1
  simp only [fun d => rd3_eq _ h i d (f.q _), fun d => rd3_eq _ h j d (f.k _), scale_eq, ← EReal.coe_mul, ← coe_sum]
  rw [← Finset.sum_range (fun d => rd3 q h.val i.val d * rd3 k h.val j.val d), Attn.s]
  show _ = ((_ + (0 : ℝ) - 0 : ℝ) : EReal)
  rw [add_zero, sub_zero]
  rfl

/-- The gradient of a score of the real data. -/
theorem rGrad_eq (h : Fin 8) (i j : Fin 2048) : rGrad q k z g (ix3 h i j) = ((data q k z g).ds h.val i.val j.val : EReal) := by
  refine rDs_eq (data q k z g) (rScore_eq f) rMask (fun h i j => ?_) _ (fun h i j => ?_) h i j
  · rw [rMask_read]
    exact chunk_iff j i
  · rw [rDp_read, Attn.dp, coe_sum_fin]
    refine sum_congr rfl fun d _ => ?_
    rw [slice_read, rd2_eq g i ⟨h.val * 128 + d.val, by omega⟩ (f.g _),
      rd2_eq z j ⟨1024 + (h.val * 128 + d.val), by omega⟩ (f.z j ⟨h.val * 128 + d.val, by omega⟩), ← EReal.coe_mul]
    rfl

/-- The queries' gradient. -/
theorem rQ_eq : rQ k (rGrad q k z g) = outQ (data q k z g) := by
  funext y
  idx_vars y
  rw [rQ_read]
  show _ = ((data q k z g).dq y0.val y1.val y2.val : EReal)
  rw [Attn.dq, coe_sum_fin]
  refine sum_congr rfl fun j _ => ?_
  rw [rGrad_eq f, scale_eq, rd3_eq k y0 j y2 (f.k _), EReal.coe_mul, EReal.coe_mul]
  rfl

/-- The keys' gradient. -/
theorem rK_eq : rK q (rGrad q k z g) = outK (data q k z g) := by
  funext y
  idx_vars y
  rw [rK_read]
  show _ = ((data q k z g).dk 2048 y0.val y1.val y2.val : EReal)
  rw [Attn.dk, coe_sum_fin]
  refine sum_congr rfl fun i _ => ?_
  rw [rGrad_eq f, scale_eq, rd3_eq q y0 i y2 (f.q _), EReal.coe_mul, EReal.coe_mul]
  rfl

end entries

section results

variable (m : (ℓ : Loc nD τ sig) → Buf (Elt Ideal) ℓ) (c : Dev nD)

/-- The program's results are these terms of its arguments. -/
theorem res_terms : Value.res_main_v70 m c = rQ (m (c, Proc.devRef .tc main_arg1)) (rGrad (m (c, Proc.devRef .tc main_arg0)) (m (c, Proc.devRef .tc main_arg1)) (m (c, Proc.devRef .tc main_arg2)) (m (c, Proc.devRef .tc main_arg3))) ∧
    Value.res_main_v69 m c = rK (m (c, Proc.devRef .tc main_arg0)) (rGrad (m (c, Proc.devRef .tc main_arg0)) (m (c, Proc.devRef .tc main_arg1)) (m (c, Proc.devRef .tc main_arg2)) (m (c, Proc.devRef .tc main_arg3))) ∧
    Value.res_main_v53 m c = rV (m (c, Proc.devRef .tc main_arg3)) (rExp (rScore (m (c, Proc.devRef .tc main_arg0)) (m (c, Proc.devRef .tc main_arg1)))) (rSum (rExp (rScore (m (c, Proc.devRef .tc main_arg0)) (m (c, Proc.devRef .tc main_arg1))))) :=
  ⟨rfl, rfl, rfl⟩

end results

end Cert.Mla

end
-- ==== Proof.Latent.lean ====
/- The claims on the latent attention's gradient: the reference's run leaves its arguments, and the kernel's three arrays are
   the reference's three terms. -/
module

public import proofs.«01_k».proof.Proof.LatentRef
public import proofs.«01_k».proof.Defs
public import Idealize.ShloMosaic.Adequacy
public import Idealize.ShloMosaic.Init

@[expose] public section

noncomputable section

namespace Cert.Mla

open Idealize.ShloMosaic Idealize.SL.Sem

/-- The reference's run leaves its arguments and every counter at zero: it has no semaphores. -/
theorem frame_ref : Cert.quiescent_LatentRefIdeal := fun m ρ _ =>
  (θ_run Cert.LatentRefIdeal.defs _ _).mono (fun r h => ⟨fun c => (h c).2.2.2, sem_eq_zero_of_no_sems (by decide) r.2⟩)
    (Cert.LatentRefIdeal.Value.run (F := Ideal) m ρ)

/-- On finite arguments the kernel's three results are the reference's: each is the gradient of the real data. -/
theorem algebraic : Cert.algebraic_LatentIdeal_LatentRefIdeal_pre_finite_latent := by
  intro m ρ m' ρ' hpre hagree
  have f : ∀ c, Fin0 m c := fun c => finite_of_pre _ _ _ _ (hpre c)
  refine ⟨fun c => Cert.Fox.outQ (dat m c), fun c => Cert.Fox.outK (dat m c), fun c => Cert.Fox.outV (dat m c), ?_, ?_⟩
  · refine (θ_run Cert.LatentIdeal.defs _ _).mono (fun r h c => ?_) (Cert.LatentIdeal.Value.run_blocks (F := Ideal) m ρ)
    obtain ⟨h0, h1, h2, ha⟩ := h c
    exact ⟨h0.trans (arr6 m c (f c)), h1.trans (arr7 m c (f c)), h2.trans (arr8 m c (f c)), ha⟩
  · refine (θ_run Cert.LatentRefIdeal.defs _ _).mono (fun r h c => ?_) (Cert.LatentRefIdeal.Value.run (F := Ideal) m' ρ')
    obtain ⟨h0, h1, h2, ha⟩ := h c
    obtain ⟨t0, t1, t2⟩ := res_terms m' c
    obtain ⟨a0, a1, a2, a3⟩ := hagree c
    have a0' : m' (c, Proc.devRef .tc Cert.LatentRefIdeal.main_arg0) = m (c, Proc.devRef .tc Cert.LatentIdeal.main_arg0) := a0
    have a1' : m' (c, Proc.devRef .tc Cert.LatentRefIdeal.main_arg1) = m (c, Proc.devRef .tc Cert.LatentIdeal.main_arg1) := a1
    have a2' : m' (c, Proc.devRef .tc Cert.LatentRefIdeal.main_arg2) = m (c, Proc.devRef .tc Cert.LatentIdeal.main_arg2) := a2
    have a3' : m' (c, Proc.devRef .tc Cert.LatentRefIdeal.main_arg3) = m (c, Proc.devRef .tc Cert.LatentIdeal.main_arg3) := a3
    rw [a0', a1', a2', a3'] at t0
    rw [a0', a1', a2', a3'] at t1
    rw [a0', a1', a3'] at t2
    exact ⟨h0.trans (t0.trans (rQ_eq (f c))), h1.trans (t1.trans (rK_eq (f c))),
      h2.trans (t2.trans (Cert.Fox.rV_eq _ (rScore_eq (f c)) _ fun i d => Cert.Fox.rd2_eq _ i d ((f c).g _))), ha⟩

end Cert.Mla

end
-- ==== Proof.Products.lean ====
/- Matrix products over the extended reals, and their sums cut into blocks. -/
module

public import Idealize.ShloMosaic.PureOps.Ideal
public import Idealize.ShloMosaic.Lib.Pointwise

@[expose] public section

noncomputable section

namespace Cert.Mlp

open Idealize.ShloMosaic Finset

/-- A matrix over the extended reals. -/
abbrev Mat (a b : ℕ) : Type := (⟨2, ![a, b]⟩ : Shape).Idx → EReal

/-- A matrix's transpose. -/
def flip {M N : ℕ} (a : Mat M N) : Mat N M := fun y => a (ix2 (y 1) (y 0))
/-- The product of `a` with `b`. -/
def prodNN {M K N : ℕ} (a : Mat M K) (b : Mat K N) : Mat M N := fun y => ∑ k : Fin K, a (ix2 (y 0) k) * b (ix2 k (y 1))
/-- The product of `a` with `b`'s transpose. -/
def prodNT {M K N : ℕ} (a : Mat M K) (b : Mat N K) : Mat M N := fun y => ∑ k : Fin K, a (ix2 (y 0) k) * b (ix2 (y 1) k)
/-- The product of `a`'s transpose with `b`. -/
def prodTN {M K N : ℕ} (a : Mat K M) (b : Mat K N) : Mat M N := fun y => ∑ k : Fin K, a (ix2 k (y 0)) * b (ix2 k (y 1))

/-- The channel mixer's activation: the square of the positive part. -/
def act {M N : ℕ} (u : Mat M N) : Mat M N := fun y => max (u y) 0 * max (u y) 0
/-- A gradient `g` of the activation, carried back to its argument `u`. -/
def actBack {M N : ℕ} (g u : Mat M N) : Mat M N := fun y => g y * (2 * max (u y) 0)

/-- A matrix added to another. -/
def added {M N : ℕ} (x p : Mat M N) : Mat M N := fun y => x y + p y

/-- The bits of the constant 2. -/
theorem two : Ideal.ofBits FTy.f32 0x40000000#32 = 2 := by
  simp [Ideal.ofBits, Ideal.ieee, -EReal.coe_mul]
  norm_num
  rfl

/-- A selection by the argument's sign changes nothing: where it isn't positive its positive part is 0. -/
theorem positive (g u : EReal) : (if 0 < u then g * (2 * max u 0) else 0) = g * (2 * max u 0) := by
  split
  · rfl
  · rw [max_eq_right (not_lt.mp ‹_›), mul_zero, mul_zero]

/-- The first `n` terms of a sum over `K` places. -/
def part {K : ℕ} (f : Fin K → EReal) (n : ℕ) : EReal := ∑ k ∈ range n, if h : k < K then f ⟨k, h⟩ else 0

/-- All the terms are the sum. -/
theorem part_all {K : ℕ} (f : Fin K → EReal) : part f K = ∑ k, f k := by
  rw [part, Finset.sum_range]
  exact sum_congr rfl fun k _ => dif_pos k.isLt

/-- One more block's terms. -/
theorem part_next {K b : ℕ} (f : Fin K → EReal) (n : ℕ) (hn : n + b ≤ K) :
    part f (n + b) = part f n + ∑ r : Fin b, f ⟨n + r.val, by omega⟩ := by
  rw [part, Finset.sum_range_add, Finset.sum_range (n := b)]
  exact congrArg₂ (· + ·) rfl (sum_congr rfl fun r _ => dif_pos _)

/-- The end of block `j` of `n` blocks of `b` places. -/
theorem block_le {b n j : ℕ} (h : j < n) : b * j + b ≤ b * n := Nat.mul_succ b j ▸ Nat.mul_le_mul_left b h

/-- A sum taken block by block over consecutive points: the first point of a tile leaves its block's sum, each middle point
    adds its own to what the point before left, the last point's result is that with the last block's sum. -/
theorem scan {K b n N : ℕ} (hK : b * n = K) (f : Fin K → EReal) (s : ∀ p, p < N → EReal) (o : EReal) (q : ℕ) (hq : n * q + n ≤ N) (hn : 2 ≤ n)
    (h0 : s (n * q) (by omega) = ∑ r : Fin b, f ⟨b * 0 + r.val, by have := block_le (b := b) (show 0 < n by omega); omega⟩)
    (hs : ∀ j (hj : j + 2 < n), s (n * q + (j + 1)) (by omega) = s (n * q + j) (by omega) +
      ∑ r : Fin b, f ⟨b * (j + 1) + r.val, by have := block_le (b := b) (show j + 1 < n by omega); omega⟩)
    (ho : ∀ j (hj : j + 2 = n), o = s (n * q + j) (by omega) +
      ∑ r : Fin b, f ⟨b * (j + 1) + r.val, by have := block_le (b := b) (show j + 1 < n by omega); omega⟩) : o = ∑ k, f k := by
  have key : ∀ j (hj : j + 2 ≤ n), s (n * q + j) (by omega) = part f (b * (j + 1)) := by
    intro j
    induction j with
    | zero =>
      intro hj
      refine h0.trans ?_
      rw [show b * (0 + 1) = b * 0 + b by ring, part_next f (b * 0) (by have := block_le (b := b) (show 0 < n by omega); omega)]
      simp [part]
    | succ j ih =>
      intro hj
      rw [hs j (by omega), ih (by omega), show b * (j + 1 + 1) = b * (j + 1) + b by ring,
        part_next f (b * (j + 1)) (by have := block_le (b := b) (show j + 1 < n by omega); omega)]
  obtain ⟨j, rfl⟩ : ∃ j, n = j + 2 := ⟨n - 2, by omega⟩
  rw [ho j rfl, key j le_rfl, ← part_next f (b * (j + 1)) (by have := block_le (b := b) (show j + 1 < j + 2 by omega); omega), ← part_all]
  congr 1

/-- `scan` for an entry of a product with a transpose: what the points' blocks `la` and `lb` hold of the factors' rows. -/
theorem scan_NT {M K N P x y b n : ℕ} (hK : b * n = K) (u : Mat M K) (v : Mat N K) (i : Fin M) (j : Fin N) (r : Fin x) (z : Fin y)
    (la : ∀ p, p < P → Mat x b) (lb : ∀ p, p < P → Mat y b) (s : ∀ p, p < P → EReal) (o : EReal) (q : ℕ) (hq : n * q + n ≤ P) (hn : 2 ≤ n)
    (hla : ∀ d (hd : d < n) (k : Fin b), la (n * q + d) (by omega) (ix2 r k) = u (ix2 i ⟨b * d + k.val, by have := block_le (b := b) hd; omega⟩))
    (hlb : ∀ d (hd : d < n) (k : Fin b), lb (n * q + d) (by omega) (ix2 z k) = v (ix2 j ⟨b * d + k.val, by have := block_le (b := b) hd; omega⟩))
    (h0 : s (n * q) (by omega) = prodNT (la (n * q) (by omega)) (lb (n * q) (by omega)) (ix2 r z))
    (hs : ∀ d (hd : d + 2 < n), s (n * q + (d + 1)) (by omega) = s (n * q + d) (by omega) +
      prodNT (la (n * q + (d + 1)) (by omega)) (lb (n * q + (d + 1)) (by omega)) (ix2 r z))
    (ho : ∀ d (hd : d + 2 = n), o = s (n * q + d) (by omega) +
      prodNT (la (n * q + (d + 1)) (by omega)) (lb (n * q + (d + 1)) (by omega)) (ix2 r z)) : o = prodNT u v (ix2 i j) := by
  have e : ∀ d (hd : d < n), prodNT (la (n * q + d) (by omega)) (lb (n * q + d) (by omega)) (ix2 r z) =
      ∑ k : Fin b, u (ix2 i ⟨b * d + k.val, by have := block_le (b := b) hd; omega⟩) * v (ix2 j ⟨b * d + k.val, by have := block_le (b := b) hd; omega⟩) :=
    fun d hd => sum_congr rfl fun k _ => congrArg₂ (· * ·) (hla d hd k) (hlb d hd k)
  exact scan hK (fun k => u (ix2 i k) * v (ix2 j k)) s o q hq hn (h0.trans (e 0 (by omega)))
    (fun d hd => (hs d hd).trans (congrArg (_ + ·) (e (d + 1) (by omega)))) (fun d hd => (ho d hd).trans (congrArg (_ + ·) (e (d + 1) (by omega))))

/-- The same for a plain product. -/
theorem scan_NN {M K N P x y b n : ℕ} (hK : b * n = K) (u : Mat M K) (v : Mat K N) (i : Fin M) (j : Fin N) (r : Fin x) (z : Fin y)
    (la : ∀ p, p < P → Mat x b) (lb : ∀ p, p < P → Mat b y) (s : ∀ p, p < P → EReal) (o : EReal) (q : ℕ) (hq : n * q + n ≤ P) (hn : 2 ≤ n)
    (hla : ∀ d (hd : d < n) (k : Fin b), la (n * q + d) (by omega) (ix2 r k) = u (ix2 i ⟨b * d + k.val, by have := block_le (b := b) hd; omega⟩))
    (hlb : ∀ d (hd : d < n) (k : Fin b), lb (n * q + d) (by omega) (ix2 k z) = v (ix2 ⟨b * d + k.val, by have := block_le (b := b) hd; omega⟩ j))
    (h0 : s (n * q) (by omega) = prodNN (la (n * q) (by omega)) (lb (n * q) (by omega)) (ix2 r z))
    (hs : ∀ d (hd : d + 2 < n), s (n * q + (d + 1)) (by omega) = s (n * q + d) (by omega) +
      prodNN (la (n * q + (d + 1)) (by omega)) (lb (n * q + (d + 1)) (by omega)) (ix2 r z))
    (ho : ∀ d (hd : d + 2 = n), o = s (n * q + d) (by omega) +
      prodNN (la (n * q + (d + 1)) (by omega)) (lb (n * q + (d + 1)) (by omega)) (ix2 r z)) : o = prodNN u v (ix2 i j) :=
  scan_NT hK u (flip v) i j r z la (fun p hp => flip (lb p hp)) s o q hq hn hla hlb h0 hs ho

end Cert.Mlp

end
-- ==== Proof.Dwin.lean ====
/- The gradient of the input projection's weight: what the call leaves, what the reference computes. -/
module

public import proofs.«01_k».proof.Proof.Products
public import proofs.«01_k».proof.Defs
public import Idealize.ShloMosaic.Lib.Pipeline.ValueKit
public import proofs.«01_k».proof.Proof.Gen.DwinIdeal.Value
public import proofs.«01_k».proof.Proof.Gen.DwinRefIdeal.Run
public import Idealize.ShloMosaic.Adequacy
public import Idealize.ShloMosaic.Init

@[expose] public section

noncomputable section

namespace Cert.Mlp.Dwin

open Idealize.ShloMosaic Idealize.SL.Sem Finset

section call

open Cert.DwinIdeal Cert.DwinIdeal.Gen

variable (m : (ℓ : Loc nD τ sig) → Buf (Elt Ideal) ℓ) (c : Dev nD)

/-- Where a point's blocks lie. -/
theorem index : ∀ t : Fin cfg0.N, win0_0.index t 0 = 0 ∧ win0_0.index t 1 = t.val / 26 ∧ win0_1.index t 0 = 0 ∧ win0_1.index t 1 = t.val % 26 ∧
    win0_2.index t 0 = t.val / 26 ∧ win0_2.index t 1 = t.val % 26 := by
  decide +kernel

/-- The left factor. -/
abbrev lhs : Mat 2048 2048 := m (c, Proc.devRef .tc main_arg0)
/-- The right factor. -/
abbrev rhs : Mat 2048 13312 := m (c, Proc.devRef .tc main_arg1)

/-- The left factor's block, read. -/
theorem read0 (t : Fin cfg0.N) (k : Fin 2048) (r : Fin 1024) :
    iblk m c 0 t (ix2 k r) = lhs m c (ix2 k ⟨1024 * (t.val / 26) + r.val, by have := t.isLt; change _ < 52 at this; omega⟩) := by
  obtain ⟨a0, a1, b0, b1, o0, o1⟩ := index t
  exact congrArg (lhs m c) (by blk_ext [a0, a1])

/-- The right factor's block, read. -/
theorem read1 (t : Fin cfg0.N) (k : Fin 2048) (r : Fin 512) :
    iblk m c 1 t (ix2 k r) = rhs m c (ix2 k ⟨512 * (t.val % 26) + r.val, by omega⟩) := by
  obtain ⟨a0, a1, b0, b1, o0, o1⟩ := index t
  exact congrArg (rhs m c) (by blk_ext [b0, b1])

/-- The call leaves the product. -/
theorem arr : (dats m 0 c).arrAt 2 cfg0.N = prodTN (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y =
      prodTN (lhs m c) (rhs m c) ((win0_2.blk t).view.emb y) from key y
  intro y
  idx_vars y
  have ht : t.val < 52 := t.isLt
  frame_out
  pointwise [k0_pay1]
  obtain ⟨a0, a1, b0, b1, o0, o1⟩ := index t
  have e : (win0_2.blk t).view.emb (ix2 y0 y1) = ix2 ⟨1024 * (t.val / 26) + y0.val, by omega⟩ ⟨512 * (t.val % 26) + y1.val, by omega⟩ := by
    blk_ext [o0, o1]
  refine Eq.trans ?_ (congrArg _ e.symm)
  refine sum_congr (M := EReal) rfl fun k _ => congrArg₂ (· * ·) (read0 m c t k y0) (read1 m c t k y1)

end call

section ref

open Cert.DwinRefIdeal Cert.DwinRefIdeal.Gen

/-- The reference's term is the product. -/
theorem ref (h : FVec Ideal S2048x2048 .bf16) (d : FVec Ideal S2048x13312 .bf16) :
    truncf .bf16 (transpose S2048x13312 [1, 0] (Host.dotGeneral dot_S2048x13312_S2048x2048_S13312x2048_0_0_1_1_n_n none
      (extf .f32 d bitsLt_bf16_f32) (extf .f32 h bitsLt_bf16_f32)) transposes_S13312x2048_S2048x13312_1_0) bitsLt_bf16_f32 = prodTN h d := by
  funext y
  idx_vars y
  pointwise [prodTN]
  exact sum_congr (M := EReal) rfl fun k _ => mul_comm _ _

end ref

/-- The reference's run leaves its arguments and every counter at zero: it has no semaphores. -/
theorem frame_ref : Cert.quiescent_DwinRefIdeal := fun m ρ _ =>
  (θ_run Cert.DwinRefIdeal.defs _ _).mono (fun r h => ⟨fun c => (h c).2, sem_eq_zero_of_no_sems (by decide) r.2⟩) (Cert.DwinRefIdeal.Value.run (F := Ideal) m ρ)

/-- The call's result is the reference's: both are the product. -/
theorem algebraic : Cert.algebraic_DwinIdeal_DwinRefIdeal := by
  intro m ρ m' ρ' _ hagree
  refine ⟨fun c => prodTN (lhs m c) (rhs m c), ?_, ?_⟩
  · refine (θ_run Cert.DwinIdeal.defs _ _).mono (fun r h c => ?_) (Cert.DwinIdeal.Value.run_blocks (F := Ideal) m ρ)
    obtain ⟨h0, ha⟩ := h c
    exact ⟨h0.trans (arr m c), ha⟩
  · refine (θ_run Cert.DwinRefIdeal.defs _ _).mono (fun r h c => ?_) (Cert.DwinRefIdeal.Value.run (F := Ideal) m' ρ')
    obtain ⟨h0, ha⟩ := h c
    obtain ⟨a0, a1⟩ := hagree c
    refine ⟨(h0.trans (ref _ _)).trans ?_, ha⟩
    exact congrArg₂ prodTN a0 a1

end Cert.Mlp.Dwin

end
-- ==== Proof.Dh.lean ====
/- The gradient of the normed input through the input projection: what the call leaves, what the reference computes. -/
module

public import proofs.«01_k».proof.Proof.Products
public import proofs.«01_k».proof.Defs
public import Idealize.ShloMosaic.Lib.Pipeline.ValueKit
public import proofs.«01_k».proof.Proof.Gen.DhIdeal.Value
public import proofs.«01_k».proof.Proof.Gen.DhRefIdeal.Run
public import Idealize.ShloMosaic.Adequacy
public import Idealize.ShloMosaic.Init

@[expose] public section

set_option maxRecDepth 16384

noncomputable section

namespace Cert.Mlp.Dh

open Idealize.ShloMosaic Idealize.SL.Sem Finset

section call

open Cert.DhIdeal Cert.DhIdeal.Gen

variable (m : (ℓ : Loc nD τ sig) → Buf (Elt Ideal) ℓ) (c : Dev nD)

/-- Where a point's blocks lie. -/
theorem index : ∀ t : Fin cfg0.N, win0_0.index t 0 = t.val / 32 ∧ win0_0.index t 1 = t.val % 8 ∧ win0_1.index t 0 = t.val / 8 % 4 ∧ win0_1.index t 1 = t.val % 8 ∧
    win0_2.index t 0 = t.val / 32 ∧ win0_2.index t 1 = t.val / 8 % 4 := by
  decide +kernel

/-- There are 64 points. -/
theorem lt (t : Fin cfg0.N) : t.val < 64 := t.isLt

/-- The left factor. -/
abbrev lhs : Mat 2048 13312 := m (c, Proc.devRef .tc main_arg0)
/-- The right factor. -/
abbrev rhs : Mat 2048 13312 := m (c, Proc.devRef .tc main_arg1)
/-- The left factor's block at a point. -/
abbrev lblk (t : Fin cfg0.N) : Mat 1024 1664 := iblk m c 0 t
/-- The right factor's block at a point. -/
abbrev rblk (t : Fin cfg0.N) : Mat 512 1664 := iblk m c 1 t

/-- The left factor's block, read. -/
theorem read0 (t : Fin cfg0.N) (r : Fin 1024) (k : Fin 1664) :
    lblk m c t (ix2 r k) = lhs m c (ix2 ⟨1024 * (t.val / 32) + r.val, by have := lt t; omega⟩ ⟨1664 * (t.val % 8) + k.val, by omega⟩) := by
  obtain ⟨a0, a1, b0, b1, o0, o1⟩ := index t
  exact congrArg (lhs m c) (by blk_ext [a0, a1])

/-- The right factor's block, read. -/
theorem read1 (t : Fin cfg0.N) (r : Fin 512) (k : Fin 1664) :
    rblk m c t (ix2 r k) = rhs m c (ix2 ⟨512 * (t.val / 8 % 4) + r.val, by omega⟩ ⟨1664 * (t.val % 8) + k.val, by omega⟩) := by
  obtain ⟨a0, a1, b0, b1, o0, o1⟩ := index t
  exact congrArg (rhs m c) (by blk_ext [b0, b1])

/-- The product of two blocks. -/
theorem pay2 (a : Mat 1024 1664) (b : Mat 512 1664) (r : Fin 1024) (s : Fin 512) : k0_pay2 (F := Ideal) a b (ix2 r s) = prodNT a b (ix2 r s) := by
  pointwise [k0_pay2, k0_pay1, prodNT]

/-- The product of two blocks over what the scratch held. -/
theorem pay3 (a : Mat 1024 1664) (b : Mat 512 1664) (x : Mat 1024 512) (r : Fin 1024) (s : Fin 512) :
    k0_pay3 (F := Ideal) a b x (ix2 r s) = x (ix2 r s) + prodNT a b (ix2 r s) := by
  pointwise [k0_pay3, k0_pay1, prodNT]

/-- The first of a tile's points leaves its blocks' product in the scratch. -/
theorem acc_A (t : Fin cfg0.N) (h : t.val % 8 = 0) (r : Fin 1024) (s : Fin 512) :
    (outsAt0 m c t.val t.isLt).2 (ix2 r s) = prodNT (lblk m c t) (rblk m c t) (ix2 r s) := by
  rw [outsAt0_A m c t h (by omega) (by omega)]
  dsimp only
  frame_out
  exact pay2 _ _ r s

/-- A middle point adds its blocks' product. -/
theorem acc_B (t : Fin cfg0.N) (h : t.val % 8 ≠ 0) (h' : t.val % 8 ≠ 7) (r : Fin 1024) (s : Fin 512) : (outsAt0 m c t.val t.isLt).2 (ix2 r s) =
    (outsAt0 m c (t.val - 1) (by omega)).2 (ix2 r s) + prodNT (lblk m c t) (rblk m c t) (ix2 r s) := by
  rw [outsAt0_B m c t h (by omega) h']
  dsimp only
  frame_out
  exact (pay3 _ _ _ r s).trans (congrArg (· + _) (congrFun ((Memref.isWhole_whole _).read_unread _) _))

/-- A tile's last point leaves the scratch with its blocks' product added. -/
theorem acc_C (t : Fin cfg0.N) (h : t.val % 8 = 7) (r : Fin 1024) (s : Fin 512) : (outsAt0 m c t.val t.isLt).1 (ix2 r s) =
    (outsAt0 m c (t.val - 1) (by omega)).2 (ix2 r s) + prodNT (lblk m c t) (rblk m c t) (ix2 r s) := by
  rw [outsAt0_C m c t (by omega) (by omega) h]
  dsimp only
  frame_out
  exact (pay3 _ _ _ r s).trans (congrArg (· + _) (congrFun ((Memref.isWhole_whole _).read_unread _) _))

/-- A tile's last point leaves the product's entries. -/
theorem out (q : ℕ) (hq : q < 8) (h : 8 * q + 7 < cfg0.N) (r : Fin 1024) (s : Fin 512) : (outsAt0 m c (8 * q + 7) h).1 (ix2 r s) =
    prodNT (lhs m c) (rhs m c) (ix2 ⟨1024 * (q / 4) + r.val, by omega⟩ ⟨512 * (q % 4) + s.val, by omega⟩) := by
  refine scan_NT (n := 8) rfl (lhs m c) (rhs m c) _ _ r s (fun p hp => lblk m c ⟨p, hp⟩) (fun p hp => rblk m c ⟨p, hp⟩)
    (fun p hp => (outsAt0 m c p hp).2 (ix2 r s)) _ q (by omega) (by omega) (fun d hd k => ?_) (fun d hd k => ?_) ?_ (fun d hd => ?_) (fun d hd => ?_)
  · refine (read0 m c _ r k).trans (congrArg (lhs m c) ?_)
    simp only [show (8 * q + d) / 32 = q / 4 by omega, show (8 * q + d) % 8 = d by omega]
  · refine (read1 m c _ s k).trans (congrArg (rhs m c) ?_)
    simp only [show (8 * q + d) / 8 % 4 = q % 4 by omega, show (8 * q + d) % 8 = d by omega]
  · exact acc_A m c ⟨8 * q, by omega⟩ (by dsimp only; omega) r s
  · exact acc_B m c ⟨8 * q + (d + 1), by omega⟩ (by dsimp only; omega) (by dsimp only; omega) r s
  · obtain rfl : d = 6 := by omega
    exact acc_C m c ⟨8 * q + 7, h⟩ (by dsimp only; omega) r s

/-- The call leaves the product. -/
theorem arr : (dats m 0 c).arrAt 2 cfg0.N = prodNT (lhs m c) (rhs m c) := by
  refine (dats m 0 c).arrAt_eq_of_covers 2 _ (by decide +kernel) fun t hf y => ?_
  blk_simp
  rw [after0_2]
  suffices key : ∀ y : S1024x512.Idx, (outsAt0 m c t.val t.isLt).1 y = prodNT (lhs m c) (rhs m c) ((win0_2.blk t).view.emb y) from key y
  intro y
  idx_vars y
  have ht := lt t
  have h7 : t.val % 8 = 7 := (flush0_2 t).mp hf
  obtain ⟨a0, a1, b0, b1, o0, o1⟩ := index t
  have e : (win0_2.blk t).view.emb (ix2 y0 y1) = ix2 ⟨1024 * (t.val / 8 / 4) + y0.val, by omega⟩ ⟨512 * (t.val / 8 % 4) + y1.val, by omega⟩ := by
    blk_ext [o0, o1]
  refine Eq.trans ?_ (congrArg _ e.symm)
  have hp : 8 * (t.val / 8) + 7 < cfg0.N := lt_of_eq_of_lt (by omega) t.isLt
  have et : t = ⟨8 * (t.val / 8) + 7, hp⟩ := Fin.ext (by dsimp only; omega)
  refine Eq.trans ?_ (out m c (t.val / 8) (by omega) hp y0 y1)
  exact congrArg (fun t : Fin cfg0.N => (outsAt0 m c t.val t.isLt).1 (ix2 y0 y1)) et

end call

section ref

open Cert.DhRefIdeal Cert.DhRefIdeal.Gen

/-- The reference's term is the product. -/
theorem ref (d : FVec Ideal S2048x13312 .bf16) (w : FVec Ideal S2048x13312 .bf16) :
    Host.dotGeneral dot_S2048x13312_S2048x13312_S2048x2048_1_1_0_0_n_n none
      (extf .f32 d bitsLt_bf16_f32) (extf .f32 w bitsLt_bf16_f32) = prodNT d w := by
  funext y
  idx_vars y
  pointwise [prodNT]

end ref

/-- The reference's run leaves its arguments and every counter at zero: it has no semaphores. -/
theorem frame_ref : Cert.quiescent_DhRefIdeal := fun m ρ _ =>
  (θ_run Cert.DhRefIdeal.defs _ _).mono (fun r h => ⟨fun c => (h c).2, sem_eq_zero_of_no_sems (by decide) r.2⟩) (Cert.DhRefIdeal.Value.run (F := Ideal) m ρ)

/-- The call's result is the reference's: both are the product. -/
theorem algebraic : Cert.algebraic_DhIdeal_DhRefIdeal := by
  intro m ρ m' ρ' _ hagree
  refine ⟨fun c => prodNT (lhs m c) (rhs m c), ?_, ?_⟩
  · refine (θ_run Cert.DhIdeal.defs _ _).mono (fun r h c => ?_) (Cert.DhIdeal.Value.run_blocks (F := Ideal) m ρ)
    obtain ⟨h0, ha⟩ := h c
    exact ⟨h0.trans (arr m c), ha⟩
  · refine (θ_run Cert.DhRefIdeal.defs _ _).mono (fun r h c => ?_) (Cert.DhRefIdeal.Value.run (F := Ideal) m' ρ')
    obtain ⟨h0, ha⟩ := h c
    obtain ⟨a0, a1⟩ := hagree c
    refine ⟨(h0.trans (ref _ _)).trans ?_, ha⟩
    exact congrArg₂ prodNT a0 a1

end Cert.Mlp.Dh

end
-- ==== Proof.Dw2.lean ====
/- The gradient of the second weight of the channel mixer: what the call leaves, what the reference computes. -/
module

public import proofs.«01_k».proof.Proof.Products
public import proofs.«01_k».proof.Defs
public import Idealize.ShloMosaic.Lib.Pipeline.ValueKit
public import proofs.«01_k».proof.Proof.Gen.Dw2Ideal.Value
public import proofs.«01_k».proof.Proof.Gen.Dw2RefIdeal.Run
public import Idealize.ShloMosaic.Adequacy
public import Idealize.ShloMosaic.Init

@[expose] public section

noncomputable section

namespace Cert.Mlp.Dw2

open Idealize.ShloMosaic Idealize.SL.Sem Finset

section call

open Cert.Dw2Ideal Cert.Dw2Ideal.Gen

variable (m : (ℓ : Loc nD τ sig) → Buf (Elt Ideal) ℓ) (c : Dev nD)

/-- Where a point's blocks lie. -/
theorem index : ∀ t : Fin cfg0.N, win0_0.index t 0 = 0 ∧ win0_0.index t 1 = t.val / 4 ∧ win0_1.index t 0 = 0 ∧ win0_1.index t 1 = t.val % 4 ∧
    win0_2.index t 0 = t.val / 4 ∧ win0_2.index t 1 = t.val % 4 := by
  decide +kernel

/-- The left factor: the activation of the call's forward product. -/
abbrev lhs : Mat 2048 8192 := act (prodNN (M := 2048) (K := 2048) (N := 8192) (m (c, Proc.devRef .tc main_arg0)) (m (c, Proc.devRef .tc main_arg1)))
/-- The right factor. -/
abbrev rhs : Mat 2048 2048 := m (c, Proc.devRef .tc main_arg2)

/-- The host lines leave the left factor in the buffer the call reads. -/
theorem host : V m c main_v5 = lhs m c := by
  funext y
  idx_vars y
  simp only [V, hostOps0, hostOps0_1, hostOps0_2, List.flatten_cons, List.flatten_nil, List.append_nil, List.cons_append, List.nil_append]
  entry_read
  show (fun a : FVec Ideal S2048x8192 .f32 => (a (ix2 y0 y1) * a (ix2 y0 y1) : EReal)) (maximumf (F := Ideal)
    (Host.dotGeneral dot_S2048x2048_S2048x8192_S2048x8192_1_0_0_1_n_n none (extf .f32 (m (c, Proc.devRef .tc main_arg0)) bitsLt_bf16_f32)
      (extf .f32 (m (c, Proc.devRef .tc main_arg1)) bitsLt_bf16_f32)) (broadcastInDim S2048x8192 ![] bcast_S_S2048x8192 (constant S_ .f32 0x00000000#32))) = _
  dsimp only
  pointwise [act, prodNN]

/-- The left factor's block, read. -/
theorem read0 (t : Fin cfg0.N) (k : Fin 2048) (r : Fin 1024) :
    iblk m c 0 t (ix2 k r) = lhs m c (ix2 k ⟨1024 * (t.val / 4) + r.val, by have := t.isLt; change _ < 32 at this; omega⟩) := by
  obtain ⟨a0, a1, b0, b1, o0, o1⟩ := index t
  refine Eq.trans ?_ (congrFun (host m c) _)
  exact congrArg (V m c main_v5) (by blk_ext [a0, a1])

/-- The right factor's block, read. -/
theorem read1 (t : Fin cfg0.N) (k : Fin 2048) (r : Fin 512) :
    iblk m c 1 t (ix2 k r) = rhs m c (ix2 k ⟨512 * (t.val % 4) + r.val, by omega⟩) := by
  obtain ⟨a0, a1, b0, b1, o0, o1⟩ := index t
  refine Eq.trans ?_ (congrFun (V_main_arg2 m c) _)
  exact congrArg (V m c main_arg2) (by blk_ext [b0, b1])

/-- The call leaves the product. -/
theorem arr : (dats m 0 c).arrAt 2 cfg0.N = prodTN (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y =
      prodTN (lhs m c) (rhs m c) ((win0_2.blk t).view.emb y) from key y
  intro y
  idx_vars y
  have ht : t.val < 32 := t.isLt
  frame_out
  pointwise [k0_pay1]
  obtain ⟨a0, a1, b0, b1, o0, o1⟩ := index t
  have e : (win0_2.blk t).view.emb (ix2 y0 y1) = ix2 ⟨1024 * (t.val / 4) + y0.val, by omega⟩ ⟨512 * (t.val % 4) + y1.val, by omega⟩ := by
    blk_ext [o0, o1]
  refine Eq.trans ?_ (congrArg _ e.symm)
  refine sum_congr (M := EReal) rfl fun k _ => congrArg₂ (· * ·) (read0 m c t k y0) (read1 m c t k y1)

end call

section ref

open Cert.Dw2RefIdeal Cert.Dw2RefIdeal.Gen

/-- The reference's term is the product. -/
theorem ref (h : FVec Ideal S2048x2048 .bf16) (w : FVec Ideal S2048x8192 .bf16) (d : FVec Ideal S2048x2048 .f32) :
    truncf .bf16 (transpose S8192x2048 [1, 0] (Host.dotGeneral dot_S2048x2048_S2048x8192_S2048x8192_0_0_1_1_n_n none d
      (mulf (maximumf (Host.dotGeneral dot_S2048x2048_S2048x8192_S2048x8192_1_0_0_1_n_n none (extf .f32 h bitsLt_bf16_f32) (extf .f32 w bitsLt_bf16_f32)) (broadcastInDim S2048x8192 ![] bcast_S_S2048x8192 (constant S_ .f32 0x00000000#32)))
        (maximumf (Host.dotGeneral dot_S2048x2048_S2048x8192_S2048x8192_1_0_0_1_n_n none (extf .f32 h bitsLt_bf16_f32) (extf .f32 w bitsLt_bf16_f32)) (broadcastInDim S2048x8192 ![] bcast_S_S2048x8192 (constant S_ .f32 0x00000000#32)))))
      transposes_S2048x8192_S8192x2048_1_0) bitsLt_bf16_f32 = prodTN (act (prodNN h w)) d := by
  funext y
  idx_vars y
  pointwise [prodTN, prodNN, act]
  exact sum_congr (M := EReal) rfl fun k _ => mul_comm _ _

end ref

/-- The reference's run leaves its arguments and every counter at zero: it has no semaphores. -/
theorem frame_ref : Cert.quiescent_Dw2RefIdeal := fun m ρ _ =>
  (θ_run Cert.Dw2RefIdeal.defs _ _).mono (fun r h => ⟨fun c => (h c).2, sem_eq_zero_of_no_sems (by decide) r.2⟩) (Cert.Dw2RefIdeal.Value.run (F := Ideal) m ρ)

/-- The call's result is the reference's: both are the product. -/
theorem algebraic : Cert.algebraic_Dw2Ideal_Dw2RefIdeal := by
  intro m ρ m' ρ' _ hagree
  refine ⟨fun c => prodTN (lhs m c) (rhs m c), ?_, ?_⟩
  · refine (θ_run Cert.Dw2Ideal.defs _ _).mono (fun r h c => ?_) (Cert.Dw2Ideal.Value.run_blocks (F := Ideal) m ρ)
    obtain ⟨h0, ha⟩ := h c
    exact ⟨h0.trans (arr m c), ha⟩
  · refine (θ_run Cert.Dw2RefIdeal.defs _ _).mono (fun r h c => ?_) (Cert.Dw2RefIdeal.Value.run (F := Ideal) m' ρ')
    obtain ⟨h0, ha⟩ := h c
    obtain ⟨a0, a1, a2⟩ := hagree c
    refine ⟨(h0.trans (ref _ _ _)).trans ?_, ha⟩
    exact congrArg₂ prodTN (congrArg act (congrArg₂ prodNN a0 a1)) a2

end Cert.Mlp.Dw2

end
-- ==== Proof.Du.lean ====
/- The gradient of the channel mixer's first product: what the call leaves, what the reference computes. -/
module

public import proofs.«01_k».proof.Proof.Products
public import proofs.«01_k».proof.Defs
public import Idealize.ShloMosaic.Lib.Pipeline.ValueKit
public import proofs.«01_k».proof.Proof.Gen.DuIdeal.Value
public import proofs.«01_k».proof.Proof.Gen.DuRefIdeal.Run
public import Idealize.ShloMosaic.Adequacy
public import Idealize.ShloMosaic.Init

@[expose] public section

noncomputable section

namespace Cert.Mlp.Du

open Idealize.ShloMosaic Idealize.SL.Sem Finset

section call

open Cert.DuIdeal Cert.DuIdeal.Gen

variable (m : (ℓ : Loc nD τ sig) → Buf (Elt Ideal) ℓ) (c : Dev nD)

/-- Where a point's blocks lie. -/
theorem index : ∀ t : Fin cfg0.N, win0_0.index t 0 = t.val / 16 ∧ win0_0.index t 1 = 0 ∧ win0_1.index t 0 = t.val % 16 ∧ win0_1.index t 1 = 0 ∧
    win0_2.index t 0 = t.val / 16 ∧ win0_2.index t 1 = t.val % 16 ∧ win0_3.index t 0 = t.val / 16 ∧ win0_3.index t 1 = t.val % 16 := by
  decide +kernel

/-- There are 32 points. -/
theorem lt (t : Fin cfg0.N) : t.val < 32 := t.isLt

/-- The forward product. -/
abbrev mid : Mat 2048 8192 := prodNN (M := 2048) (K := 2048) (N := 8192) (m (c, Proc.devRef .tc main_arg0)) (m (c, Proc.devRef .tc main_arg1))
/-- The left factor, the gradient of the mixer's result. -/
abbrev lhs : Mat 2048 2048 := m (c, Proc.devRef .tc main_arg3)
/-- The right factor, the second weight. -/
abbrev rhs : Mat 8192 2048 := m (c, Proc.devRef .tc main_arg2)

/-- The host lines leave the forward product in the buffer the call reads. -/
theorem host : V m c main_v2 = mid m c := by
  funext y
  idx_vars y
  simp only [V, hostOps0, List.flatten_cons, List.flatten_nil, List.append_nil, List.cons_append, List.nil_append]
  entry_read
  pointwise [prodNN]

/-- The left factor's block, read. -/
theorem read0 (t : Fin cfg0.N) (r : Fin 1024) (k : Fin 2048) :
    iblk m c 0 t (ix2 r k) = lhs m c (ix2 ⟨1024 * (t.val / 16) + r.val, by have := lt t; omega⟩ k) := by
  obtain ⟨a0, a1, b0, b1, u0, u1, o0, o1⟩ := index t
  refine Eq.trans ?_ (congrFun (V_main_arg3 m c) _)
  exact congrArg (V m c main_arg3) (by blk_ext [a0, a1])

/-- The right factor's block, read. -/
theorem read1 (t : Fin cfg0.N) (r : Fin 512) (k : Fin 2048) : iblk m c 1 t (ix2 r k) = rhs m c (ix2 ⟨512 * (t.val % 16) + r.val, by omega⟩ k) := by
  obtain ⟨a0, a1, b0, b1, u0, u1, o0, o1⟩ := index t
  refine Eq.trans ?_ (congrFun (V_main_arg2 m c) _)
  exact congrArg (V m c main_arg2) (by blk_ext [b0, b1])

/-- The forward product's block, read. -/
theorem read2 (t : Fin cfg0.N) (r : Fin 1024) (s : Fin 512) :
    iblk m c 2 t (ix2 r s) = mid m c (ix2 ⟨1024 * (t.val / 16) + r.val, by have := lt t; omega⟩ ⟨512 * (t.val % 16) + s.val, by omega⟩) := by
  obtain ⟨a0, a1, b0, b1, u0, u1, o0, o1⟩ := index t
  refine Eq.trans ?_ (congrFun (host m c) _)
  exact congrArg (V m c main_v2) (by blk_ext [u0, u1])

/-- What a point writes, of its blocks. -/
theorem pay (a : Mat 1024 2048) (b : Mat 512 2048) (u : Mat 1024 512) (r : Fin 1024) (s : Fin 512) :
    k0_pay1 (F := Ideal) a b u (ix2 r s) = actBack (prodNT a b) u (ix2 r s) := by
  pointwise [k0_pay1, prodNT, actBack]
  rw [two]

/-- The call leaves the product carried back through the activation. -/
theorem arr : (dats m 0 c).arrAt 3 cfg0.N = actBack (prodNT (lhs m c) (rhs m c)) (mid m c) := by
  refine (dats m 0 c).arrAt_eq_of_covers 3 _ (by decide +kernel) fun t hf y => ?_
  blk_simp
  rw [after0_3]
  suffices key : ∀ y : S1024x512.Idx, out0_3 (iblk m c 0 t) (iblk m c 1 t) (iblk m c 2 t) y =
      actBack (prodNT (lhs m c) (rhs m c)) (mid m c) ((win0_3.blk t).view.emb y) from key y
  intro y
  idx_vars y
  have ht := lt t
  frame_out
  obtain ⟨a0, a1, b0, b1, u0, u1, o0, o1⟩ := index t
  have e : (win0_3.blk t).view.emb (ix2 y0 y1) = ix2 ⟨1024 * (t.val / 16) + y0.val, by omega⟩ ⟨512 * (t.val % 16) + y1.val, by omega⟩ := by
    blk_ext [o0, o1]
  refine Eq.trans ?_ (congrArg _ e.symm)
  refine (pay _ _ _ y0 y1).trans (congrArg₂ (fun g u : EReal => g * (2 * max u 0)) ?_ (read2 m c t y0 y1))
  exact sum_congr (M := EReal) rfl fun k _ => congrArg₂ (· * ·) (read0 m c t y0 k) (read1 m c t y1 k)

end call

section ref

open Cert.DuRefIdeal Cert.DuRefIdeal.Gen

/-- The reference's term is the product carried back. -/
theorem ref (h : FVec Ideal S2048x2048 .bf16) (w : FVec Ideal S2048x8192 .bf16) (z : FVec Ideal S8192x2048 .bf16) (d : FVec Ideal S2048x2048 .f32) :
    truncf .bf16 (select (cmpf .ogt (Host.dotGeneral dot_S2048x2048_S2048x8192_S2048x8192_1_0_0_1_n_n none (extf .f32 h bitsLt_bf16_f32) (extf .f32 w bitsLt_bf16_f32)) (broadcastInDim S2048x8192 ![] bcast_S_S2048x8192 (constant S_ .f32 0x00000000#32)))
      (mulf (Host.dotGeneral dot_S2048x2048_S8192x2048_S2048x8192_1_1_0_0_n_n none d (extf .f32 z bitsLt_bf16_f32))
        (mulf (broadcastInDim S2048x8192 ![] bcast_S_S2048x8192 (constant S_ .f32 0x40000000#32))
          (maximumf (Host.dotGeneral dot_S2048x2048_S2048x8192_S2048x8192_1_0_0_1_n_n none (extf .f32 h bitsLt_bf16_f32) (extf .f32 w bitsLt_bf16_f32)) (broadcastInDim S2048x8192 ![] bcast_S_S2048x8192 (constant S_ .f32 0x00000000#32)))))
      (broadcastInDim S2048x8192 ![] bcast_S_S2048x8192 (constant S_ .f32 0x00000000#32))) bitsLt_bf16_f32 = actBack (prodNT d z) (prodNN h w) := by
  funext y
  idx_vars y
  pointwise [prodNT, prodNN, actBack]
  rw [two]
  exact positive _ _

end ref

/-- The reference's run leaves its arguments and every counter at zero: it has no semaphores. -/
theorem frame_ref : Cert.quiescent_DuRefIdeal := fun m ρ _ =>
  (θ_run Cert.DuRefIdeal.defs _ _).mono (fun r h => ⟨fun c => (h c).2, sem_eq_zero_of_no_sems (by decide) r.2⟩) (Cert.DuRefIdeal.Value.run (F := Ideal) m ρ)

/-- The call's result is the reference's: both are the product carried back. -/
theorem algebraic : Cert.algebraic_DuIdeal_DuRefIdeal := by
  intro m ρ m' ρ' _ hagree
  refine ⟨fun c => actBack (prodNT (lhs m c) (rhs m c)) (mid m c), ?_, ?_⟩
  · refine (θ_run Cert.DuIdeal.defs _ _).mono (fun r h c => ?_) (Cert.DuIdeal.Value.run_blocks (F := Ideal) m ρ)
    obtain ⟨h0, ha⟩ := h c
    exact ⟨h0.trans (arr m c), ha⟩
  · refine (θ_run Cert.DuRefIdeal.defs _ _).mono (fun r h c => ?_) (Cert.DuRefIdeal.Value.run (F := Ideal) m' ρ')
    obtain ⟨h0, ha⟩ := h c
    obtain ⟨a0, a1, a2, a3⟩ := hagree c
    refine ⟨(h0.trans (ref _ _ _ _)).trans ?_, ha⟩
    exact congrArg₂ actBack (congrArg₂ prodNT a3 a2) (congrArg₂ prodNN a0 a1)

end Cert.Mlp.Du

end
-- ==== Proof.Dw1.lean ====
/- The gradient of the first weight of the channel mixer: what the call leaves, what the reference computes. -/
module

public import proofs.«01_k».proof.Proof.Products
public import proofs.«01_k».proof.Defs
public import Idealize.ShloMosaic.Lib.Pipeline.ValueKit
public import proofs.«01_k».proof.Proof.Gen.Dw1Ideal.Value
public import proofs.«01_k».proof.Proof.Gen.Dw1RefIdeal.Run
public import Idealize.ShloMosaic.Adequacy
public import Idealize.ShloMosaic.Init

@[expose] public section

noncomputable section

namespace Cert.Mlp.Dw1

open Idealize.ShloMosaic Idealize.SL.Sem Finset

section call

open Cert.Dw1Ideal Cert.Dw1Ideal.Gen

variable (m : (ℓ : Loc nD τ sig) → Buf (Elt Ideal) ℓ) (c : Dev nD)

/-- Where a point's blocks lie. -/
theorem index : ∀ t : Fin cfg0.N, win0_0.index t 0 = 0 ∧ win0_0.index t 1 = t.val / 16 ∧ win0_1.index t 0 = 0 ∧ win0_1.index t 1 = t.val % 16 ∧
    win0_2.index t 0 = t.val / 16 ∧ win0_2.index t 1 = t.val % 16 := by
  decide +kernel

/-- The left factor. -/
abbrev lhs : Mat 2048 2048 := m (c, Proc.devRef .tc main_arg0)
/-- The right factor. -/
abbrev rhs : Mat 2048 8192 := m (c, Proc.devRef .tc main_arg1)

/-- The left factor's block, read. -/
theorem read0 (t : Fin cfg0.N) (k : Fin 2048) (r : Fin 1024) :
    iblk m c 0 t (ix2 k r) = lhs m c (ix2 k ⟨1024 * (t.val / 16) + r.val, by have := t.isLt; change _ < 32 at this; omega⟩) := by
  obtain ⟨a0, a1, b0, b1, o0, o1⟩ := index t
  exact congrArg (lhs m c) (by blk_ext [a0, a1])

/-- The right factor's block, read. -/
theorem read1 (t : Fin cfg0.N) (k : Fin 2048) (r : Fin 512) :
    iblk m c 1 t (ix2 k r) = rhs m c (ix2 k ⟨512 * (t.val % 16) + r.val, by omega⟩) := by
  obtain ⟨a0, a1, b0, b1, o0, o1⟩ := index t
  exact congrArg (rhs m c) (by blk_ext [b0, b1])

/-- The call leaves the product. -/
theorem arr : (dats m 0 c).arrAt 2 cfg0.N = prodTN (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y =
      prodTN (lhs m c) (rhs m c) ((win0_2.blk t).view.emb y) from key y
  intro y
  idx_vars y
  have ht : t.val < 32 := t.isLt
  frame_out
  pointwise [k0_pay1]
  obtain ⟨a0, a1, b0, b1, o0, o1⟩ := index t
  have e : (win0_2.blk t).view.emb (ix2 y0 y1) = ix2 ⟨1024 * (t.val / 16) + y0.val, by omega⟩ ⟨512 * (t.val % 16) + y1.val, by omega⟩ := by
    blk_ext [o0, o1]
  refine Eq.trans ?_ (congrArg _ e.symm)
  refine sum_congr (M := EReal) rfl fun k _ => congrArg₂ (· * ·) (read0 m c t k y0) (read1 m c t k y1)

end call

section ref

open Cert.Dw1RefIdeal Cert.Dw1RefIdeal.Gen

/-- The reference's term is the product. -/
theorem ref (h : FVec Ideal S2048x2048 .bf16) (d : FVec Ideal S2048x8192 .bf16) :
    truncf .bf16 (transpose S2048x8192 [1, 0] (Host.dotGeneral dot_S2048x8192_S2048x2048_S8192x2048_0_0_1_1_n_n none
      (extf .f32 d bitsLt_bf16_f32) (extf .f32 h bitsLt_bf16_f32)) transposes_S8192x2048_S2048x8192_1_0) bitsLt_bf16_f32 = prodTN h d := by
  funext y
  idx_vars y
  pointwise [prodTN]
  exact sum_congr (M := EReal) rfl fun k _ => mul_comm _ _

end ref

/-- The reference's run leaves its arguments and every counter at zero: it has no semaphores. -/
theorem frame_ref : Cert.quiescent_Dw1RefIdeal := fun m ρ _ =>
  (θ_run Cert.Dw1RefIdeal.defs _ _).mono (fun r h => ⟨fun c => (h c).2, sem_eq_zero_of_no_sems (by decide) r.2⟩) (Cert.Dw1RefIdeal.Value.run (F := Ideal) m ρ)

/-- The call's result is the reference's: both are the product. -/
theorem algebraic : Cert.algebraic_Dw1Ideal_Dw1RefIdeal := by
  intro m ρ m' ρ' _ hagree
  refine ⟨fun c => prodTN (lhs m c) (rhs m c), ?_, ?_⟩
  · refine (θ_run Cert.Dw1Ideal.defs _ _).mono (fun r h c => ?_) (Cert.Dw1Ideal.Value.run_blocks (F := Ideal) m ρ)
    obtain ⟨h0, ha⟩ := h c
    exact ⟨h0.trans (arr m c), ha⟩
  · refine (θ_run Cert.Dw1RefIdeal.defs _ _).mono (fun r h c => ?_) (Cert.Dw1RefIdeal.Value.run (F := Ideal) m' ρ')
    obtain ⟨h0, ha⟩ := h c
    obtain ⟨a0, a1⟩ := hagree c
    refine ⟨(h0.trans (ref _ _)).trans ?_, ha⟩
    exact congrArg₂ prodTN a0 a1

end Cert.Mlp.Dw1

end
-- ==== Proof.Dhm.lean ====
/- The gradient of the channel mixer's input through its first weight: what the call leaves, what the reference computes. -/
module

public import proofs.«01_k».proof.Proof.Products
public import proofs.«01_k».proof.Defs
public import Idealize.ShloMosaic.Lib.Pipeline.ValueKit
public import proofs.«01_k».proof.Proof.Gen.DhmIdeal.Value
public import proofs.«01_k».proof.Proof.Gen.DhmRefIdeal.Run
public import Idealize.ShloMosaic.Adequacy
public import Idealize.ShloMosaic.Init

@[expose] public section

set_option maxRecDepth 16384

noncomputable section

namespace Cert.Mlp.Dhm

open Idealize.ShloMosaic Idealize.SL.Sem Finset

section call

open Cert.DhmIdeal Cert.DhmIdeal.Gen

variable (m : (ℓ : Loc nD τ sig) → Buf (Elt Ideal) ℓ) (c : Dev nD)

/-- Where a point's blocks lie. -/
theorem index : ∀ t : Fin cfg0.N, win0_0.index t 0 = t.val / 16 ∧ win0_0.index t 1 = t.val % 4 ∧ win0_1.index t 0 = t.val / 4 % 4 ∧ win0_1.index t 1 = t.val % 4 ∧
    win0_2.index t 0 = t.val / 16 ∧ win0_2.index t 1 = t.val / 4 % 4 := by
  decide +kernel

/-- There are 32 points. -/
theorem lt (t : Fin cfg0.N) : t.val < 32 := t.isLt

/-- The left factor. -/
abbrev lhs : Mat 2048 8192 := m (c, Proc.devRef .tc main_arg0)
/-- The right factor. -/
abbrev rhs : Mat 2048 8192 := m (c, Proc.devRef .tc main_arg1)
/-- The left factor's block at a point. -/
abbrev lblk (t : Fin cfg0.N) : Mat 1024 2048 := iblk m c 0 t
/-- The right factor's block at a point. -/
abbrev rblk (t : Fin cfg0.N) : Mat 512 2048 := iblk m c 1 t

/-- The left factor's block, read. -/
theorem read0 (t : Fin cfg0.N) (r : Fin 1024) (k : Fin 2048) :
    lblk m c t (ix2 r k) = lhs m c (ix2 ⟨1024 * (t.val / 16) + r.val, by have := lt t; omega⟩ ⟨2048 * (t.val % 4) + k.val, by omega⟩) := by
  obtain ⟨a0, a1, b0, b1, o0, o1⟩ := index t
  exact congrArg (lhs m c) (by blk_ext [a0, a1])

/-- The right factor's block, read. -/
theorem read1 (t : Fin cfg0.N) (r : Fin 512) (k : Fin 2048) :
    rblk m c t (ix2 r k) = rhs m c (ix2 ⟨512 * (t.val / 4 % 4) + r.val, by omega⟩ ⟨2048 * (t.val % 4) + k.val, by omega⟩) := by
  obtain ⟨a0, a1, b0, b1, o0, o1⟩ := index t
  exact congrArg (rhs m c) (by blk_ext [b0, b1])

/-- The product of two blocks. -/
theorem pay2 (a : Mat 1024 2048) (b : Mat 512 2048) (r : Fin 1024) (s : Fin 512) : k0_pay2 (F := Ideal) a b (ix2 r s) = prodNT a b (ix2 r s) := by
  pointwise [k0_pay2, k0_pay1, prodNT]

/-- The product of two blocks over what the scratch held. -/
theorem pay3 (a : Mat 1024 2048) (b : Mat 512 2048) (x : Mat 1024 512) (r : Fin 1024) (s : Fin 512) :
    k0_pay3 (F := Ideal) a b x (ix2 r s) = x (ix2 r s) + prodNT a b (ix2 r s) := by
  pointwise [k0_pay3, k0_pay1, prodNT]

/-- The first of a tile's points leaves its blocks' product in the scratch. -/
theorem acc_A (t : Fin cfg0.N) (h : t.val % 4 = 0) (r : Fin 1024) (s : Fin 512) :
    (outsAt0 m c t.val t.isLt).2 (ix2 r s) = prodNT (lblk m c t) (rblk m c t) (ix2 r s) := by
  rw [outsAt0_A m c t h (by omega) (by omega)]
  dsimp only
  frame_out
  exact pay2 _ _ r s

/-- A middle point adds its blocks' product. -/
theorem acc_B (t : Fin cfg0.N) (h : t.val % 4 ≠ 0) (h' : t.val % 4 ≠ 3) (r : Fin 1024) (s : Fin 512) : (outsAt0 m c t.val t.isLt).2 (ix2 r s) =
    (outsAt0 m c (t.val - 1) (by omega)).2 (ix2 r s) + prodNT (lblk m c t) (rblk m c t) (ix2 r s) := by
  rw [outsAt0_B m c t h (by omega) h']
  dsimp only
  frame_out
  exact (pay3 _ _ _ r s).trans (congrArg (· + _) (congrFun ((Memref.isWhole_whole _).read_unread _) _))

/-- A tile's last point leaves the scratch with its blocks' product added. -/
theorem acc_C (t : Fin cfg0.N) (h : t.val % 4 = 3) (r : Fin 1024) (s : Fin 512) : (outsAt0 m c t.val t.isLt).1 (ix2 r s) =
    (outsAt0 m c (t.val - 1) (by omega)).2 (ix2 r s) + prodNT (lblk m c t) (rblk m c t) (ix2 r s) := by
  rw [outsAt0_C m c t (by omega) (by omega) h]
  dsimp only
  frame_out
  exact (pay3 _ _ _ r s).trans (congrArg (· + _) (congrFun ((Memref.isWhole_whole _).read_unread _) _))

/-- A tile's last point leaves the product's entries. -/
theorem out (q : ℕ) (hq : q < 8) (h : 4 * q + 3 < cfg0.N) (r : Fin 1024) (s : Fin 512) : (outsAt0 m c (4 * q + 3) h).1 (ix2 r s) =
    prodNT (lhs m c) (rhs m c) (ix2 ⟨1024 * (q / 4) + r.val, by omega⟩ ⟨512 * (q % 4) + s.val, by omega⟩) := by
  refine scan_NT (n := 4) rfl (lhs m c) (rhs m c) _ _ r s (fun p hp => lblk m c ⟨p, hp⟩) (fun p hp => rblk m c ⟨p, hp⟩)
    (fun p hp => (outsAt0 m c p hp).2 (ix2 r s)) _ q (by omega) (by omega) (fun d hd k => ?_) (fun d hd k => ?_) ?_ (fun d hd => ?_) (fun d hd => ?_)
  · refine (read0 m c _ r k).trans (congrArg (lhs m c) ?_)
    simp only [show (4 * q + d) / 16 = q / 4 by omega, show (4 * q + d) % 4 = d by omega]
  · refine (read1 m c _ s k).trans (congrArg (rhs m c) ?_)
    simp only [show (4 * q + d) / 4 % 4 = q % 4 by omega, show (4 * q + d) % 4 = d by omega]
  · exact acc_A m c ⟨4 * q, by omega⟩ (by dsimp only; omega) r s
  · exact acc_B m c ⟨4 * q + (d + 1), by omega⟩ (by dsimp only; omega) (by dsimp only; omega) r s
  · obtain rfl : d = 2 := by omega
    exact acc_C m c ⟨4 * q + 3, h⟩ (by dsimp only; omega) r s

/-- The call leaves the product. -/
theorem arr : (dats m 0 c).arrAt 2 cfg0.N = prodNT (lhs m c) (rhs m c) := by
  refine (dats m 0 c).arrAt_eq_of_covers 2 _ (by decide +kernel) fun t hf y => ?_
  blk_simp
  rw [after0_2]
  suffices key : ∀ y : S1024x512.Idx, (outsAt0 m c t.val t.isLt).1 y = prodNT (lhs m c) (rhs m c) ((win0_2.blk t).view.emb y) from key y
  intro y
  idx_vars y
  have ht := lt t
  have h7 : t.val % 4 = 3 := (flush0_2 t).mp hf
  obtain ⟨a0, a1, b0, b1, o0, o1⟩ := index t
  have e : (win0_2.blk t).view.emb (ix2 y0 y1) = ix2 ⟨1024 * (t.val / 4 / 4) + y0.val, by omega⟩ ⟨512 * (t.val / 4 % 4) + y1.val, by omega⟩ := by
    blk_ext [o0, o1]
  refine Eq.trans ?_ (congrArg _ e.symm)
  have hp : 4 * (t.val / 4) + 3 < cfg0.N := lt_of_eq_of_lt (by omega) t.isLt
  have et : t = ⟨4 * (t.val / 4) + 3, hp⟩ := Fin.ext (by dsimp only; omega)
  refine Eq.trans ?_ (out m c (t.val / 4) (by omega) hp y0 y1)
  exact congrArg (fun t : Fin cfg0.N => (outsAt0 m c t.val t.isLt).1 (ix2 y0 y1)) et

end call

section ref

open Cert.DhmRefIdeal Cert.DhmRefIdeal.Gen

/-- The reference's term is the product. -/
theorem ref (d : FVec Ideal S2048x8192 .bf16) (w : FVec Ideal S2048x8192 .bf16) :
    Host.dotGeneral dot_S2048x8192_S2048x8192_S2048x2048_1_1_0_0_n_n none
      (extf .f32 d bitsLt_bf16_f32) (extf .f32 w bitsLt_bf16_f32) = prodNT d w := by
  funext y
  idx_vars y
  pointwise [prodNT]

end ref

/-- The reference's run leaves its arguments and every counter at zero: it has no semaphores. -/
theorem frame_ref : Cert.quiescent_DhmRefIdeal := fun m ρ _ =>
  (θ_run Cert.DhmRefIdeal.defs _ _).mono (fun r h => ⟨fun c => (h c).2, sem_eq_zero_of_no_sems (by decide) r.2⟩) (Cert.DhmRefIdeal.Value.run (F := Ideal) m ρ)

/-- The call's result is the reference's: both are the product. -/
theorem algebraic : Cert.algebraic_DhmIdeal_DhmRefIdeal := by
  intro m ρ m' ρ' _ hagree
  refine ⟨fun c => prodNT (lhs m c) (rhs m c), ?_, ?_⟩
  · refine (θ_run Cert.DhmIdeal.defs _ _).mono (fun r h c => ?_) (Cert.DhmIdeal.Value.run_blocks (F := Ideal) m ρ)
    obtain ⟨h0, ha⟩ := h c
    exact ⟨h0.trans (arr m c), ha⟩
  · refine (θ_run Cert.DhmRefIdeal.defs _ _).mono (fun r h c => ?_) (Cert.DhmRefIdeal.Value.run (F := Ideal) m' ρ')
    obtain ⟨h0, ha⟩ := h c
    obtain ⟨a0, a1⟩ := hagree c
    refine ⟨(h0.trans (ref _ _)).trans ?_, ha⟩
    exact congrArg₂ prodNT a0 a1

end Cert.Mlp.Dhm

end
-- ==== Proof.Dwout.lean ====
/- The gradient of the output weight: what the call leaves, what the reference computes. -/
module

public import proofs.«01_k».proof.Proof.Products
public import proofs.«01_k».proof.Defs
public import Idealize.ShloMosaic.Lib.Pipeline.ValueKit
public import proofs.«01_k».proof.Proof.Gen.DwoutIdeal.Value
public import proofs.«01_k».proof.Proof.Gen.DwoutRefIdeal.Run
public import Idealize.ShloMosaic.Adequacy
public import Idealize.ShloMosaic.Init

@[expose] public section

noncomputable section

namespace Cert.Mlp.Dwout

open Idealize.ShloMosaic Idealize.SL.Sem Finset Cert.DwoutIdeal Cert.DwoutIdeal.Gen

variable (m : (ℓ : Loc nD τ sig) → Buf (Elt Ideal) ℓ) (c : Dev nD)

/-- Where a point's blocks lie. -/
theorem index : ∀ t : Fin cfg0.N, win0_0.index t 0 = 0 ∧ win0_0.index t 1 = t.val / 4 ∧ win0_1.index t 0 = 0 ∧ win0_1.index t 1 = t.val % 4 ∧
    win0_2.index t 0 = t.val / 4 ∧ win0_2.index t 1 = t.val % 4 := by
  decide +kernel

/-- The left factor. -/
abbrev lhs : Mat 2048 2048 := m (c, Proc.devRef .tc main_arg0)
/-- The right factor. -/
abbrev rhs : Mat 2048 2048 := m (c, Proc.devRef .tc main_arg1)

/-- The call leaves the product. -/
theorem arr : (dats m 0 c).arrAt 2 cfg0.N = prodTN (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y = prodTN (lhs m c) (rhs m c) ((win0_2.blk t).view.emb y) from key y
  intro y
  idx_vars y
  have ht : t.val < 8 := t.isLt
  frame_out
  pointwise [k0_pay1]
  obtain ⟨a0, a1, b0, b1, o0, o1⟩ := index t
  have e : (win0_2.blk t).view.emb (ix2 y0 y1) = ix2 ⟨1024 * (t.val / 4) + y0.val, by omega⟩ ⟨512 * (t.val % 4) + y1.val, by omega⟩ := by
    blk_ext [o0, o1]
  refine Eq.trans ?_ (congrArg _ e.symm)
  exact sum_congr (M := EReal) rfl fun k _ => congrArg₂ (· * ·) (congrArg (lhs m c) (by blk_ext [a0, a1])) (congrArg (rhs m c) (by blk_ext [b0, b1]))

/-- The reference's run leaves its arguments and every counter at zero: it has no semaphores. -/
theorem frame_ref : Cert.quiescent_DwoutRefIdeal := fun m ρ _ =>
  (θ_run Cert.DwoutRefIdeal.defs _ _).mono (fun r h => ⟨fun c => (h c).2, sem_eq_zero_of_no_sems (by decide) r.2⟩) (Cert.DwoutRefIdeal.Value.run (F := Ideal) m ρ)

/-- The call's result is the reference's: both are the product. -/
theorem algebraic : Cert.algebraic_DwoutIdeal_DwoutRefIdeal := by
  intro m ρ m' ρ' _ hagree
  refine ⟨fun c => prodTN (lhs m c) (rhs m c), ?_, ?_⟩
  · refine (θ_run Cert.DwoutIdeal.defs _ _).mono (fun r h c => ?_) (Cert.DwoutIdeal.Value.run_blocks (F := Ideal) m ρ)
    exact ⟨(h c).1.trans (arr m c), (h c).2⟩
  · refine (θ_run Cert.DwoutRefIdeal.defs _ _).mono (fun r h c => ?_) (Cert.DwoutRefIdeal.Value.run (F := Ideal) m' ρ')
    obtain ⟨a0, a1⟩ := hagree c
    refine ⟨(h c).1.trans (Eq.trans ?_ (congrArg₂ prodTN a0 a1)), (h c).2⟩
    funext y
    idx_vars y
    pointwise [prodTN]
    exact sum_congr (M := EReal) rfl fun k _ => mul_comm _ _

end Cert.Mlp.Dwout

end
-- ==== Proof.Dmerged.lean ====
/- The gradient of the merged mixers through the output weight: what the call leaves, what the reference computes. -/
module

public import proofs.«01_k».proof.Proof.Products
public import proofs.«01_k».proof.Defs
public import Idealize.ShloMosaic.Lib.Pipeline.ValueKit
public import proofs.«01_k».proof.Proof.Gen.DmergedIdeal.Value
public import proofs.«01_k».proof.Proof.Gen.DmergedRefIdeal.Run
public import Idealize.ShloMosaic.Adequacy
public import Idealize.ShloMosaic.Init

@[expose] public section

noncomputable section

namespace Cert.Mlp.Dmerged

open Idealize.ShloMosaic Idealize.SL.Sem Finset Cert.DmergedIdeal Cert.DmergedIdeal.Gen

variable (m : (ℓ : Loc nD τ sig) → Buf (Elt Ideal) ℓ) (c : Dev nD)

/-- Where a point's blocks lie. -/
theorem index : ∀ t : Fin cfg0.N, win0_0.index t 0 = t.val / 4 ∧ win0_0.index t 1 = 0 ∧ win0_1.index t 0 = t.val % 4 ∧ win0_1.index t 1 = 0 ∧
    win0_2.index t 0 = t.val / 4 ∧ win0_2.index t 1 = t.val % 4 := by
  decide +kernel

/-- The left factor. -/
abbrev lhs : Mat 2048 2048 := m (c, Proc.devRef .tc main_arg0)
/-- The right factor. -/
abbrev rhs : Mat 2048 2048 := m (c, Proc.devRef .tc main_arg1)

/-- The call leaves the product. -/
theorem arr : (dats m 0 c).arrAt 2 cfg0.N = prodNT (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y = prodNT (lhs m c) (rhs m c) ((win0_2.blk t).view.emb y) from key y
  intro y
  idx_vars y
  have ht : t.val < 8 := t.isLt
  frame_out
  pointwise [k0_pay1]
  obtain ⟨a0, a1, b0, b1, o0, o1⟩ := index t
  have e : (win0_2.blk t).view.emb (ix2 y0 y1) = ix2 ⟨1024 * (t.val / 4) + y0.val, by omega⟩ ⟨512 * (t.val % 4) + y1.val, by omega⟩ := by
    blk_ext [o0, o1]
  refine Eq.trans ?_ (congrArg _ e.symm)
  exact sum_congr (M := EReal) rfl fun k _ => congrArg₂ (· * ·) (congrArg (lhs m c) (by blk_ext [a0, a1])) (congrArg (rhs m c) (by blk_ext [b0, b1]))

/-- The reference's run leaves its arguments and every counter at zero: it has no semaphores. -/
theorem frame_ref : Cert.quiescent_DmergedRefIdeal := fun m ρ _ =>
  (θ_run Cert.DmergedRefIdeal.defs _ _).mono (fun r h => ⟨fun c => (h c).2, sem_eq_zero_of_no_sems (by decide) r.2⟩) (Cert.DmergedRefIdeal.Value.run (F := Ideal) m ρ)

/-- The call's result is the reference's: both are the product. -/
theorem algebraic : Cert.algebraic_DmergedIdeal_DmergedRefIdeal := by
  intro m ρ m' ρ' _ hagree
  refine ⟨fun c => prodNT (lhs m c) (rhs m c), ?_, ?_⟩
  · refine (θ_run Cert.DmergedIdeal.defs _ _).mono (fun r h c => ?_) (Cert.DmergedIdeal.Value.run_blocks (F := Ideal) m ρ)
    exact ⟨(h c).1.trans (arr m c), (h c).2⟩
  · refine (θ_run Cert.DmergedRefIdeal.defs _ _).mono (fun r h c => ?_) (Cert.DmergedRefIdeal.Value.run (F := Ideal) m' ρ')
    obtain ⟨a0, a1⟩ := hagree c
    refine ⟨(h c).1.trans (Eq.trans ?_ (congrArg₂ prodNT a0 a1)), (h c).2⟩
    funext y
    idx_vars y
    pointwise [prodNT]

end Cert.Mlp.Dmerged

end
-- ==== Proof.Dwbr.lean ====
/- The gradient of a mixer's branch weight: what the call leaves, what the reference computes. -/
module

public import proofs.«01_k».proof.Proof.Products
public import proofs.«01_k».proof.Defs
public import Idealize.ShloMosaic.Lib.Pipeline.ValueKit
public import proofs.«01_k».proof.Proof.Gen.DwbrIdeal.Value
public import proofs.«01_k».proof.Proof.Gen.DwbrRefIdeal.Run
public import Idealize.ShloMosaic.Adequacy
public import Idealize.ShloMosaic.Init

@[expose] public section

noncomputable section

namespace Cert.Mlp.Dwbr

open Idealize.ShloMosaic Idealize.SL.Sem Finset Cert.DwbrIdeal Cert.DwbrIdeal.Gen

variable (m : (ℓ : Loc nD τ sig) → Buf (Elt Ideal) ℓ) (c : Dev nD)

/-- Where a point's blocks lie. -/
theorem index : ∀ t : Fin cfg0.N, win0_0.index t 0 = 0 ∧ win0_0.index t 1 = t.val / 4 ∧ win0_1.index t 0 = 0 ∧ win0_1.index t 1 = t.val % 4 ∧
    win0_2.index t 0 = t.val / 4 ∧ win0_2.index t 1 = t.val % 4 := by
  decide +kernel

/-- The left factor. -/
abbrev lhs : Mat 2048 1024 := m (c, Proc.devRef .tc main_arg0)
/-- The right factor. -/
abbrev rhs : Mat 2048 2048 := m (c, Proc.devRef .tc main_arg1)

/-- The call leaves the product. -/
theorem arr : (dats m 0 c).arrAt 2 cfg0.N = prodTN (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y = prodTN (lhs m c) (rhs m c) ((win0_2.blk t).view.emb y) from key y
  intro y
  idx_vars y
  have ht : t.val < 4 := t.isLt
  frame_out
  pointwise [k0_pay1]
  obtain ⟨a0, a1, b0, b1, o0, o1⟩ := index t
  have e : (win0_2.blk t).view.emb (ix2 y0 y1) = ix2 ⟨1024 * (t.val / 4) + y0.val, by omega⟩ ⟨512 * (t.val % 4) + y1.val, by omega⟩ := by
    blk_ext [o0, o1]
  refine Eq.trans ?_ (congrArg _ e.symm)
  exact sum_congr (M := EReal) rfl fun k _ => congrArg₂ (· * ·) (congrArg (lhs m c) (by blk_ext [a0, a1])) (congrArg (rhs m c) (by blk_ext [b0, b1]))

/-- The reference's run leaves its arguments and every counter at zero: it has no semaphores. -/
theorem frame_ref : Cert.quiescent_DwbrRefIdeal := fun m ρ _ =>
  (θ_run Cert.DwbrRefIdeal.defs _ _).mono (fun r h => ⟨fun c => (h c).2, sem_eq_zero_of_no_sems (by decide) r.2⟩) (Cert.DwbrRefIdeal.Value.run (F := Ideal) m ρ)

/-- The call's result is the reference's: both are the product. -/
theorem algebraic : Cert.algebraic_DwbrIdeal_DwbrRefIdeal := by
  intro m ρ m' ρ' _ hagree
  refine ⟨fun c => prodTN (lhs m c) (rhs m c), ?_, ?_⟩
  · refine (θ_run Cert.DwbrIdeal.defs _ _).mono (fun r h c => ?_) (Cert.DwbrIdeal.Value.run_blocks (F := Ideal) m ρ)
    exact ⟨(h c).1.trans (arr m c), (h c).2⟩
  · refine (θ_run Cert.DwbrRefIdeal.defs _ _).mono (fun r h c => ?_) (Cert.DwbrRefIdeal.Value.run (F := Ideal) m' ρ')
    obtain ⟨a0, a1⟩ := hagree c
    refine ⟨(h c).1.trans (Eq.trans ?_ (congrArg₂ prodTN a0 a1)), (h c).2⟩
    funext y
    idx_vars y
    pointwise [prodTN]
    exact sum_congr (M := EReal) rfl fun k _ => mul_comm _ _

end Cert.Mlp.Dwbr

end
-- ==== Proof.Dys.lean ====
/- The gradient of a mixer's result through its branch weight: what the call leaves, what the reference computes. -/
module

public import proofs.«01_k».proof.Proof.Products
public import proofs.«01_k».proof.Defs
public import Idealize.ShloMosaic.Lib.Pipeline.ValueKit
public import proofs.«01_k».proof.Proof.Gen.DysIdeal.Value
public import proofs.«01_k».proof.Proof.Gen.DysRefIdeal.Run
public import Idealize.ShloMosaic.Adequacy
public import Idealize.ShloMosaic.Init

@[expose] public section

noncomputable section

namespace Cert.Mlp.Dys

open Idealize.ShloMosaic Idealize.SL.Sem Finset Cert.DysIdeal Cert.DysIdeal.Gen

variable (m : (ℓ : Loc nD τ sig) → Buf (Elt Ideal) ℓ) (c : Dev nD)

/-- Where a point's blocks lie. -/
theorem index : ∀ t : Fin cfg0.N, win0_0.index t 0 = t.val / 2 ∧ win0_0.index t 1 = 0 ∧ win0_1.index t 0 = t.val % 2 ∧ win0_1.index t 1 = 0 ∧
    win0_2.index t 0 = t.val / 2 ∧ win0_2.index t 1 = t.val % 2 := by
  decide +kernel

/-- The left factor. -/
abbrev lhs : Mat 2048 2048 := m (c, Proc.devRef .tc main_arg0)
/-- The right factor. -/
abbrev rhs : Mat 1024 2048 := m (c, Proc.devRef .tc main_arg1)

/-- The call leaves the product. -/
theorem arr : (dats m 0 c).arrAt 2 cfg0.N = prodNT (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y = prodNT (lhs m c) (rhs m c) ((win0_2.blk t).view.emb y) from key y
  intro y
  idx_vars y
  have ht : t.val < 4 := t.isLt
  frame_out
  pointwise [k0_pay1]
  obtain ⟨a0, a1, b0, b1, o0, o1⟩ := index t
  have e : (win0_2.blk t).view.emb (ix2 y0 y1) = ix2 ⟨1024 * (t.val / 2) + y0.val, by omega⟩ ⟨512 * (t.val % 2) + y1.val, by omega⟩ := by
    blk_ext [o0, o1]
  refine Eq.trans ?_ (congrArg _ e.symm)
  exact sum_congr (M := EReal) rfl fun k _ => congrArg₂ (· * ·) (congrArg (lhs m c) (by blk_ext [a0, a1])) (congrArg (rhs m c) (by blk_ext [b0, b1]))

/-- The reference's run leaves its arguments and every counter at zero: it has no semaphores. -/
theorem frame_ref : Cert.quiescent_DysRefIdeal := fun m ρ _ =>
  (θ_run Cert.DysRefIdeal.defs _ _).mono (fun r h => ⟨fun c => (h c).2, sem_eq_zero_of_no_sems (by decide) r.2⟩) (Cert.DysRefIdeal.Value.run (F := Ideal) m ρ)

/-- The call's result is the reference's: both are the product. -/
theorem algebraic : Cert.algebraic_DysIdeal_DysRefIdeal := by
  intro m ρ m' ρ' _ hagree
  refine ⟨fun c => prodNT (lhs m c) (rhs m c), ?_, ?_⟩
  · refine (θ_run Cert.DysIdeal.defs _ _).mono (fun r h c => ?_) (Cert.DysIdeal.Value.run_blocks (F := Ideal) m ρ)
    exact ⟨(h c).1.trans (arr m c), (h c).2⟩
  · refine (θ_run Cert.DysRefIdeal.defs _ _).mono (fun r h c => ?_) (Cert.DysRefIdeal.Value.run (F := Ideal) m' ρ')
    obtain ⟨a0, a1⟩ := hagree c
    refine ⟨(h c).1.trans (Eq.trans ?_ (congrArg₂ prodNT a0 a1)), (h c).2⟩
    funext y
    idx_vars y
    pointwise [prodNT]

end Cert.Mlp.Dys

end
-- ==== Proof.In.lean ====
/- The input projection's forward product: what the call leaves, what the reference computes. -/
module

public import proofs.«01_k».proof.Proof.Products
public import proofs.«01_k».proof.Defs
public import Idealize.ShloMosaic.Lib.Pipeline.ValueKit
public import proofs.«01_k».proof.Proof.Gen.InIdeal.Value
public import proofs.«01_k».proof.Proof.Gen.InRefIdeal.Run
public import Idealize.ShloMosaic.Adequacy
public import Idealize.ShloMosaic.Init

@[expose] public section

noncomputable section

namespace Cert.Mlp.In

open Idealize.ShloMosaic Idealize.SL.Sem Finset Cert.InIdeal Cert.InIdeal.Gen

variable (m : (ℓ : Loc nD τ sig) → Buf (Elt Ideal) ℓ) (c : Dev nD)

/-- Where a point's blocks lie. -/
theorem index : ∀ t : Fin cfg0.N, win0_0.index t 0 = t.val / 26 ∧ win0_0.index t 1 = 0 ∧ win0_1.index t 0 = 0 ∧ win0_1.index t 1 = t.val % 26 ∧
    win0_2.index t 0 = t.val / 26 ∧ win0_2.index t 1 = t.val % 26 := by
  decide +kernel

/-- The left factor. -/
abbrev lhs : Mat 2048 2048 := m (c, Proc.devRef .tc main_arg0)
/-- The right factor. -/
abbrev rhs : Mat 2048 13312 := m (c, Proc.devRef .tc main_arg1)

/-- The call leaves the product. -/
theorem arr : (dats m 0 c).arrAt 2 cfg0.N = prodNN (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y = prodNN (lhs m c) (rhs m c) ((win0_2.blk t).view.emb y) from key y
  intro y
  idx_vars y
  have ht : t.val < 52 := t.isLt
  frame_out
  pointwise [k0_pay1]
  obtain ⟨a0, a1, b0, b1, o0, o1⟩ := index t
  have e : (win0_2.blk t).view.emb (ix2 y0 y1) = ix2 ⟨1024 * (t.val / 26) + y0.val, by omega⟩ ⟨512 * (t.val % 26) + y1.val, by omega⟩ := by
    blk_ext [o0, o1]
  refine Eq.trans ?_ (congrArg _ e.symm)
  exact sum_congr (M := EReal) rfl fun k _ => congrArg₂ (· * ·) (congrArg (lhs m c) (by blk_ext [a0, a1])) (congrArg (rhs m c) (by blk_ext [b0, b1]))

/-- The reference's run leaves its arguments and every counter at zero: it has no semaphores. -/
theorem frame_ref : Cert.quiescent_InRefIdeal := fun m ρ _ =>
  (θ_run Cert.InRefIdeal.defs _ _).mono (fun r h => ⟨fun c => (h c).2, sem_eq_zero_of_no_sems (by decide) r.2⟩) (Cert.InRefIdeal.Value.run (F := Ideal) m ρ)

/-- The call's result is the reference's: both are the product. -/
theorem algebraic : Cert.algebraic_InIdeal_InRefIdeal := by
  intro m ρ m' ρ' _ hagree
  refine ⟨fun c => prodNN (lhs m c) (rhs m c), ?_, ?_⟩
  · refine (θ_run Cert.InIdeal.defs _ _).mono (fun r h c => ?_) (Cert.InIdeal.Value.run_blocks (F := Ideal) m ρ)
    exact ⟨(h c).1.trans (arr m c), (h c).2⟩
  · refine (θ_run Cert.InRefIdeal.defs _ _).mono (fun r h c => ?_) (Cert.InRefIdeal.Value.run (F := Ideal) m' ρ')
    obtain ⟨a0, a1⟩ := hagree c
    refine ⟨(h c).1.trans (Eq.trans ?_ (congrArg₂ prodNN a0 a1)), (h c).2⟩
    funext y
    idx_vars y
    pointwise [prodNN]

end Cert.Mlp.In

end
-- ==== Proof.Up.lean ====
/- The channel mixer's first forward product and its activation: what the call leaves, what the reference computes. -/
module

public import proofs.«01_k».proof.Proof.Products
public import proofs.«01_k».proof.Defs
public import Idealize.ShloMosaic.Lib.Pipeline.ValueKit
public import proofs.«01_k».proof.Proof.Gen.UpIdeal.Value
public import proofs.«01_k».proof.Proof.Gen.UpRefIdeal.Run
public import Idealize.ShloMosaic.Adequacy
public import Idealize.ShloMosaic.Init

@[expose] public section

noncomputable section

namespace Cert.Mlp.Up

open Idealize.ShloMosaic Idealize.SL.Sem Finset Cert.UpIdeal Cert.UpIdeal.Gen

variable (m : (ℓ : Loc nD τ sig) → Buf (Elt Ideal) ℓ) (c : Dev nD)

/-- Where a point's blocks lie. -/
theorem index : ∀ t : Fin cfg0.N, win0_0.index t 0 = t.val / 16 ∧ win0_0.index t 1 = 0 ∧ win0_1.index t 0 = 0 ∧ win0_1.index t 1 = t.val % 16 ∧
    win0_2.index t 0 = t.val / 16 ∧ win0_2.index t 1 = t.val % 16 ∧ win0_3.index t 0 = t.val / 16 ∧ win0_3.index t 1 = t.val % 16 := by
  decide +kernel

/-- The left factor. -/
abbrev lhs : Mat 2048 2048 := m (c, Proc.devRef .tc main_arg0)
/-- The right factor. -/
abbrev rhs : Mat 2048 8192 := m (c, Proc.devRef .tc main_arg1)

/-- A point's blocks give its block of the product. -/
theorem tile (t : Fin cfg0.N) (r : Fin 1024) (z : Fin 512) (i : Fin 2048) (j : Fin 8192) (hi : i.val = 1024 * (t.val / 16) + r.val)
    (hj : j.val = 512 * (t.val % 16) + z.val) :
    prodNN (M := 1024) (K := 2048) (N := 512) (iblk m c 0 t) (iblk m c 1 t) (ix2 r z) = prodNN (lhs m c) (rhs m c) (ix2 i j) := by
  obtain ⟨i, _⟩ := i
  obtain ⟨j, _⟩ := j
  dsimp only at hi hj
  subst hi hj
  obtain ⟨a0, a1, b0, b1, o0, o1, p0, p1⟩ := index t
  exact sum_congr (M := EReal) rfl fun k _ => congrArg₂ (· * ·) (congrArg (lhs m c) (by blk_ext [a0, a1])) (congrArg (rhs m c) (by blk_ext [b0, b1]))

/-- The call leaves the product. -/
theorem arr2 : (dats m 0 c).arrAt 2 cfg0.N = prodNN (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y = prodNN (lhs m c) (rhs m c) ((win0_2.blk t).view.emb y) from key y
  intro y
  idx_vars y
  have ht : t.val < 32 := t.isLt
  frame_out
  pointwise [k0_pay1]
  obtain ⟨a0, a1, b0, b1, o0, o1, p0, p1⟩ := index t
  have e : (win0_2.blk t).view.emb (ix2 y0 y1) = ix2 ⟨1024 * (t.val / 16) + y0.val, by omega⟩ ⟨512 * (t.val % 16) + y1.val, by omega⟩ := by
    blk_ext [o0, o1]
  exact (tile m c t y0 y1 _ _ rfl rfl).trans (congrArg _ e.symm)

/-- The call leaves the product's activation. -/
theorem arr3 : (dats m 0 c).arrAt 3 cfg0.N = act (prodNN (lhs m c) (rhs m c)) := by
  refine (dats m 0 c).arrAt_eq_of_covers 3 _ (by decide +kernel) fun t hf y => ?_
  blk_simp
  rw [after0_3]
  suffices key : ∀ y : S1024x512.Idx, out0_3 (iblk m c 0 t) (iblk m c 1 t) y = act (prodNN (lhs m c) (rhs m c)) ((win0_3.blk t).view.emb y) from key y
  intro y
  idx_vars y
  have ht : t.val < 32 := t.isLt
  frame_out
  pointwise [k0_pay2, k0_pay1]
  obtain ⟨a0, a1, b0, b1, o0, o1, p0, p1⟩ := index t
  have e : (win0_3.blk t).view.emb (ix2 y0 y1) = ix2 ⟨1024 * (t.val / 16) + y0.val, by omega⟩ ⟨512 * (t.val % 16) + y1.val, by omega⟩ := by
    blk_ext [p0, p1]
  exact (congrArg (fun p : EReal => max p 0 * max p 0) (tile m c t y0 y1 ⟨1024 * (t.val / 16) + y0.val, by omega⟩ ⟨512 * (t.val % 16) + y1.val, by omega⟩ rfl rfl)).trans
    (congrArg (act (prodNN (lhs m c) (rhs m c))) e.symm)

/-- The reference's run leaves its arguments and every counter at zero: it has no semaphores. -/
theorem frame_ref : Cert.quiescent_UpRefIdeal := fun m ρ _ =>
  (θ_run Cert.UpRefIdeal.defs _ _).mono (fun r h => ⟨fun c => (h c).2.2, sem_eq_zero_of_no_sems (by decide) r.2⟩) (Cert.UpRefIdeal.Value.run (F := Ideal) m ρ)

/-- The call's results are the reference's: the product and its activation. -/
theorem algebraic : Cert.algebraic_UpIdeal_UpRefIdeal := by
  intro m ρ m' ρ' _ hagree
  refine ⟨fun c => prodNN (lhs m c) (rhs m c), fun c => act (prodNN (lhs m c) (rhs m c)), ?_, ?_⟩
  · refine (θ_run Cert.UpIdeal.defs _ _).mono (fun r h c => ?_) (Cert.UpIdeal.Value.run_blocks (F := Ideal) m ρ)
    exact ⟨(h c).1.trans (arr2 m c), (h c).2.1.trans (arr3 m c), (h c).2.2⟩
  · refine (θ_run Cert.UpRefIdeal.defs _ _).mono (fun r h c => ?_) (Cert.UpRefIdeal.Value.run (F := Ideal) m' ρ')
    obtain ⟨a0, a1⟩ := hagree c
    refine ⟨(h c).1.trans (Eq.trans ?_ (congrArg₂ prodNN a0 a1)), (h c).2.1.trans (Eq.trans ?_ (congrArg act (congrArg₂ prodNN a0 a1))), (h c).2.2⟩
    · funext y
      idx_vars y
      pointwise [prodNN]
    · funext y
      idx_vars y
      pointwise [act, prodNN]

end Cert.Mlp.Up

end
-- ==== Proof.Down.lean ====
/- The channel mixer's second forward product, added to the residual: what the call leaves, what the reference computes. -/
module

public import proofs.«01_k».proof.Proof.Products
public import proofs.«01_k».proof.Defs
public import Idealize.ShloMosaic.Lib.Pipeline.ValueKit
public import proofs.«01_k».proof.Proof.Gen.DownIdeal.Value
public import proofs.«01_k».proof.Proof.Gen.DownRefIdeal.Run
public import Idealize.ShloMosaic.Adequacy
public import Idealize.ShloMosaic.Init

@[expose] public section

set_option maxRecDepth 16384

noncomputable section

namespace Cert.Mlp.Down

open Idealize.ShloMosaic Idealize.SL.Sem Finset

section call

open Cert.DownIdeal Cert.DownIdeal.Gen

variable (m : (ℓ : Loc nD τ sig) → Buf (Elt Ideal) ℓ) (c : Dev nD)

/-- Where a point's blocks lie. -/
theorem index : ∀ t : Fin cfg0.N, win0_0.index t 0 = t.val / 16 ∧ win0_0.index t 1 = t.val % 4 ∧ win0_1.index t 0 = t.val % 4 ∧ win0_1.index t 1 = t.val / 4 % 4 ∧
    win0_2.index t 0 = t.val / 16 ∧ win0_2.index t 1 = t.val / 4 % 4 ∧ win0_3.index t 0 = t.val / 16 ∧ win0_3.index t 1 = t.val / 4 % 4 := by
  decide +kernel

/-- There are 32 points. -/
theorem lt (t : Fin cfg0.N) : t.val < 32 := t.isLt

/-- The left factor. -/
abbrev lhs : Mat 2048 8192 := m (c, Proc.devRef .tc main_arg0)
/-- The right factor. -/
abbrev rhs : Mat 8192 2048 := m (c, Proc.devRef .tc main_arg1)
/-- The residual. -/
abbrev res : Mat 2048 2048 := m (c, Proc.devRef .tc main_arg2)
/-- The left factor's block at a point. -/
abbrev lblk (t : Fin cfg0.N) : Mat 1024 2048 := iblk m c 0 t
/-- The right factor's block at a point. -/
abbrev rblk (t : Fin cfg0.N) : Mat 2048 512 := iblk m c 1 t

/-- The left factor's block, read. -/
theorem read0 (t : Fin cfg0.N) (r : Fin 1024) (k : Fin 2048) :
    lblk m c t (ix2 r k) = lhs m c (ix2 ⟨1024 * (t.val / 16) + r.val, by have := lt t; omega⟩ ⟨2048 * (t.val % 4) + k.val, by omega⟩) := by
  obtain ⟨a0, a1, b0, b1, x0, x1, o0, o1⟩ := index t
  exact congrArg (lhs m c) (by blk_ext [a0, a1])

/-- The right factor's block, read. -/
theorem read1 (t : Fin cfg0.N) (r : Fin 512) (k : Fin 2048) :
    rblk m c t (ix2 k r) = rhs m c (ix2 ⟨2048 * (t.val % 4) + k.val, by omega⟩ ⟨512 * (t.val / 4 % 4) + r.val, by omega⟩) := by
  obtain ⟨a0, a1, b0, b1, x0, x1, o0, o1⟩ := index t
  exact congrArg (rhs m c) (by blk_ext [b0, b1])

/-- The product of two blocks. -/
theorem pay2 (a : Mat 1024 2048) (b : Mat 2048 512) (r : Fin 1024) (s : Fin 512) : k0_pay2 (F := Ideal) a b (ix2 r s) = prodNN a b (ix2 r s) := by
  pointwise [k0_pay2, k0_pay1, prodNN]

/-- The product of two blocks over what the scratch held. -/
theorem pay3 (a : Mat 1024 2048) (b : Mat 2048 512) (x : Mat 1024 512) (r : Fin 1024) (s : Fin 512) :
    k0_pay3 (F := Ideal) a b x (ix2 r s) = x (ix2 r s) + prodNN a b (ix2 r s) := by
  pointwise [k0_pay3, k0_pay1, prodNN]

/-- The first of a tile's points leaves its blocks' product in the scratch. -/
theorem acc_A (t : Fin cfg0.N) (h : t.val % 4 = 0) (r : Fin 1024) (s : Fin 512) :
    (outsAt0 m c t.val t.isLt).2 (ix2 r s) = prodNN (lblk m c t) (rblk m c t) (ix2 r s) := by
  rw [outsAt0_A m c t h (by omega) (by omega)]
  dsimp only
  frame_out
  exact pay2 _ _ r s

/-- A middle point adds its blocks' product. -/
theorem acc_B (t : Fin cfg0.N) (h : t.val % 4 ≠ 0) (h' : t.val % 4 ≠ 3) (r : Fin 1024) (s : Fin 512) : (outsAt0 m c t.val t.isLt).2 (ix2 r s) =
    (outsAt0 m c (t.val - 1) (by omega)).2 (ix2 r s) + prodNN (lblk m c t) (rblk m c t) (ix2 r s) := by
  rw [outsAt0_B m c t h (by omega) h']
  dsimp only
  frame_out
  exact (pay3 _ _ _ r s).trans (congrArg (· + _) (congrFun ((Memref.isWhole_whole _).read_unread _) _))

/-- So does the last point. -/
theorem acc_C (t : Fin cfg0.N) (h : t.val % 4 = 3) (r : Fin 1024) (s : Fin 512) : (outsAt0 m c t.val t.isLt).2 (ix2 r s) =
    (outsAt0 m c (t.val - 1) (by omega)).2 (ix2 r s) + prodNN (lblk m c t) (rblk m c t) (ix2 r s) := by
  rw [outsAt0_C m c t (by omega) (by omega) h]
  dsimp only
  frame_out
  exact (pay3 _ _ _ r s).trans (congrArg (· + _) (congrFun ((Memref.isWhole_whole _).read_unread _) _))

/-- The residual added to what the scratch holds. -/
theorem pay4 (x z : Mat 1024 512) (r : Fin 1024) (s : Fin 512) : k0_pay4 (F := Ideal) x z (ix2 r s) = x (ix2 r s) + z (ix2 r s) := by
  pointwise [k0_pay4]

/-- The last point's result is its scratch with its block of the residual added. -/
theorem last (t : Fin cfg0.N) (h : t.val % 4 = 3) (r : Fin 1024) (s : Fin 512) : (outsAt0 m c t.val t.isLt).1 (ix2 r s) =
    HAdd.hAdd (α := EReal) (β := EReal) (iblk m c 2 t (ix2 r s)) ((outsAt0 m c t.val t.isLt).2 (ix2 r s)) := by
  refine Eq.trans ?_ (add_comm (G := EReal) _ _)
  rw [outsAt0_C m c t (by omega) (by omega) h]
  dsimp only
  frame_out
  exact pay4 _ _ r s

/-- A tile's last point leaves the product's entries in the scratch. -/
theorem out (q : ℕ) (hq : q < 8) (h : 4 * q + 3 < cfg0.N) (r : Fin 1024) (s : Fin 512) : (outsAt0 m c (4 * q + 3) h).2 (ix2 r s) =
    prodNN (lhs m c) (rhs m c) (ix2 ⟨1024 * (q / 4) + r.val, by omega⟩ ⟨512 * (q % 4) + s.val, by omega⟩) := by
  refine scan_NN (n := 4) rfl (lhs m c) (rhs m c) _ _ r s (fun p hp => lblk m c ⟨p, hp⟩) (fun p hp => rblk m c ⟨p, hp⟩)
    (fun p hp => (outsAt0 m c p hp).2 (ix2 r s)) _ q (by omega) (by omega) (fun d hd k => ?_) (fun d hd k => ?_) ?_ (fun d hd => ?_) (fun d hd => ?_)
  · refine (read0 m c _ r k).trans (congrArg (lhs m c) ?_)
    simp only [show (4 * q + d) / 16 = q / 4 by omega, show (4 * q + d) % 4 = d by omega]
  · refine (read1 m c _ s k).trans (congrArg (rhs m c) ?_)
    simp only [show (4 * q + d) / 4 % 4 = q % 4 by omega, show (4 * q + d) % 4 = d by omega]
  · exact acc_A m c ⟨4 * q, by omega⟩ (by dsimp only; omega) r s
  · exact acc_B m c ⟨4 * q + (d + 1), by omega⟩ (by dsimp only; omega) (by dsimp only; omega) r s
  · obtain rfl : d = 2 := by omega
    exact acc_C m c ⟨4 * q + 3, h⟩ (by dsimp only; omega) r s

/-- The call leaves the product added to the residual. -/
theorem arr : (dats m 0 c).arrAt 3 cfg0.N = added (res m c) (prodNN (lhs m c) (rhs m c)) := by
  refine (dats m 0 c).arrAt_eq_of_covers 3 _ (by decide +kernel) fun t hf y => ?_
  blk_simp
  rw [after0_3]
  suffices key : ∀ y : S1024x512.Idx, (outsAt0 m c t.val t.isLt).1 y = added (res m c) (prodNN (lhs m c) (rhs m c)) ((win0_3.blk t).view.emb y) from key y
  intro y
  idx_vars y
  have ht := lt t
  have h7 : t.val % 4 = 3 := (flush0_3 t).mp hf
  obtain ⟨a0, a1, b0, b1, x0, x1, o0, o1⟩ := index t
  have e : (win0_3.blk t).view.emb (ix2 y0 y1) = ix2 ⟨1024 * (t.val / 4 / 4) + y0.val, by omega⟩ ⟨512 * (t.val / 4 % 4) + y1.val, by omega⟩ := by
    blk_ext [o0, o1]
  refine Eq.trans ?_ (congrArg _ e.symm)
  have hp : 4 * (t.val / 4) + 3 < cfg0.N := lt_of_eq_of_lt (by omega) t.isLt
  have et : t = ⟨4 * (t.val / 4) + 3, hp⟩ := Fin.ext (by dsimp only; omega)
  refine (last m c t h7 y0 y1).trans (congrArg₂ (fun x p : EReal => x + p) (congrArg (res m c) (by blk_ext [x0, x1])) ?_)
  refine Eq.trans ?_ (out m c (t.val / 4) (by omega) hp y0 y1)
  exact congrArg (fun t : Fin cfg0.N => (outsAt0 m c t.val t.isLt).2 (ix2 y0 y1)) et

end call

/-- The reference's run leaves its arguments and every counter at zero: it has no semaphores. -/
theorem frame_ref : Cert.quiescent_DownRefIdeal := fun m ρ _ =>
  (θ_run Cert.DownRefIdeal.defs _ _).mono (fun r h => ⟨fun c => (h c).2, sem_eq_zero_of_no_sems (by decide) r.2⟩) (Cert.DownRefIdeal.Value.run (F := Ideal) m ρ)

/-- The call's result is the reference's: both are the product added to the residual. -/
theorem algebraic : Cert.algebraic_DownIdeal_DownRefIdeal := by
  intro m ρ m' ρ' _ hagree
  refine ⟨fun c => added (res m c) (prodNN (lhs m c) (rhs m c)), ?_, ?_⟩
  · refine (θ_run Cert.DownIdeal.defs _ _).mono (fun r h c => ?_) (Cert.DownIdeal.Value.run_blocks (F := Ideal) m ρ)
    obtain ⟨h0, ha⟩ := h c
    exact ⟨h0.trans (arr m c), ha⟩
  · refine (θ_run Cert.DownRefIdeal.defs _ _).mono (fun r h c => ?_) (Cert.DownRefIdeal.Value.run (F := Ideal) m' ρ')
    obtain ⟨a0, a1, a2⟩ := hagree c
    refine ⟨(h c).1.trans (Eq.trans ?_ (congrArg₂ added a2 (congrArg₂ prodNN a0 a1))), (h c).2⟩
    funext y
    idx_vars y
    pointwise [added, prodNN]

end Cert.Mlp.Down

end
-- ==== Proof.Out.lean ====
/- The merged mixers' forward product with the output weight, added to the residual: what the call leaves, what the reference computes. -/
module

public import proofs.«01_k».proof.Proof.Products
public import proofs.«01_k».proof.Defs
public import Idealize.ShloMosaic.Lib.Pipeline.ValueKit
public import proofs.«01_k».proof.Proof.Gen.OutIdeal.Value
public import proofs.«01_k».proof.Proof.Gen.OutRefIdeal.Run
public import Idealize.ShloMosaic.Adequacy
public import Idealize.ShloMosaic.Init

@[expose] public section

noncomputable section

namespace Cert.Mlp.Out

open Idealize.ShloMosaic Idealize.SL.Sem Finset Cert.OutIdeal Cert.OutIdeal.Gen

variable (m : (ℓ : Loc nD τ sig) → Buf (Elt Ideal) ℓ) (c : Dev nD)

/-- Where a point's blocks lie. -/
theorem index : ∀ t : Fin cfg0.N, win0_0.index t 0 = t.val / 4 ∧ win0_0.index t 1 = 0 ∧ win0_1.index t 0 = 0 ∧ win0_1.index t 1 = t.val % 4 ∧
    win0_2.index t 0 = t.val / 4 ∧ win0_2.index t 1 = t.val % 4 ∧ win0_3.index t 0 = t.val / 4 ∧ win0_3.index t 1 = t.val % 4 := by
  decide +kernel

/-- The left factor. -/
abbrev lhs : Mat 2048 2048 := m (c, Proc.devRef .tc main_arg0)
/-- The right factor. -/
abbrev rhs : Mat 2048 2048 := m (c, Proc.devRef .tc main_arg1)

/-- The residual. -/
abbrev res : Mat 2048 2048 := m (c, Proc.devRef .tc main_arg2)

/-- The call leaves the product added to the residual. -/
theorem arr : (dats m 0 c).arrAt 3 cfg0.N = added (res m c) (prodNN (lhs m c) (rhs m c)) := by
  refine (dats m 0 c).arrAt_eq_of_covers 3 _ (by decide +kernel) fun t hf y => ?_
  blk_simp
  rw [after0_3]
  suffices key : ∀ y : S1024x512.Idx, out0_3 (iblk m c 0 t) (iblk m c 1 t) (iblk m c 2 t) y = added (res m c) (prodNN (lhs m c) (rhs m c)) ((win0_3.blk t).view.emb y) from key y
  intro y
  idx_vars y
  have ht : t.val < 8 := t.isLt
  frame_out
  pointwise [k0_pay1]
  obtain ⟨a0, a1, b0, b1, x0, x1, o0, o1⟩ := index t
  have e : (win0_3.blk t).view.emb (ix2 y0 y1) = ix2 ⟨1024 * (t.val / 4) + y0.val, by omega⟩ ⟨512 * (t.val % 4) + y1.val, by omega⟩ := by
    blk_ext [o0, o1]
  refine Eq.trans ((add_comm (G := EReal) _ _).trans ?_) (congrArg _ e.symm)
  refine congrArg₂ (fun x p : EReal => x + p) (congrArg (res m c) (by blk_ext [x0, x1])) ?_
  exact sum_congr (M := EReal) rfl fun k _ => congrArg₂ (· * ·) (congrArg (lhs m c) (by blk_ext [a0, a1])) (congrArg (rhs m c) (by blk_ext [b0, b1]))

/-- The reference's run leaves its arguments and every counter at zero: it has no semaphores. -/
theorem frame_ref : Cert.quiescent_OutRefIdeal := fun m ρ _ =>
  (θ_run Cert.OutRefIdeal.defs _ _).mono (fun r h => ⟨fun c => (h c).2, sem_eq_zero_of_no_sems (by decide) r.2⟩) (Cert.OutRefIdeal.Value.run (F := Ideal) m ρ)

/-- The call's result is the reference's: both are the product added to the residual. -/
theorem algebraic : Cert.algebraic_OutIdeal_OutRefIdeal := by
  intro m ρ m' ρ' _ hagree
  refine ⟨fun c => added (res m c) (prodNN (lhs m c) (rhs m c)), ?_, ?_⟩
  · refine (θ_run Cert.OutIdeal.defs _ _).mono (fun r h c => ?_) (Cert.OutIdeal.Value.run_blocks (F := Ideal) m ρ)
    exact ⟨(h c).1.trans (arr m c), (h c).2⟩
  · refine (θ_run Cert.OutRefIdeal.defs _ _).mono (fun r h c => ?_) (Cert.OutRefIdeal.Value.run (F := Ideal) m' ρ')
    obtain ⟨a0, a1, a2⟩ := hagree c
    refine ⟨(h c).1.trans (Eq.trans ?_ (congrArg₂ added a2 (congrArg₂ prodNN a0 a1))), (h c).2⟩
    funext y
    idx_vars y
    pointwise [added, prodNN]

end Cert.Mlp.Out

end
-- ==== Proof.Br.lean ====
/- A mixer's forward product with its branch weight: what the call leaves, what the reference computes. -/
module

public import proofs.«01_k».proof.Proof.Products
public import proofs.«01_k».proof.Defs
public import Idealize.ShloMosaic.Lib.Pipeline.ValueKit
public import proofs.«01_k».proof.Proof.Gen.BrIdeal.Value
public import proofs.«01_k».proof.Proof.Gen.BrRefIdeal.Run
public import Idealize.ShloMosaic.Adequacy
public import Idealize.ShloMosaic.Init

@[expose] public section

noncomputable section

namespace Cert.Mlp.Br

open Idealize.ShloMosaic Idealize.SL.Sem Finset Cert.BrIdeal Cert.BrIdeal.Gen

variable (m : (ℓ : Loc nD τ sig) → Buf (Elt Ideal) ℓ) (c : Dev nD)

/-- Where a point's blocks lie. -/
theorem index : ∀ t : Fin cfg0.N, win0_0.index t 0 = t.val / 4 ∧ win0_0.index t 1 = 0 ∧ win0_1.index t 0 = 0 ∧ win0_1.index t 1 = t.val % 4 ∧
    win0_2.index t 0 = t.val / 4 ∧ win0_2.index t 1 = t.val % 4 := by
  decide +kernel

/-- The left factor. -/
abbrev lhs : Mat 2048 1024 := m (c, Proc.devRef .tc main_arg0)
/-- The right factor. -/
abbrev rhs : Mat 1024 2048 := m (c, Proc.devRef .tc main_arg1)

/-- The call leaves the product. -/
theorem arr : (dats m 0 c).arrAt 2 cfg0.N = prodNN (lhs m c) (rhs m c) := by
  refine (dats m 0 c).arrAt_eq_of_covers 2 _ (by decide +kernel) fun t hf y => ?_
  blk_simp
  rw [after0_2]
  suffices key : ∀ y : S1024x512.Idx, out0_2 (iblk m c 0 t) (iblk m c 1 t) y = prodNN (lhs m c) (rhs m c) ((win0_2.blk t).view.emb y) from key y
  intro y
  idx_vars y
  have ht : t.val < 8 := t.isLt
  frame_out
  pointwise [k0_pay1]
  obtain ⟨a0, a1, b0, b1, o0, o1⟩ := index t
  have e : (win0_2.blk t).view.emb (ix2 y0 y1) = ix2 ⟨1024 * (t.val / 4) + y0.val, by omega⟩ ⟨512 * (t.val % 4) + y1.val, by omega⟩ := by
    blk_ext [o0, o1]
  refine Eq.trans ?_ (congrArg _ e.symm)
  exact sum_congr (M := EReal) rfl fun k _ => congrArg₂ (· * ·) (congrArg (lhs m c) (by blk_ext [a0, a1])) (congrArg (rhs m c) (by blk_ext [b0, b1]))

/-- The reference's run leaves its arguments and every counter at zero: it has no semaphores. -/
theorem frame_ref : Cert.quiescent_BrRefIdeal := fun m ρ _ =>
  (θ_run Cert.BrRefIdeal.defs _ _).mono (fun r h => ⟨fun c => (h c).2, sem_eq_zero_of_no_sems (by decide) r.2⟩) (Cert.BrRefIdeal.Value.run (F := Ideal) m ρ)

/-- The call's result is the reference's: both are the product. -/
theorem algebraic : Cert.algebraic_BrIdeal_BrRefIdeal := by
  intro m ρ m' ρ' _ hagree
  refine ⟨fun c => prodNN (lhs m c) (rhs m c), ?_, ?_⟩
  · refine (θ_run Cert.BrIdeal.defs _ _).mono (fun r h c => ?_) (Cert.BrIdeal.Value.run_blocks (F := Ideal) m ρ)
    exact ⟨(h c).1.trans (arr m c), (h c).2⟩
  · refine (θ_run Cert.BrRefIdeal.defs _ _).mono (fun r h c => ?_) (Cert.BrRefIdeal.Value.run (F := Ideal) m' ρ')
    obtain ⟨a0, a1⟩ := hagree c
    refine ⟨(h c).1.trans (Eq.trans ?_ (congrArg₂ prodNN a0 a1)), (h c).2⟩
    funext y
    idx_vars y
    pointwise [prodNN]

end Cert.Mlp.Br

end
-- ==== Proof.Gates.lean ====
/- The gates of the three mixers, over the extended reals: a gate is the sigmoid of its logit. -/
module

public import proofs.«01_k».proof.Proof.Products

@[expose] public section

noncomputable section

namespace Cert.Gates

open Idealize.ShloMosaic Cert.Mlp

/-- The sigmoid. -/
def sgm (g : EReal) : EReal := Ideal.div 1 (1 + Ideal.exp (-g))

/-- The sigmoid as the kernel writes it. -/
theorem sgm_eq (g : EReal) : Ideal.div 1 (1 + Ideal.exp (0 - g)) = sgm g := by rw [zero_sub, sgm]

/-- Mixer `n`'s gates: the sigmoids of its columns of the projected activations. -/
def gate (z : Mat 2048 13312) (n : Fin 3) : Mat 2048 2048 := fun y => sgm (z (ix2 (y 0) ⟨7168 + 2048 * n.val + (y 1).val, by have := (y 1).isLt; have := n.isLt; simp only [Fin.isValue, Matrix.cons_val_one, Matrix.cons_val_zero] at *; omega⟩))

/-- The gradient of mixer `n`'s projection. -/
def dproj (z : Mat 2048 13312) (dm : Mat 2048 2048) (n : Fin 3) : Mat 2048 2048 := fun y => dm y * gate z n y

/-- The gradient of mixer `n`'s logits. -/
def dlogit (z : Mat 2048 13312) (p dm : Mat 2048 2048) (n : Fin 3) : Mat 2048 2048 := fun y => dm y * p y * gate z n y * (1 - gate z n y)

/-- The three gated projections, added. -/
def merged (z : Mat 2048 13312) (p0 p1 p2 : Mat 2048 2048) : Mat 2048 2048 := fun y => gate z 0 y * p0 y + gate z 1 y * p1 y + gate z 2 y * p2 y

end Cert.Gates

end
-- ==== Proof.Gate.lean ====
/- The gates: what the call leaves, what the reference computes. -/
module

public import proofs.«01_k».proof.Proof.Gates
public import proofs.«01_k».proof.Defs
public import Idealize.ShloMosaic.Lib.Pipeline.ValueKit
public import proofs.«01_k».proof.Proof.Gen.GateIdeal.Value
public import proofs.«01_k».proof.Proof.Gen.GateRefIdeal.Run
public import Idealize.ShloMosaic.Adequacy
public import Idealize.ShloMosaic.Init

@[expose] public section

noncomputable section

namespace Cert.Gates.Gate

open Idealize.ShloMosaic Idealize.SL.Sem Finset Cert.Mlp Cert.GateIdeal Cert.GateIdeal.Gen

variable (m : (ℓ : Loc nD τ sig) → Buf (Elt Ideal) ℓ) (c : Dev nD)

/-- Where a point's blocks lie. -/
theorem index : ∀ t : Fin cfg0.N, win0_0.index t 0 = t.val / 4 ∧ win0_0.index t 1 = 14 + t.val % 4 ∧ win0_1.index t 0 = t.val / 4 ∧ win0_1.index t 1 = 18 + t.val % 4 ∧ win0_2.index t 0 = t.val / 4 ∧ win0_2.index t 1 = 22 + t.val % 4 ∧ win0_3.index t 0 = t.val / 4 ∧ win0_3.index t 1 = t.val % 4 ∧ win0_4.index t 0 = t.val / 4 ∧ win0_4.index t 1 = t.val % 4 ∧ win0_5.index t 0 = t.val / 4 ∧ win0_5.index t 1 = t.val % 4 ∧ win0_6.index t 0 = t.val / 4 ∧ win0_6.index t 1 = t.val % 4 := by
  decide +kernel

/-- The projected activations. -/
abbrev z : Mat 2048 13312 := m (c, Proc.devRef .tc main_arg0)
/-- The first mixer's projection. -/
abbrev p0 : Mat 2048 2048 := m (c, Proc.devRef .tc main_arg1)
/-- The second mixer's projection. -/
abbrev p1 : Mat 2048 2048 := m (c, Proc.devRef .tc main_arg2)
/-- The third mixer's projection. -/
abbrev p2 : Mat 2048 2048 := m (c, Proc.devRef .tc main_arg3)
/-- There are 32 points. -/
theorem lt (t : Fin cfg0.N) : t.val < 32 := t.isLt

/-- The place in a whole array of a point's place `(r, s)`. -/
abbrev at' (t : Fin cfg0.N) (r : Fin 256) (s : Fin 512) : (⟨2, ![2048, 2048]⟩ : Shape).Idx :=
  ix2 ⟨256 * (t.val / 4) + r.val, by have := lt t; omega⟩ ⟨512 * (t.val % 4) + s.val, by omega⟩

/-- A point's block of mixer 0's logits gives that mixer's gates. -/
theorem gate0 (t : Fin cfg0.N) (r : Fin 256) (s : Fin 512) : Ideal.div 1 (1 + Ideal.exp (0 - iblk m c 0 t (ix2 r s))) = gate (z m c) 0 (at' t r s) := by
  have ht := lt t
  obtain ⟨a0, a1, b0, b1, c0, c1, -⟩ := index t
  exact (sgm_eq _).trans (congrArg (fun i => sgm (z m c i)) (by dsimp only [at']; blk_ext [a0, a1]))

/-- A point's block of mixer 1's logits gives that mixer's gates. -/
theorem gate1 (t : Fin cfg0.N) (r : Fin 256) (s : Fin 512) : Ideal.div 1 (1 + Ideal.exp (0 - iblk m c 1 t (ix2 r s))) = gate (z m c) 1 (at' t r s) := by
  have ht := lt t
  obtain ⟨a0, a1, b0, b1, c0, c1, -⟩ := index t
  exact (sgm_eq _).trans (congrArg (fun i => sgm (z m c i)) (by dsimp only [at']; blk_ext [b0, b1]))

/-- A point's block of mixer 2's logits gives that mixer's gates. -/
theorem gate2 (t : Fin cfg0.N) (r : Fin 256) (s : Fin 512) : Ideal.div 1 (1 + Ideal.exp (0 - iblk m c 2 t (ix2 r s))) = gate (z m c) 2 (at' t r s) := by
  have ht := lt t
  obtain ⟨a0, a1, b0, b1, c0, c1, -⟩ := index t
  exact (sgm_eq _).trans (congrArg (fun i => sgm (z m c i)) (by dsimp only [at']; blk_ext [c0, c1]))

/-- A point's block of the first projection. -/
theorem read3 (t : Fin cfg0.N) (r : Fin 256) (s : Fin 512) : iblk m c 3 t (ix2 r s) = p0 m c (at' t r s) := by
  have ht := lt t
  obtain ⟨-, -, -, -, -, -, o0, o1, q0, q1, r0, r1, -⟩ := index t
  exact congrArg (p0 m c) (by dsimp only [at']; blk_ext [o0, o1])

/-- A point's block of the second projection. -/
theorem read4 (t : Fin cfg0.N) (r : Fin 256) (s : Fin 512) : iblk m c 4 t (ix2 r s) = p1 m c (at' t r s) := by
  have ht := lt t
  obtain ⟨-, -, -, -, -, -, o0, o1, q0, q1, r0, r1, -⟩ := index t
  exact congrArg (p1 m c) (by dsimp only [at']; blk_ext [q0, q1])

/-- A point's block of the third projection. -/
theorem read5 (t : Fin cfg0.N) (r : Fin 256) (s : Fin 512) : iblk m c 5 t (ix2 r s) = p2 m c (at' t r s) := by
  have ht := lt t
  obtain ⟨-, -, -, -, -, -, o0, o1, q0, q1, r0, r1, -⟩ := index t
  exact congrArg (p2 m c) (by dsimp only [at']; blk_ext [r0, r1])

/-- The call leaves the gated projections, added. -/
theorem arr : (dats m 0 c).arrAt 6 cfg0.N = merged (z m c) (p0 m c) (p1 m c) (p2 m c) := by
  refine (dats m 0 c).arrAt_eq_of_covers 6 _ (by decide +kernel) fun t hf y => ?_
  blk_simp
  rw [after0_6]
  suffices key : ∀ y : S256x512.Idx, out0_6 (iblk m c 0 t) (iblk m c 1 t) (iblk m c 2 t) (iblk m c 3 t) (iblk m c 4 t) (iblk m c 5 t) y = merged (z m c) (p0 m c) (p1 m c) (p2 m c) ((win0_6.blk t).view.emb y) from key y
  intro y
  idx_vars y
  have ht := lt t
  frame_out
  pointwise [k0_pay1]
  obtain ⟨-, -, -, -, -, -, -, -, -, -, -, -, o0, o1⟩ := index t
  have e : (win0_6.blk t).view.emb (ix2 y0 y1) = at' t y0 y1 := by dsimp only [at']; blk_ext [o0, o1]
  refine Eq.trans ?_ (congrArg (merged (z m c) (p0 m c) (p1 m c) (p2 m c)) e.symm)
  have h0 := congrArg₂ (fun x y : EReal => x * y) (gate0 m c t y0 y1) (read3 m c t y0 y1)
  have h1 := congrArg₂ (fun x y : EReal => x * y) (gate1 m c t y0 y1) (read4 m c t y0 y1)
  have h2 := congrArg₂ (fun x y : EReal => x * y) (gate2 m c t y0 y1) (read5 m c t y0 y1)
  exact congrArg₂ (fun x y : EReal => x + y) (congrArg₂ (fun x y : EReal => x + y) h0 h1) h2

/-- The reference's run leaves its arguments and every counter at zero: it has no semaphores. -/
theorem frame_ref : Cert.quiescent_GateRefIdeal := fun m ρ _ =>
  (θ_run Cert.GateRefIdeal.defs _ _).mono (fun r h => ⟨fun c => (h c).2, sem_eq_zero_of_no_sems (by decide) r.2⟩) (Cert.GateRefIdeal.Value.run (F := Ideal) m ρ)

/-- The call's result is the reference's. -/
theorem algebraic : Cert.algebraic_GateIdeal_GateRefIdeal := by
  intro m ρ m' ρ' _ hagree
  refine ⟨fun c => merged (z m c) (p0 m c) (p1 m c) (p2 m c), ?_, ?_⟩
  · refine (θ_run Cert.GateIdeal.defs _ _).mono (fun r h c => ?_) (Cert.GateIdeal.Value.run_blocks (F := Ideal) m ρ)
    exact ⟨(h c).1.trans (arr m c), (h c).2⟩
  · refine (θ_run Cert.GateRefIdeal.defs _ _).mono (fun r h c => ?_) (Cert.GateRefIdeal.Value.run (F := Ideal) m' ρ')
    obtain ⟨a0, a1, a2, a3⟩ := hagree c
    refine ⟨(h c).1.trans (Eq.trans ?_ (congr (congr (congrArg₂ merged a0 a1) a2) a3)), (h c).2⟩
    clear h
    funext y
    idx_vars y
    pointwise [merged, gate]
    refine (Fin.sum_univ_three (M := EReal) _).trans ?_
    simp only [sgm, Fin.val_zero, Fin.val_one, Fin.val_two, ← Nat.add_assoc, Nat.reduceAdd, Nat.reduceMul, Nat.reduceLT, Nat.reduceSub, Nat.zero_mul, Nat.add_zero, dite_true, dite_false]

end Cert.Gates.Gate

end
-- ==== Proof.Dgate.lean ====
/- The gates' gradients: what the call leaves, what the reference computes. -/
module

public import proofs.«01_k».proof.Proof.Gates
public import proofs.«01_k».proof.Defs
public import Idealize.ShloMosaic.Lib.Pipeline.ValueKit
public import proofs.«01_k».proof.Proof.Gen.DgateIdeal.Value
public import proofs.«01_k».proof.Proof.Gen.DgateRefIdeal.Run
public import Idealize.ShloMosaic.Adequacy
public import Idealize.ShloMosaic.Init

@[expose] public section

noncomputable section

namespace Cert.Gates.Dgate

open Idealize.ShloMosaic Idealize.SL.Sem Finset Cert.Mlp Cert.DgateIdeal Cert.DgateIdeal.Gen

variable (m : (ℓ : Loc nD τ sig) → Buf (Elt Ideal) ℓ) (c : Dev nD)

/-- Where a point's blocks of the arguments lie. -/
theorem index : ∀ t : Fin cfg0.N, win0_0.index t 0 = t.val / 4 ∧ win0_0.index t 1 = 14 + t.val % 4 ∧ win0_1.index t 0 = t.val / 4 ∧ win0_1.index t 1 = 18 + t.val % 4 ∧ win0_2.index t 0 = t.val / 4 ∧ win0_2.index t 1 = 22 + t.val % 4 ∧ win0_3.index t 0 = t.val / 4 ∧ win0_3.index t 1 = t.val % 4 ∧ win0_4.index t 0 = t.val / 4 ∧ win0_4.index t 1 = t.val % 4 ∧ win0_5.index t 0 = t.val / 4 ∧ win0_5.index t 1 = t.val % 4 ∧ win0_6.index t 0 = t.val / 4 ∧ win0_6.index t 1 = t.val % 4 := by
  decide +kernel

/-- Where a point's blocks of the results lie. -/
theorem place : ∀ t : Fin cfg0.N, win0_7.index t 0 = t.val / 4 ∧ win0_7.index t 1 = t.val % 4 ∧ win0_8.index t 0 = t.val / 4 ∧ win0_8.index t 1 = t.val % 4 ∧ win0_9.index t 0 = t.val / 4 ∧ win0_9.index t 1 = t.val % 4 ∧ win0_10.index t 0 = t.val / 4 ∧ win0_10.index t 1 = t.val % 4 ∧ win0_11.index t 0 = t.val / 4 ∧ win0_11.index t 1 = t.val % 4 ∧ win0_12.index t 0 = t.val / 4 ∧ win0_12.index t 1 = t.val % 4 := by
  decide +kernel

/-- The projected activations. -/
abbrev z : Mat 2048 13312 := m (c, Proc.devRef .tc main_arg0)
/-- The first mixer's projection. -/
abbrev p0 : Mat 2048 2048 := m (c, Proc.devRef .tc main_arg1)
/-- The second mixer's projection. -/
abbrev p1 : Mat 2048 2048 := m (c, Proc.devRef .tc main_arg2)
/-- The third mixer's projection. -/
abbrev p2 : Mat 2048 2048 := m (c, Proc.devRef .tc main_arg3)
/-- The gradient. -/
abbrev dm : Mat 2048 2048 := m (c, Proc.devRef .tc main_arg4)

/-- There are 32 points. -/
theorem lt (t : Fin cfg0.N) : t.val < 32 := t.isLt

/-- The place in a whole array of a point's place `(r, s)`. -/
abbrev at' (t : Fin cfg0.N) (r : Fin 256) (s : Fin 512) : (⟨2, ![2048, 2048]⟩ : Shape).Idx :=
  ix2 ⟨256 * (t.val / 4) + r.val, by have := lt t; omega⟩ ⟨512 * (t.val % 4) + s.val, by omega⟩

/-- A point's block of mixer 0's logits gives that mixer's gates. -/
theorem gate0 (t : Fin cfg0.N) (r : Fin 256) (s : Fin 512) : Ideal.div 1 (1 + Ideal.exp (0 - iblk m c 0 t (ix2 r s))) = gate (z m c) 0 (at' t r s) := by
  have ht := lt t
  obtain ⟨a0, a1, b0, b1, c0, c1, -⟩ := index t
  exact (sgm_eq _).trans (congrArg (fun i => sgm (z m c i)) (by dsimp only [at']; blk_ext [a0, a1]))

/-- A point's block of mixer 1's logits gives that mixer's gates. -/
theorem gate1 (t : Fin cfg0.N) (r : Fin 256) (s : Fin 512) : Ideal.div 1 (1 + Ideal.exp (0 - iblk m c 1 t (ix2 r s))) = gate (z m c) 1 (at' t r s) := by
  have ht := lt t
  obtain ⟨a0, a1, b0, b1, c0, c1, -⟩ := index t
  exact (sgm_eq _).trans (congrArg (fun i => sgm (z m c i)) (by dsimp only [at']; blk_ext [b0, b1]))

/-- A point's block of mixer 2's logits gives that mixer's gates. -/
theorem gate2 (t : Fin cfg0.N) (r : Fin 256) (s : Fin 512) : Ideal.div 1 (1 + Ideal.exp (0 - iblk m c 2 t (ix2 r s))) = gate (z m c) 2 (at' t r s) := by
  have ht := lt t
  obtain ⟨a0, a1, b0, b1, c0, c1, -⟩ := index t
  exact (sgm_eq _).trans (congrArg (fun i => sgm (z m c i)) (by dsimp only [at']; blk_ext [c0, c1]))

/-- A point's block of the first projection. -/
theorem read3 (t : Fin cfg0.N) (r : Fin 256) (s : Fin 512) : iblk m c 3 t (ix2 r s) = p0 m c (at' t r s) := by
  have ht := lt t
  obtain ⟨-, -, -, -, -, -, o0, o1, q0, q1, r0, r1, d0, d1⟩ := index t
  exact congrArg (p0 m c) (by dsimp only [at']; blk_ext [o0, o1])

/-- A point's block of the second projection. -/
theorem read4 (t : Fin cfg0.N) (r : Fin 256) (s : Fin 512) : iblk m c 4 t (ix2 r s) = p1 m c (at' t r s) := by
  have ht := lt t
  obtain ⟨-, -, -, -, -, -, o0, o1, q0, q1, r0, r1, d0, d1⟩ := index t
  exact congrArg (p1 m c) (by dsimp only [at']; blk_ext [q0, q1])

/-- A point's block of the third projection. -/
theorem read5 (t : Fin cfg0.N) (r : Fin 256) (s : Fin 512) : iblk m c 5 t (ix2 r s) = p2 m c (at' t r s) := by
  have ht := lt t
  obtain ⟨-, -, -, -, -, -, o0, o1, q0, q1, r0, r1, d0, d1⟩ := index t
  exact congrArg (p2 m c) (by dsimp only [at']; blk_ext [r0, r1])

/-- A point's block of the gradient. -/
theorem read6 (t : Fin cfg0.N) (r : Fin 256) (s : Fin 512) : iblk m c 6 t (ix2 r s) = dm m c (at' t r s) := by
  have ht := lt t
  obtain ⟨-, -, -, -, -, -, o0, o1, q0, q1, r0, r1, d0, d1⟩ := index t
  exact congrArg (dm m c) (by dsimp only [at']; blk_ext [d0, d1])

/-- The call leaves the first mixer's projection's gradient. -/
theorem arr7 : (dats m 0 c).arrAt 7 cfg0.N = dproj (z m c) (dm m c) 0 := by
  refine (dats m 0 c).arrAt_eq_of_covers 7 _ (by decide +kernel) fun t hf y => ?_
  blk_simp
  rw [after0_7]
  suffices key : ∀ y : S256x512.Idx, out0_7 (iblk m c 0 t) (iblk m c 1 t) (iblk m c 2 t) (iblk m c 3 t) (iblk m c 4 t) (iblk m c 5 t) (iblk m c 6 t) y = dproj (z m c) (dm m c) 0 ((win0_7.blk t).view.emb y) from key y
  intro y
  idx_vars y
  have ht := lt t
  frame_out
  pointwise [k0_pay6, k0_pay5]
  obtain ⟨o0, o1, -⟩ := place t
  have e : (win0_7.blk t).view.emb (ix2 y0 y1) = at' t y0 y1 := by dsimp only [at']; blk_ext [o0, o1]
  refine Eq.trans ?_ (congrArg (dproj (z m c) (dm m c) 0) e.symm)
  exact congrArg₂ (fun x y : EReal => x * y) (read6 m c t y0 y1) (gate0 m c t y0 y1)

/-- The call leaves the second mixer's projection's gradient. -/
theorem arr8 : (dats m 0 c).arrAt 8 cfg0.N = dproj (z m c) (dm m c) 1 := by
  refine (dats m 0 c).arrAt_eq_of_covers 8 _ (by decide +kernel) fun t hf y => ?_
  blk_simp
  rw [after0_8]
  suffices key : ∀ y : S256x512.Idx, out0_8 (iblk m c 0 t) (iblk m c 1 t) (iblk m c 2 t) (iblk m c 3 t) (iblk m c 4 t) (iblk m c 5 t) (iblk m c 6 t) y = dproj (z m c) (dm m c) 1 ((win0_8.blk t).view.emb y) from key y
  intro y
  idx_vars y
  have ht := lt t
  frame_out
  pointwise [k0_pay9, k0_pay8]
  obtain ⟨-, -, o0, o1, -⟩ := place t
  have e : (win0_8.blk t).view.emb (ix2 y0 y1) = at' t y0 y1 := by dsimp only [at']; blk_ext [o0, o1]
  refine Eq.trans ?_ (congrArg (dproj (z m c) (dm m c) 1) e.symm)
  exact congrArg₂ (fun x y : EReal => x * y) (read6 m c t y0 y1) (gate1 m c t y0 y1)

/-- The call leaves the third mixer's projection's gradient. -/
theorem arr9 : (dats m 0 c).arrAt 9 cfg0.N = dproj (z m c) (dm m c) 2 := by
  refine (dats m 0 c).arrAt_eq_of_covers 9 _ (by decide +kernel) fun t hf y => ?_
  blk_simp
  rw [after0_9]
  suffices key : ∀ y : S256x512.Idx, out0_9 (iblk m c 0 t) (iblk m c 1 t) (iblk m c 2 t) (iblk m c 3 t) (iblk m c 4 t) (iblk m c 5 t) (iblk m c 6 t) y = dproj (z m c) (dm m c) 2 ((win0_9.blk t).view.emb y) from key y
  intro y
  idx_vars y
  have ht := lt t
  frame_out
  pointwise [k0_pay3, k0_pay2]
  obtain ⟨-, -, -, -, o0, o1, -⟩ := place t
  have e : (win0_9.blk t).view.emb (ix2 y0 y1) = at' t y0 y1 := by dsimp only [at']; blk_ext [o0, o1]
  refine Eq.trans ?_ (congrArg (dproj (z m c) (dm m c) 2) e.symm)
  exact congrArg₂ (fun x y : EReal => x * y) (read6 m c t y0 y1) (gate2 m c t y0 y1)

/-- The call leaves the first mixer's logits' gradient. -/
theorem arr10 : (dats m 0 c).arrAt 10 cfg0.N = dlogit (z m c) (p0 m c) (dm m c) 0 := by
  refine (dats m 0 c).arrAt_eq_of_covers 10 _ (by decide +kernel) fun t hf y => ?_
  blk_simp
  rw [after0_10]
  suffices key : ∀ y : S256x512.Idx, out0_10 (iblk m c 0 t) (iblk m c 1 t) (iblk m c 2 t) (iblk m c 3 t) (iblk m c 4 t) (iblk m c 5 t) (iblk m c 6 t) y = dlogit (z m c) (p0 m c) (dm m c) 0 ((win0_10.blk t).view.emb y) from key y
  intro y
  idx_vars y
  have ht := lt t
  frame_out
  pointwise [k0_pay7, k0_pay5]
  obtain ⟨-, -, -, -, -, -, o0, o1, -⟩ := place t
  have e : (win0_10.blk t).view.emb (ix2 y0 y1) = at' t y0 y1 := by dsimp only [at']; blk_ext [o0, o1]
  refine Eq.trans ?_ (congrArg (dlogit (z m c) (p0 m c) (dm m c) 0) e.symm)
  exact congrArg₂ (fun (x : EReal × EReal) (y : EReal) => x.1 * x.2 * y * (1 - y)) (congrArg₂ Prod.mk (read6 m c t y0 y1) (read3 m c t y0 y1)) (gate0 m c t y0 y1)

/-- The call leaves the second mixer's logits' gradient. -/
theorem arr11 : (dats m 0 c).arrAt 11 cfg0.N = dlogit (z m c) (p1 m c) (dm m c) 1 := by
  refine (dats m 0 c).arrAt_eq_of_covers 11 _ (by decide +kernel) fun t hf y => ?_
  blk_simp
  rw [after0_11]
  suffices key : ∀ y : S256x512.Idx, out0_11 (iblk m c 0 t) (iblk m c 1 t) (iblk m c 2 t) (iblk m c 3 t) (iblk m c 4 t) (iblk m c 5 t) (iblk m c 6 t) y = dlogit (z m c) (p1 m c) (dm m c) 1 ((win0_11.blk t).view.emb y) from key y
  intro y
  idx_vars y
  have ht := lt t
  frame_out
  pointwise [k0_pay1, k0_pay8]
  obtain ⟨-, -, -, -, -, -, -, -, o0, o1, -⟩ := place t
  have e : (win0_11.blk t).view.emb (ix2 y0 y1) = at' t y0 y1 := by dsimp only [at']; blk_ext [o0, o1]
  refine Eq.trans ?_ (congrArg (dlogit (z m c) (p1 m c) (dm m c) 1) e.symm)
  exact congrArg₂ (fun (x : EReal × EReal) (y : EReal) => x.1 * x.2 * y * (1 - y)) (congrArg₂ Prod.mk (read6 m c t y0 y1) (read4 m c t y0 y1)) (gate1 m c t y0 y1)

/-- The call leaves the third mixer's logits' gradient. -/
theorem arr12 : (dats m 0 c).arrAt 12 cfg0.N = dlogit (z m c) (p2 m c) (dm m c) 2 := by
  refine (dats m 0 c).arrAt_eq_of_covers 12 _ (by decide +kernel) fun t hf y => ?_
  blk_simp
  rw [after0_12]
  suffices key : ∀ y : S256x512.Idx, out0_12 (iblk m c 0 t) (iblk m c 1 t) (iblk m c 2 t) (iblk m c 3 t) (iblk m c 4 t) (iblk m c 5 t) (iblk m c 6 t) y = dlogit (z m c) (p2 m c) (dm m c) 2 ((win0_12.blk t).view.emb y) from key y
  intro y
  idx_vars y
  have ht := lt t
  frame_out
  pointwise [k0_pay4, k0_pay2]
  obtain ⟨-, -, -, -, -, -, -, -, -, -, o0, o1⟩ := place t
  have e : (win0_12.blk t).view.emb (ix2 y0 y1) = at' t y0 y1 := by dsimp only [at']; blk_ext [o0, o1]
  refine Eq.trans ?_ (congrArg (dlogit (z m c) (p2 m c) (dm m c) 2) e.symm)
  exact congrArg₂ (fun (x : EReal × EReal) (y : EReal) => x.1 * x.2 * y * (1 - y)) (congrArg₂ Prod.mk (read6 m c t y0 y1) (read5 m c t y0 y1)) (gate2 m c t y0 y1)

/-- The reference's run leaves its arguments and every counter at zero: it has no semaphores. -/
theorem frame_ref : Cert.quiescent_DgateRefIdeal := fun m ρ _ =>
  (θ_run Cert.DgateRefIdeal.defs _ _).mono (fun r h => ⟨fun c => (h c).2.2.2.2.2.2, sem_eq_zero_of_no_sems (by decide) r.2⟩) (Cert.DgateRefIdeal.Value.run (F := Ideal) m ρ)

/-- The call's results are the reference's. -/
theorem algebraic : Cert.algebraic_DgateIdeal_DgateRefIdeal := by
  intro m ρ m' ρ' _ hagree
  refine ⟨fun c => dproj (z m c) (dm m c) 0, fun c => dproj (z m c) (dm m c) 1, fun c => dproj (z m c) (dm m c) 2,
    fun c => dlogit (z m c) (p0 m c) (dm m c) 0, fun c => dlogit (z m c) (p1 m c) (dm m c) 1, fun c => dlogit (z m c) (p2 m c) (dm m c) 2, ?_, ?_⟩
  · refine (θ_run Cert.DgateIdeal.defs _ _).mono (fun r h c => ?_) (Cert.DgateIdeal.Value.run_blocks (F := Ideal) m ρ)
    obtain ⟨h0, h1, h2, h3, h4, h5, ha⟩ := h c
    exact ⟨h0.trans (arr7 m c), h1.trans (arr8 m c), h2.trans (arr9 m c), h3.trans (arr10 m c), h4.trans (arr11 m c), h5.trans (arr12 m c), ha⟩
  · refine (θ_run Cert.DgateRefIdeal.defs _ _).mono (fun r h c => ?_) (Cert.DgateRefIdeal.Value.run (F := Ideal) m' ρ')
    obtain ⟨h0, h1, h2, h3, h4, h5, ha⟩ := h c
    obtain ⟨a0, a1, a2, a3, a4⟩ := hagree c
    refine ⟨h0.trans (Eq.trans ?_ (congrArg₂ (dproj · · 0) a0 a4)), h1.trans (Eq.trans ?_ (congrArg₂ (dproj · · 1) a0 a4)),
      h2.trans (Eq.trans ?_ (congrArg₂ (dproj · · 2) a0 a4)),
      h3.trans (Eq.trans ?_ (congrArg₂ (fun a (b : Mat 2048 2048 × Mat 2048 2048) => dlogit a b.1 b.2 0) a0 (congrArg₂ Prod.mk a1 a4))),
      h4.trans (Eq.trans ?_ (congrArg₂ (fun a (b : Mat 2048 2048 × Mat 2048 2048) => dlogit a b.1 b.2 1) a0 (congrArg₂ Prod.mk a2 a4))),
      h5.trans (Eq.trans ?_ (congrArg₂ (fun a (b : Mat 2048 2048 × Mat 2048 2048) => dlogit a b.1 b.2 2) a0 (congrArg₂ Prod.mk a3 a4))), ha⟩ <;> clear h0 h1 h2 h3 h4 h5 ha a0 a1 a2 a3 a4
    · funext y
      idx_vars y
      pointwise [dproj, gate]
      simp only [sgm, ← Nat.add_assoc, Nat.reduceAdd]
      exact mul_comm (G := EReal) _ _
    · funext y
      idx_vars y
      pointwise [dproj, gate]
      simp only [sgm, ← Nat.add_assoc, Nat.reduceAdd]
      exact mul_comm (G := EReal) _ _
    · funext y
      idx_vars y
      pointwise [dproj, gate]
      simp only [sgm, ← Nat.add_assoc, Nat.reduceAdd]
      exact mul_comm (G := EReal) _ _
    · funext y
      idx_vars y
      pointwise [dlogit, gate]
      have e : y1.val / 2048 = 0 := by omega
      simp only [e, sgm, ← Nat.add_assoc, Nat.reduceAdd, Nat.reduceLT, Nat.reduceSub, Nat.mod_eq_of_lt y1.isLt, dite_true, dite_false]
      exact (mul_assoc (G := EReal) _ _ _).symm
    · funext y
      idx_vars y
      pointwise [dlogit, gate]
      have e : (2048 + y1.val) / 2048 = 1 := by omega
      simp only [e, sgm, ← Nat.add_assoc, Nat.reduceAdd, Nat.reduceLT, Nat.reduceSub, Nat.mod_eq_of_lt y1.isLt, dite_true, dite_false]
      exact (mul_assoc (G := EReal) _ _ _).symm
    · funext y
      idx_vars y
      pointwise [dlogit, gate]
      have e : (4096 + y1.val) / 2048 = 2 := by omega
      simp only [e, sgm, ← Nat.add_assoc, Nat.reduceAdd, Nat.reduceLT, Nat.reduceSub, Nat.mod_eq_of_lt y1.isLt, dite_true, dite_false]
      exact (mul_assoc (G := EReal) _ _ _).symm

end Cert.Gates.Dgate

end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Ref
public import proofs.«01_k».proof.Proof.Gen.Latent
public import proofs.«01_k».proof.Proof.Gen.Latent.Frame
public import proofs.«01_k».proof.Proof.Gen.LatentIdeal.Frame
public import proofs.«01_k».proof.Proof.Latent
public import proofs.«01_k».proof.Proof.Gen.Dwin
public import proofs.«01_k».proof.Proof.Gen.Dwin.Frame
public import proofs.«01_k».proof.Proof.Dwin
public import proofs.«01_k».proof.Proof.Gen.Dh
public import proofs.«01_k».proof.Proof.Gen.Dh.Frame
public import proofs.«01_k».proof.Proof.Dh
public import proofs.«01_k».proof.Proof.Gen.Dw2
public import proofs.«01_k».proof.Proof.Gen.Dw2.Frame
public import proofs.«01_k».proof.Proof.Dw2
public import proofs.«01_k».proof.Proof.Gen.Du
public import proofs.«01_k».proof.Proof.Gen.Du.Frame
public import proofs.«01_k».proof.Proof.Du
public import proofs.«01_k».proof.Proof.Gen.Dw1
public import proofs.«01_k».proof.Proof.Gen.Dw1.Frame
public import proofs.«01_k».proof.Proof.Dw1
public import proofs.«01_k».proof.Proof.Gen.Dhm
public import proofs.«01_k».proof.Proof.Gen.Dhm.Frame
public import proofs.«01_k».proof.Proof.Dhm
public import proofs.«01_k».proof.Proof.Gen.Dwout
public import proofs.«01_k».proof.Proof.Gen.Dwout.Frame
public import proofs.«01_k».proof.Proof.Dwout
public import proofs.«01_k».proof.Proof.Gen.Dmerged
public import proofs.«01_k».proof.Proof.Gen.Dmerged.Frame
public import proofs.«01_k».proof.Proof.Dmerged
public import proofs.«01_k».proof.Proof.Gen.Dwbr
public import proofs.«01_k».proof.Proof.Gen.Dwbr.Frame
public import proofs.«01_k».proof.Proof.Dwbr
public import proofs.«01_k».proof.Proof.Gen.Dys
public import proofs.«01_k».proof.Proof.Gen.Dys.Frame
public import proofs.«01_k».proof.Proof.Dys
public import proofs.«01_k».proof.Proof.Gen.In
public import proofs.«01_k».proof.Proof.Gen.In.Frame
public import proofs.«01_k».proof.Proof.In
public import proofs.«01_k».proof.Proof.Gen.Up
public import proofs.«01_k».proof.Proof.Gen.Up.Frame
public import proofs.«01_k».proof.Proof.Up
public import proofs.«01_k».proof.Proof.Gen.Down
public import proofs.«01_k».proof.Proof.Gen.Down.Frame
public import proofs.«01_k».proof.Proof.Down
public import proofs.«01_k».proof.Proof.Gen.Out
public import proofs.«01_k».proof.Proof.Gen.Out.Frame
public import proofs.«01_k».proof.Proof.Out
public import proofs.«01_k».proof.Proof.Gen.Br
public import proofs.«01_k».proof.Proof.Gen.Br.Frame
public import proofs.«01_k».proof.Proof.Br
public import proofs.«01_k».proof.Proof.Gen.Gate
public import proofs.«01_k».proof.Proof.Gen.Gate.Frame
public import proofs.«01_k».proof.Proof.Gate
public import proofs.«01_k».proof.Proof.Gen.Dgate
public import proofs.«01_k».proof.Proof.Gen.Dgate.Frame
public import proofs.«01_k».proof.Proof.Dgate
public import Idealize.ShloMosaic.Adequacy
public import Idealize.ShloMosaic.Init

@[expose] public section

noncomputable section

namespace Cert.Proof

open Idealize.ShloMosaic Idealize.SL.Sem

/-- The reference's run leaves its arguments and every counter at zero: it has no semaphores. -/
theorem frame_ref : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- On finite arguments the kernel's five results are the reference's: each is the gradient of the real data. -/
theorem algebraic : Cert.algebraic_KernelIdeal_ReferenceIdeal_pre_finite := by
  intro m ρ m' ρ' hpre hagree
  have f : ∀ c, Cert.Fox.Fin0 m c := fun c => Cert.Fox.finite_of_pre _ _ _ _ _ (hpre c)
  refine ⟨fun c => Cert.Fox.outQ (Cert.Fox.dat m c), fun c => Cert.Fox.outK (Cert.Fox.dat m c), fun c => Cert.Fox.outV (Cert.Fox.dat m c),
    fun c => Cert.Fox.outCQ (Cert.Fox.dat m c), fun c => Cert.Fox.outCK (Cert.Fox.dat m c), ?_, ?_⟩
  · refine (θ_run Cert.KernelIdeal.defs _ _).mono (fun r h c => ?_) (Cert.KernelIdeal.Value.run_blocks (F := Ideal) m ρ)
    obtain ⟨h0, h1, h2, h3, h4, ha⟩ := h c
    exact ⟨h0.trans (Cert.Fox.arr8 m c (f c)), h1.trans (Cert.Fox.arr9 m c (f c)), h2.trans (Cert.Fox.arr10 m c (f c)),
      h3.trans (Cert.Fox.arr11 m c (f c)), h4.trans (Cert.Fox.arr12 m c (f c)), ha⟩
  · refine (θ_run Cert.ReferenceIdeal.defs _ _).mono (fun r h c => ?_) (Cert.ReferenceIdeal.Value.run (F := Ideal) m' ρ')
    obtain ⟨h0, h1, h2, h3, h4, ha⟩ := h c
    obtain ⟨t0, t1, t2, t3, t4⟩ := Cert.Fox.res_terms m' c
    obtain ⟨a0, a1, a2, a3, a4⟩ := hagree c
    have a0' : m' (c, Proc.devRef .tc Cert.ReferenceIdeal.main_arg0) = m (c, Proc.devRef .tc Cert.KernelIdeal.main_arg0) := a0
    have a1' : m' (c, Proc.devRef .tc Cert.ReferenceIdeal.main_arg1) = m (c, Proc.devRef .tc Cert.KernelIdeal.main_arg1) := a1
    have a2' : m' (c, Proc.devRef .tc Cert.ReferenceIdeal.main_arg2) = m (c, Proc.devRef .tc Cert.KernelIdeal.main_arg2) := a2
    have a3' : m' (c, Proc.devRef .tc Cert.ReferenceIdeal.main_arg3) = m (c, Proc.devRef .tc Cert.KernelIdeal.main_arg3) := a3
    have a4' : m' (c, Proc.devRef .tc Cert.ReferenceIdeal.main_arg4) = m (c, Proc.devRef .tc Cert.KernelIdeal.main_arg4) := a4
    rw [a0', a1', a2', a3', a4'] at t0
    rw [a0', a1', a2', a3', a4'] at t1
    rw [a0', a1', a3', a4'] at t2
    rw [a0', a1', a2', a3', a4'] at t3
    rw [a0', a1', a2', a3', a4'] at t4
    exact ⟨h0.trans (t0.trans (Cert.Fox.rQ_eq (f c))), h1.trans (t1.trans (Cert.Fox.rK_eq (f c))), h2.trans (t2.trans (Cert.Fox.rV_eq _ (Cert.Fox.rScore_eq (f c)) _ fun i d => Cert.Fox.rd2_eq _ i d ((f c).g _))),
      h3.trans (t3.trans (Cert.Fox.rCQ_eq (f c))), h4.trans (t4.trans (Cert.Fox.rCK_eq (f c))), ha⟩

/-- Everything the certificate claims. -/
theorem claim : Cert.Claim :=
  ⟨Cert.Kernel.Gen.facts, Cert.KernelIdeal.Gen.facts, Cert.ReferenceIdeal.Gen.facts,
    Cert.Latent.Gen.facts, Cert.LatentIdeal.Gen.facts, Cert.LatentRefIdeal.Gen.facts,
    Cert.Dwin.Gen.facts, Cert.DwinIdeal.Gen.facts, Cert.DwinRefIdeal.Gen.facts,
    Cert.Dh.Gen.facts, Cert.DhIdeal.Gen.facts, Cert.DhRefIdeal.Gen.facts,
    Cert.Dw2.Gen.facts, Cert.Dw2Ideal.Gen.facts, Cert.Dw2RefIdeal.Gen.facts,
    Cert.Du.Gen.facts, Cert.DuIdeal.Gen.facts, Cert.DuRefIdeal.Gen.facts,
    Cert.Dw1.Gen.facts, Cert.Dw1Ideal.Gen.facts, Cert.Dw1RefIdeal.Gen.facts,
    Cert.Dhm.Gen.facts, Cert.DhmIdeal.Gen.facts, Cert.DhmRefIdeal.Gen.facts,
    Cert.Dwout.Gen.facts, Cert.DwoutIdeal.Gen.facts, Cert.DwoutRefIdeal.Gen.facts,
    Cert.Dmerged.Gen.facts, Cert.DmergedIdeal.Gen.facts, Cert.DmergedRefIdeal.Gen.facts,
    Cert.Dwbr.Gen.facts, Cert.DwbrIdeal.Gen.facts, Cert.DwbrRefIdeal.Gen.facts,
    Cert.Dys.Gen.facts, Cert.DysIdeal.Gen.facts, Cert.DysRefIdeal.Gen.facts,
    Cert.In.Gen.facts, Cert.InIdeal.Gen.facts, Cert.InRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.Br.Gen.facts, Cert.BrIdeal.Gen.facts, Cert.BrRefIdeal.Gen.facts,
    Cert.Gate.Gen.facts, Cert.GateIdeal.Gen.facts, Cert.GateRefIdeal.Gen.facts,
    Cert.Dgate.Gen.facts, Cert.DgateIdeal.Gen.facts, Cert.DgateRefIdeal.Gen.facts,
    Cert.Fox.preFacts, Cert.Mla.preFacts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    fun m ρ _ => Cert.Latent.Gen.frame m ρ, fun m ρ _ => Cert.LatentIdeal.Gen.frame m ρ, fun m ρ _ => Cert.LatentIdeal.Gen.frame m ρ,
    Cert.Mla.frame_ref, fun m ρ _ => Cert.Mla.frame_ref m ρ trivial,
    fun m ρ _ => Cert.Dwin.Gen.frame m ρ, fun m ρ _ => Cert.DwinIdeal.Gen.frame m ρ, Cert.Mlp.Dwin.frame_ref,
    fun m ρ _ => Cert.Dh.Gen.frame m ρ, fun m ρ _ => Cert.DhIdeal.Gen.frame m ρ, Cert.Mlp.Dh.frame_ref,
    fun m ρ _ => Cert.Dw2.Gen.frame m ρ, fun m ρ _ => Cert.Dw2Ideal.Gen.frame m ρ, Cert.Mlp.Dw2.frame_ref,
    fun m ρ _ => Cert.Du.Gen.frame m ρ, fun m ρ _ => Cert.DuIdeal.Gen.frame m ρ, Cert.Mlp.Du.frame_ref,
    fun m ρ _ => Cert.Dw1.Gen.frame m ρ, fun m ρ _ => Cert.Dw1Ideal.Gen.frame m ρ, Cert.Mlp.Dw1.frame_ref,
    fun m ρ _ => Cert.Dhm.Gen.frame m ρ, fun m ρ _ => Cert.DhmIdeal.Gen.frame m ρ, Cert.Mlp.Dhm.frame_ref,
    fun m ρ _ => Cert.Dwout.Gen.frame m ρ, fun m ρ _ => Cert.DwoutIdeal.Gen.frame m ρ, Cert.Mlp.Dwout.frame_ref,
    fun m ρ _ => Cert.Dmerged.Gen.frame m ρ, fun m ρ _ => Cert.DmergedIdeal.Gen.frame m ρ, Cert.Mlp.Dmerged.frame_ref,
    fun m ρ _ => Cert.Dwbr.Gen.frame m ρ, fun m ρ _ => Cert.DwbrIdeal.Gen.frame m ρ, Cert.Mlp.Dwbr.frame_ref,
    fun m ρ _ => Cert.Dys.Gen.frame m ρ, fun m ρ _ => Cert.DysIdeal.Gen.frame m ρ, Cert.Mlp.Dys.frame_ref,
    fun m ρ _ => Cert.In.Gen.frame m ρ, fun m ρ _ => Cert.InIdeal.Gen.frame m ρ, Cert.Mlp.In.frame_ref,
    fun m ρ _ => Cert.Up.Gen.frame m ρ, fun m ρ _ => Cert.UpIdeal.Gen.frame m ρ, Cert.Mlp.Up.frame_ref,
    fun m ρ _ => Cert.Down.Gen.frame m ρ, fun m ρ _ => Cert.DownIdeal.Gen.frame m ρ, Cert.Mlp.Down.frame_ref,
    fun m ρ _ => Cert.Out.Gen.frame m ρ, fun m ρ _ => Cert.OutIdeal.Gen.frame m ρ, Cert.Mlp.Out.frame_ref,
    fun m ρ _ => Cert.Br.Gen.frame m ρ, fun m ρ _ => Cert.BrIdeal.Gen.frame m ρ, Cert.Mlp.Br.frame_ref,
    fun m ρ _ => Cert.Gate.Gen.frame m ρ, fun m ρ _ => Cert.GateIdeal.Gen.frame m ρ, Cert.Gates.Gate.frame_ref,
    fun m ρ _ => Cert.Dgate.Gen.frame m ρ, fun m ρ _ => Cert.DgateIdeal.Gen.frame m ρ, Cert.Gates.Dgate.frame_ref,
    IdealRules.named_const.statement Cert.KernelIdeal.κ "mask" .f32 0xF149F2CA#32 ⊥ rfl, algebraic,
    IdealRules.named_const.statement Cert.LatentIdeal.κ "mask" .f32 0xF149F2CA#32 ⊥ rfl, Cert.Mla.algebraic,
    trivial, Cert.Mlp.Dwin.algebraic,
    trivial, Cert.Mlp.Dh.algebraic,
    trivial, Cert.Mlp.Dw2.algebraic,
    trivial, Cert.Mlp.Du.algebraic,
    trivial, Cert.Mlp.Dw1.algebraic,
    trivial, Cert.Mlp.Dhm.algebraic,
    trivial, Cert.Mlp.Dwout.algebraic,
    trivial, Cert.Mlp.Dmerged.algebraic,
    trivial, Cert.Mlp.Dwbr.algebraic,
    trivial, Cert.Mlp.Dys.algebraic,
    trivial, Cert.Mlp.In.algebraic,
    trivial, Cert.Mlp.Up.algebraic,
    trivial, Cert.Mlp.Down.algebraic,
    trivial, Cert.Mlp.Out.algebraic,
    trivial, Cert.Mlp.Br.algebraic,
    trivial, Cert.Gates.Gate.algebraic,
    trivial, Cert.Gates.Dgate.algebraic⟩

end Cert.Proof

end
